-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![2048, 16384]⟩ ⟨2, ![2048, 32768]⟩ (Layout.meshBlock [2, 2, 4] ![[], [1]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v9) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1024x2048 : Shape := ⟨2, ![1024, 2048]⟩
abbrev S2048x16384 : Shape := ⟨2, ![2048, 16384]⟩
abbrev S_ : Shape := ⟨0, ![]⟩

class Facts : Prop where
  bcast_S_S1024x2048 : S_.BroadcastsInDim S1024x2048 (![] : Fin 0 → Fin S1024x2048.rank)
  bcast_S_S2048x16384 : S_.BroadcastsInDim S2048x16384 (![] : Fin 0 → Fin S2048x16384.rank)

variable [Facts]

def fn {F : FTy → Type} [FloatOps F] (main_arg0 : FVec F S1024x2048 .f32) (main_arg1 : FVec F S2048x16384 .f32) : IVec S1024x2048 1 × IVec S2048x16384 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x16384 .f32 := Host.absf main_arg1
  let main_cst_0 : FVec F S_ .f32 := constant S_ .f32 0x7F800000#32
  let main_v4 : FVec F S2048x16384 .f32 := broadcastInDim S2048x16384 ![] bcast_S_S2048x16384 main_cst_0
  let main_v5 : IVec S2048x16384 1 := cmpf .olt main_v3 main_v4
  (main_v2, main_v5)
-- ==== Pre_finite_ReferenceIdeal.lean ====
abbrev S1024x2048 : Shape := ⟨2, ![1024, 2048]⟩
abbrev S2048x32768 : Shape := ⟨2, ![2048, 32768]⟩
abbrev S_ : Shape := ⟨0, ![]⟩

class Facts : Prop where
  bcast_S_S1024x2048 : S_.BroadcastsInDim S1024x2048 (![] : Fin 0 → Fin S1024x2048.rank)
  bcast_S_S2048x32768 : S_.BroadcastsInDim S2048x32768 (![] : Fin 0 → Fin S2048x32768.rank)

variable [Facts]

def fn {F : FTy → Type} [FloatOps F] (main_arg0 : FVec F S1024x2048 .f32) (main_arg1 : FVec F S2048x32768 .f32) : IVec S1024x2048 1 × IVec S2048x32768 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_v3 : FVec F S2048x32768 .f32 := Host.absf main_arg1
  let main_cst_0 : FVec F S_ .f32 := constant S_ .f32 0x7F800000#32
  let main_v4 : FVec F S2048x32768 .f32 := broadcastInDim S2048x32768 ![] bcast_S_S2048x32768 main_cst_0
  let main_v5 : IVec S2048x32768 1 := cmpf .olt main_v3 main_v4
  (main_v2, main_v5)
-- ==== Kernel.lean ====
abbrev S1024x2048 : Shape := ⟨2, ![1024, 2048]⟩
abbrev S2048x16384 : Shape := ⟨2, ![2048, 16384]⟩
abbrev S1024x32768 : Shape := ⟨2, ![1024, 32768]⟩
abbrev S2x2048x512 : Shape := ⟨3, ![2, 2048, 512]⟩
abbrev S2x1024x512 : Shape := ⟨3, ![2, 1024, 512]⟩
abbrev S4x1024x512 : Shape := ⟨3, ![4, 1024, 512]⟩
abbrev S1024x1 : Shape := ⟨2, ![1024, 1]⟩
abbrev S2 : Shape := ⟨1, ![2]⟩
abbrev S4 : Shape := ⟨1, ![4]⟩
abbrev S_ : Shape := ⟨0, ![]⟩
abbrev S1 : Shape := ⟨1, ![1]⟩
abbrev S1x2048x512 : Shape := ⟨3, ![1, 2048, 512]⟩
abbrev S2048x512 : Shape := ⟨2, ![2048, 512]⟩
abbrev S1024x512 : Shape := ⟨2, ![1024, 512]⟩
abbrev S1x1024x512 : Shape := ⟨3, ![1, 1024, 512]⟩
abbrev S1024 : Shape := ⟨1, ![1024]⟩

abbrev nBuf : Space → Nat
  | .hbm => 3
  | .vmem => 8
  | .smem => 0
  | _ => 0

abbrev bufTy : (tb : Table) → Fin (tcTables nBuf tb) → BufTy
  | .hbm, ⟨0, _⟩ => ⟨S1024x2048, .f32⟩
  | .hbm, ⟨1, _⟩ => ⟨S2048x16384, .f32⟩
  | .hbm, ⟨2, _⟩ => ⟨S1024x32768, .f32⟩
  | .local _ .vmem, ⟨0, _⟩ => ⟨S1024x2048, .f32⟩
  | .local _ .vmem, ⟨1, _⟩ => ⟨S2x2048x512, .f32⟩
  | .local _ .vmem, ⟨2, _⟩ => ⟨S2x1024x512, .f32⟩
  | .local _ .vmem, ⟨3, _⟩ => ⟨S4x1024x512, .f32⟩
  | .local _ .vmem, ⟨4, _⟩ => ⟨S4x1024x512, .f32⟩
  | .local _ .vmem, ⟨5, _⟩ => ⟨S1024x1, .f32⟩
  | .local _ .vmem, ⟨6, _⟩ => ⟨S1024x1, .f32⟩
  | .local _ .vmem, ⟨7, _⟩ => ⟨S1024x1, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 3 → Bool
  | ⟨0, _⟩ => true
  | ⟨1, _⟩ => true
  | ⟨2, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 3 39 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_9 : BitVec 32 := 8#32
  let v18 : BitVec 32 := Scalar.muli v2 c8_i32_9
  let v19 : BitVec 32 := Scalar.addi c0_i32 v18
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_10 : BitVec 32 := 4#32
  let v20 : BitVec 32 := Scalar.muli v9 c4_i32_10
  let v21 : BitVec 32 := Scalar.addi v19 v20
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_11 : BitVec 32 := 1#32
  let v22 : BitVec 32 := Scalar.muli v8 c1_i32_11
  let v23 : BitVec 32 := Scalar.addi v21 v22
  v23.toNat
def k0_dev2 (d0 : Dev nD) : Nat :=
  let c0_i32_14 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_13 : BitVec 32 := 8#32
  let v24 : BitVec 32 := Scalar.muli v10 c8_i32_13
  let v25 : BitVec 32 := Scalar.addi c0_i32_14 v24
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_15 : BitVec 32 := 4#32
  let v26 : BitVec 32 := Scalar.muli v5 c4_i32_15
  let v27 : BitVec 32 := Scalar.addi v25 v26
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v28 : BitVec 32 := Scalar.muli v8 c1_i32_16
  let v29 : BitVec 32 := Scalar.addi v27 v28
  v29.toNat
def k0_off1 (d0 : Dev nD) : Fin 2 → Nat :=
  let c0_i32_25 : BitVec 32 := 0#32
  let c0_i32_20 : BitVec 32 := 0#32
  let c16_i32_19 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v34 : BitVec 32 := Scalar.muli c16_i32_19 v2
  let v35 : BitVec 32 := Scalar.addi c0_i32_20 v34
  let c32_i32 : BitVec 32 := 32#32
  let v36 : BitVec 32 := Scalar.remsi v35 c32_i32
  let c512_i32 : BitVec 32 := 512#32
  let v37 : BitVec 32 := Scalar.muli v36 c512_i32
  ![0, v37.toNat]
@[reducible] def k0_t1_loop : Scf.Loop 32 :=
  let c0_i32_26 : BitVec 32 := 0#32
  let c4_i32_27 : BitVec 32 := 4#32
  let v43 : BitVec 32 := Scalar.addi c0_i32_26 c4_i32_27
  let c1_i32_28 : BitVec 32 := 1#32
  ⟨c0_i32_26, v43, c1_i32_28⟩
def k0_off2 (d0 : Dev nD) (k0_t1 : Fin k0_t1_loop.trips) (c0_i32_279 : BitVec 32) : Fin 2 → Nat :=
  let c0_i32_290 : BitVec 32 := 0#32
  let c8_i32_278 : BitVec 32 := 8#32
  let c0_i32_26 : BitVec 32 := 0#32
  let c1_i32_28 : BitVec 32 := 1#32
  let arg24 : BitVec 32 := Scf.iv c0_i32_26 c1_i32_28 k0_t1
  let v296 : BitVec 32 := Scalar.muli c8_i32_278 arg24
  let v297 : BitVec 32 := Scalar.addi v296 c0_i32_279
  let c1_i32_282 : BitVec 32 := 1#32
  let v301 : BitVec 32 := Scalar.addi v297 c1_i32_282
  let c16_i32_283 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v302 : BitVec 32 := Scalar.muli c16_i32_283 v2
  let v303 : BitVec 32 := Scalar.addi v301 v302
  let c32_i32_284 : BitVec 32 := 32#32
  let v304 : BitVec 32 := Scalar.remsi v303 c32_i32_284
  let c512_i32_285 : BitVec 32 := 512#32
  let v305 : BitVec 32 := Scalar.muli v304 c512_i32_285
  ![0, v305.toNat]
def k0_off3 (d0 : Dev nD) (k0_t1 : Fin k0_t1_loop.trips) (c0_i32_279 : BitVec 32) : Fin 2 → Nat :=
  let c0_i32_296 : BitVec 32 := 0#32
  let c8_i32_278 : BitVec 32 := 8#32
  let c0_i32_26 : BitVec 32 := 0#32
  let c1_i32_28 : BitVec 32 := 1#32
  let arg24 : BitVec 32 := Scf.iv c0_i32_26 c1_i32_28 k0_t1
  let v296 : BitVec 32 := Scalar.muli c8_i32_278 arg24
  let v297 : BitVec 32 := Scalar.addi v296 c0_i32_279
  let c16_i32_280 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v298 : BitVec 32 := Scalar.muli c16_i32_280 v2
  let v299 : BitVec 32 := Scalar.addi v297 v298
  let c32_i32_281 : BitVec 32 := 32#32
  let v300 : BitVec 32 := Scalar.remsi v299 c32_i32_281
  let c512_i32_291 : BitVec 32 := 512#32
  let v311 : BitVec 32 := Scalar.muli v300 c512_i32_291
  ![0, v311.toNat]
def k0_off4 (d0 : Dev nD) (k0_t1 : Fin k0_t1_loop.trips) (c0_i32_279 : BitVec 32) : Fin 2 → Nat :=
  let c0_i32_314 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c8_i32_278 : BitVec 32 := 8#32
  let c0_i32_26 : BitVec 32 := 0#32
  let c1_i32_28 : BitVec 32 := 1#32
  let arg24 : BitVec 32 := Scf.iv c0_i32_26 c1_i32_28 k0_t1
  let v296 : BitVec 32 := Scalar.muli c8_i32_278 arg24
  let v297 : BitVec 32 := Scalar.addi v296 c0_i32_279
  let c16_i32_280 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v298 : BitVec 32 := Scalar.muli c16_i32_280 v2
  let v299 : BitVec 32 := Scalar.addi v297 v298
  let c32_i32_281 : BitVec 32 := 32#32
  let v300 : BitVec 32 := Scalar.remsi v299 c32_i32_281
  let c512_i32_311 : BitVec 32 := 512#32
  let v333 : BitVec 32 := Scalar.muli v300 c512_i32_311
  let v334 : BitVec 32 := Scalar.addi v11 v333
  ![0, v334.toNat]
def k0_cond1 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_317 : BitVec 32 := 1#32
  let v340 : BitVec 1 := Scalar.cmpi .sge arg24 c1_i32_317
  let v341 : BitVec 32 := Scalar.extui v340
  let c0_i32_318 : BitVec 32 := 0#32
  let v342 : BitVec 1 := Scalar.cmpi .ne v341 c0_i32_318
  v342

def k0_off5 (d0 : Dev nD) (k0_t1 : Fin k0_t1_loop.trips) : Fin 2 → Nat :=
  let c0_i32_862 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c8_i32_278 : BitVec 32 := 8#32
  let c0_i32_26 : BitVec 32 := 0#32
  let c1_i32_28 : BitVec 32 := 1#32
  let arg24 : BitVec 32 := Scf.iv c0_i32_26 c1_i32_28 k0_t1
  let v296 : BitVec 32 := Scalar.muli c8_i32_278 arg24
  let c0_i32_279 : BitVec 32 := 0#32
  let v297 : BitVec 32 := Scalar.addi v296 c0_i32_279
  let c1_i32_856 : BitVec 32 := 1#32
  let v992 : BitVec 32 := Scalar.subi v297 c1_i32_856
  let c16_i32_857 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v993 : BitVec 32 := Scalar.muli c16_i32_857 v2
  let v994 : BitVec 32 := Scalar.addi v992 v993
  let c32_i32_858 : BitVec 32 := 32#32
  let v995 : BitVec 32 := Scalar.remsi v994 c32_i32_858
  let c512_i32_859 : BitVec 32 := 512#32
  let v996 : BitVec 32 := Scalar.muli v995 c512_i32_859
  let v997 : BitVec 32 := Scalar.addi v11 v996
  ![0, v997.toNat]
def k0_off6 (d0 : Dev nD) (k0_t1 : Fin k0_t1_loop.trips) (c1_i32_320 : BitVec 32) : Fin 2 → Nat :=
  let c0_i32_363 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c8_i32_319 : BitVec 32 := 8#32
  let c0_i32_26 : BitVec 32 := 0#32
  let c1_i32_28 : BitVec 32 := 1#32
  let arg24 : BitVec 32 := Scf.iv c0_i32_26 c1_i32_28 k0_t1
  let v343 : BitVec 32 := Scalar.muli c8_i32_319 arg24
  let v344 : BitVec 32 := Scalar.addi v343 c1_i32_320
  let c1_i32_357 : BitVec 32 := 1#32
  let v387 : BitVec 32 := Scalar.subi v344 c1_i32_357
  let c16_i32_358 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v388 : BitVec 32 := Scalar.muli c16_i32_358 v2
  let v389 : BitVec 32 := Scalar.addi v387 v388
  let c32_i32_359 : BitVec 32 := 32#32
  let v390 : BitVec 32 := Scalar.remsi v389 c32_i32_359
  let c512_i32_360 : BitVec 32 := 512#32
  let v391 : BitVec 32 := Scalar.muli v390 c512_i32_360
  let v392 : BitVec 32 := Scalar.addi v11 v391
  ![0, v392.toNat]
def k0_cond2 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_368 : BitVec 32 := 1#32
  let v400 : BitVec 1 := Scalar.cmpi .sge arg24 c1_i32_368
  let v401 : BitVec 32 := Scalar.extui v400
  let c0_i32_369 : BitVec 32 := 0#32
  let v402 : BitVec 1 := Scalar.cmpi .ne v401 c0_i32_369
  v402

def k0_off7 (d0 : Dev nD) (k0_t1 : Fin k0_t1_loop.trips) : Fin 2 → Nat :=
  let c0_i32_862 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c4_i32_856 : BitVec 32 := 4#32
  let v992 : BitVec 32 := Scalar.subi v399 c4_i32_856
  let v993 : BitVec 32 := Scalar.addi v14 v992
  let c512_i32_857 : BitVec 32 := 512#32
  let v994 : BitVec 32 := Scalar.muli v993 c512_i32_857
  let v995 : BitVec 32 := Scalar.addi v11 v994
  ![0, v995.toNat]
def k0_off8 (d0 : Dev nD) (k0_t1 : Fin k0_t1_loop.trips) (c0_i32_367 : BitVec 32) : Fin 2 → Nat :=
  let c0_i32_380 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let v399 : BitVec 32 := Scalar.addi v398 c0_i32_367
  let v403 : BitVec 32 := Scalar.addi v14 v399
  let c512_i32_370 : BitVec 32 := 512#32
  let v404 : BitVec 32 := Scalar.muli v403 c512_i32_370
  let v405 : BitVec 32 := Scalar.addi v11 v404
  ![0, v405.toNat]
def k0_dev3 (d0 : Dev nD) : Nat :=
  let c0_i32_375 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_374 : BitVec 32 := 8#32
  let v406 : BitVec 32 := Scalar.muli v2 c8_i32_374
  let v407 : BitVec 32 := Scalar.addi c0_i32_375 v406
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_376 : BitVec 32 := 4#32
  let v408 : BitVec 32 := Scalar.muli v9 c4_i32_376
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_377 : BitVec 32 := 1#32
  let v410 : BitVec 32 := Scalar.muli v8 c1_i32_377
  let v411 : BitVec 32 := Scalar.addi v409 v410
  v411.toNat
def k0_cond3 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_381 : BitVec 32 := 1#32
  let v419 : BitVec 1 := Scalar.cmpi .sge arg24 c1_i32_381
  let v420 : BitVec 32 := Scalar.extui v419
  let c0_i32_382 : BitVec 32 := 0#32
  let v421 : BitVec 1 := Scalar.cmpi .ne v420 c0_i32_382
  v421

def k0_off9 (d0 : Dev nD) (k0_t1 : Fin k0_t1_loop.trips) : Fin 2 → Nat :=
  let c0_i32_867 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c1_i32_856 : BitVec 32 := 1#32
  let v992 : BitVec 32 := Scalar.subi v399 c1_i32_856
  let v993 : BitVec 32 := Scalar.addi v14 v992
  let c512_i32_857 : BitVec 32 := 512#32
  let v994 : BitVec 32 := Scalar.muli v993 c512_i32_857
  let v995 : BitVec 32 := Scalar.addi v11 v994
  ![0, v995.toNat]
def k0_off10 (d0 : Dev nD) (k0_t1 : Fin k0_t1_loop.trips) : Fin 2 → Nat :=
  let c0_i32_872 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c1_i32_868 : BitVec 32 := 1#32
  let v1007 : BitVec 32 := Scalar.subi v399 c1_i32_868
  let v1008 : BitVec 32 := Scalar.addi v14 v1007
  let c512_i32_869 : BitVec 32 := 512#32
  let v1009 : BitVec 32 := Scalar.muli v1008 c512_i32_869
  let v1010 : BitVec 32 := Scalar.addi v13 v1009
  ![0, v1010.toNat]
def k0_dev4 (d0 : Dev nD) : Nat :=
  let c0_i32_882 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_881 : BitVec 32 := 8#32
  let v1019 : BitVec 32 := Scalar.muli v10 c8_i32_881
  let v1020 : BitVec 32 := Scalar.addi c0_i32_882 v1019
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_883 : BitVec 32 := 4#32
  let v1021 : BitVec 32 := Scalar.muli v5 c4_i32_883
  let v1022 : BitVec 32 := Scalar.addi v1020 v1021
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_884 : BitVec 32 := 1#32
  let v1023 : BitVec 32 := Scalar.muli v8 c1_i32_884
  let v1024 : BitVec 32 := Scalar.addi v1022 v1023
  v1024.toNat
def k0_cond5 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_383 : BitVec 32 := 1#32
  let v422 : BitVec 1 := Scalar.cmpi .sge arg24 c1_i32_383
  let v423 : BitVec 32 := Scalar.extui v422
  let c0_i32_384 : BitVec 32 := 0#32
  let v424 : BitVec 1 := Scalar.cmpi .ne v423 c0_i32_384
  v424

def k0_off11 (d0 : Dev nD) (k0_t1 : Fin k0_t1_loop.trips) : Fin 2 → Nat :=
  let c0_i32_872 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c2_i32_868 : BitVec 32 := 2#32
  let v1004 : BitVec 32 := Scalar.subi v399 c2_i32_868
  let v1005 : BitVec 32 := Scalar.addi v16 v1004
  let c512_i32_869 : BitVec 32 := 512#32
  let v1006 : BitVec 32 := Scalar.muli v1005 c512_i32_869
  let v1007 : BitVec 32 := Scalar.addi v13 v1006
  ![0, v1007.toNat]
def k0_cond6 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_385 : BitVec 32 := 1#32
  let v425 : BitVec 1 := Scalar.cmpi .sge arg24 c1_i32_385
  let v426 : BitVec 32 := Scalar.extui v425
  let c0_i32_386 : BitVec 32 := 0#32
  let v427 : BitVec 1 := Scalar.cmpi .ne v426 c0_i32_386
  v427

def k0_off12 (d0 : Dev nD) (k0_t1 : Fin k0_t1_loop.trips) : Fin 2 → Nat :=
  let c0_i32_860 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c3_i32_856 : BitVec 32 := 3#32
  let v992 : BitVec 32 := Scalar.subi v399 c3_i32_856
  let v993 : BitVec 32 := Scalar.addi v14 v992
  let c512_i32_857 : BitVec 32 := 512#32
  let v994 : BitVec 32 := Scalar.muli v993 c512_i32_857
  let v995 : BitVec 32 := Scalar.addi v13 v994
  ![0, v995.toNat]
def k0_dev5 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_873 : BitVec 32 := 8#32
  let v1007 : BitVec 32 := Scalar.muli v2 c8_i32_873
  let v1008 : BitVec 32 := Scalar.addi c0_i32_874 v1007
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_875 : BitVec 32 := 4#32
  let v1009 : BitVec 32 := Scalar.muli v9 c4_i32_875
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1011 : BitVec 32 := Scalar.muli v8 c1_i32_876
  let v1012 : BitVec 32 := Scalar.addi v1010 v1011
  v1012.toNat
def k0_off13 (d0 : Dev nD) (k0_t1 : Fin k0_t1_loop.trips) : Fin 2 → Nat :=
  let c0_i32_881 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_366 : BitVec 32 := 4#32
  let c0_i32_26 : BitVec 32 := 0#32
  let c1_i32_28 : BitVec 32 := 1#32
  let arg24 : BitVec 32 := Scf.iv c0_i32_26 c1_i32_28 k0_t1
  let v398 : BitVec 32 := Scalar.muli c4_i32_366 arg24
  let c0_i32_367 : BitVec 32 := 0#32
  let v399 : BitVec 32 := Scalar.addi v398 c0_i32_367
  let c3_i32_877 : BitVec 32 := 3#32
  let v1013 : BitVec 32 := Scalar.subi v399 c3_i32_877
  let v1014 : BitVec 32 := Scalar.addi v16 v1013
  let c512_i32_878 : BitVec 32 := 512#32
  let v1015 : BitVec 32 := Scalar.muli v1014 c512_i32_878
  let v1016 : BitVec 32 := Scalar.addi v13 v1015
  ![0, v1016.toNat]
def k0_dev6 (d0 : Dev nD) : Nat :=
  let c0_i32_886 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_885 : BitVec 32 := 8#32
  let v1022 : BitVec 32 := Scalar.muli v10 c8_i32_885
  let v1023 : BitVec 32 := Scalar.addi c0_i32_886 v1022
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_887 : BitVec 32 := 4#32
  let v1024 : BitVec 32 := Scalar.muli v5 c4_i32_887
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1026 : BitVec 32 := Scalar.muli v8 c1_i32_888
  let v1027 : BitVec 32 := Scalar.addi v1025 v1026
  v1027.toNat
def k0_cond7 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_485 : BitVec 32 := 1#32
  let v540 : BitVec 1 := Scalar.cmpi .sge arg24 c1_i32_485
  let v541 : BitVec 32 := Scalar.extui v540
  let c0_i32_486 : BitVec 32 := 0#32
  let v542 : BitVec 1 := Scalar.cmpi .ne v541 c0_i32_486
  v542

def k0_off14 (d0 : Dev nD) (k0_t1 : Fin k0_t1_loop.trips) : Fin 2 → Nat :=
  let c0_i32_862 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let c1_i32_484 : BitVec 32 := 1#32
  let v539 : BitVec 32 := Scalar.addi v538 c1_i32_484
  let c4_i32_856 : BitVec 32 := 4#32
  let v992 : BitVec 32 := Scalar.subi v539 c4_i32_856
  let v993 : BitVec 32 := Scalar.addi v14 v992
  let c512_i32_857 : BitVec 32 := 512#32
  let v994 : BitVec 32 := Scalar.muli v993 c512_i32_857
  let v995 : BitVec 32 := Scalar.addi v11 v994
  ![0, v995.toNat]
def k0_dev7 (d0 : Dev nD) : Nat :=
  let c0_i32_492 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_491 : BitVec 32 := 8#32
  let v546 : BitVec 32 := Scalar.muli v2 c8_i32_491
  let v547 : BitVec 32 := Scalar.addi c0_i32_492 v546
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_493 : BitVec 32 := 4#32
  let v548 : BitVec 32 := Scalar.muli v9 c4_i32_493
  let v549 : BitVec 32 := Scalar.addi v547 v548
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_494 : BitVec 32 := 1#32
  let v550 : BitVec 32 := Scalar.muli v8 c1_i32_494
  let v551 : BitVec 32 := Scalar.addi v549 v550
  v551.toNat
def k0_off15 (d0 : Dev nD) (k0_t1 : Fin k0_t1_loop.trips) (c1_i32_484 : BitVec 32) : Fin 2 → Nat :=
  let c0_i32_509 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let v539 : BitVec 32 := Scalar.addi v538 c1_i32_484
  let c1_i32_498 : BitVec 32 := 1#32
  let v559 : BitVec 32 := Scalar.subi v539 c1_i32_498
  let v560 : BitVec 32 := Scalar.addi v14 v559
  let c512_i32_499 : BitVec 32 := 512#32
  let v561 : BitVec 32 := Scalar.muli v560 c512_i32_499
  let v562 : BitVec 32 := Scalar.addi v11 v561
  ![0, v562.toNat]
def k0_off16 (d0 : Dev nD) (k0_t1 : Fin k0_t1_loop.trips) (c1_i32_484 : BitVec 32) : Fin 2 → Nat :=
  let c0_i32_514 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let v539 : BitVec 32 := Scalar.addi v538 c1_i32_484
  let c1_i32_510 : BitVec 32 := 1#32
  let v574 : BitVec 32 := Scalar.subi v539 c1_i32_510
  let v575 : BitVec 32 := Scalar.addi v14 v574
  let c512_i32_511 : BitVec 32 := 512#32
  let v576 : BitVec 32 := Scalar.muli v575 c512_i32_511
  let v577 : BitVec 32 := Scalar.addi v13 v576
  ![0, v577.toNat]
def k0_dev8 (d0 : Dev nD) : Nat :=
  let c0_i32_524 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_523 : BitVec 32 := 8#32
  let v586 : BitVec 32 := Scalar.muli v10 c8_i32_523
  let v587 : BitVec 32 := Scalar.addi c0_i32_524 v586
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_525 : BitVec 32 := 4#32
  let v588 : BitVec 32 := Scalar.muli v5 c4_i32_525
  let v589 : BitVec 32 := Scalar.addi v587 v588
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_526 : BitVec 32 := 1#32
  let v590 : BitVec 32 := Scalar.muli v8 c1_i32_526
  let v591 : BitVec 32 := Scalar.addi v589 v590
  v591.toNat
def k0_cond9 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_531 : BitVec 32 := 1#32
  let v600 : BitVec 1 := Scalar.cmpi .sge arg24 c1_i32_531
  let v601 : BitVec 32 := Scalar.extui v600
  let c0_i32_532 : BitVec 32 := 0#32
  let v602 : BitVec 1 := Scalar.cmpi .ne v601 c0_i32_532
  v602

def k0_off17 (d0 : Dev nD) (k0_t1 : Fin k0_t1_loop.trips) : Fin 2 → Nat :=
  let c0_i32_872 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let c1_i32_484 : BitVec 32 := 1#32
  let v539 : BitVec 32 := Scalar.addi v538 c1_i32_484
  let c2_i32_868 : BitVec 32 := 2#32
  let v1004 : BitVec 32 := Scalar.subi v539 c2_i32_868
  let v1005 : BitVec 32 := Scalar.addi v16 v1004
  let c512_i32_869 : BitVec 32 := 512#32
  let v1006 : BitVec 32 := Scalar.muli v1005 c512_i32_869
  let v1007 : BitVec 32 := Scalar.addi v13 v1006
  ![0, v1007.toNat]
def k0_cond10 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_533 : BitVec 32 := 1#32
  let v603 : BitVec 1 := Scalar.cmpi .sge arg24 c1_i32_533
  let v604 : BitVec 32 := Scalar.extui v603
  let c0_i32_534 : BitVec 32 := 0#32
  let v605 : BitVec 1 := Scalar.cmpi .ne v604 c0_i32_534
  v605

def k0_off18 (d0 : Dev nD) (k0_t1 : Fin k0_t1_loop.trips) : Fin 2 → Nat :=
  let c0_i32_860 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let c1_i32_484 : BitVec 32 := 1#32
  let v539 : BitVec 32 := Scalar.addi v538 c1_i32_484
  let c3_i32_856 : BitVec 32 := 3#32
  let v992 : BitVec 32 := Scalar.subi v539 c3_i32_856
  let v993 : BitVec 32 := Scalar.addi v14 v992
  let c512_i32_857 : BitVec 32 := 512#32
  let v994 : BitVec 32 := Scalar.muli v993 c512_i32_857
  let v995 : BitVec 32 := Scalar.addi v13 v994
  ![0, v995.toNat]
def k0_dev9 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_873 : BitVec 32 := 8#32
  let v1007 : BitVec 32 := Scalar.muli v2 c8_i32_873
  let v1008 : BitVec 32 := Scalar.addi c0_i32_874 v1007
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_875 : BitVec 32 := 4#32
  let v1009 : BitVec 32 := Scalar.muli v9 c4_i32_875
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1011 : BitVec 32 := Scalar.muli v8 c1_i32_876
  let v1012 : BitVec 32 := Scalar.addi v1010 v1011
  v1012.toNat
def k0_off19 (d0 : Dev nD) (k0_t1 : Fin k0_t1_loop.trips) : Fin 2 → Nat :=
  let c0_i32_881 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_483 : BitVec 32 := 4#32
  let c0_i32_26 : BitVec 32 := 0#32
  let c1_i32_28 : BitVec 32 := 1#32
  let arg24 : BitVec 32 := Scf.iv c0_i32_26 c1_i32_28 k0_t1
  let v538 : BitVec 32 := Scalar.muli c4_i32_483 arg24
  let c1_i32_484 : BitVec 32 := 1#32
  let v539 : BitVec 32 := Scalar.addi v538 c1_i32_484
  let c3_i32_877 : BitVec 32 := 3#32
  let v1013 : BitVec 32 := Scalar.subi v539 c3_i32_877
  let v1014 : BitVec 32 := Scalar.addi v16 v1013
  let c512_i32_878 : BitVec 32 := 512#32
  let v1015 : BitVec 32 := Scalar.muli v1014 c512_i32_878
  let v1016 : BitVec 32 := Scalar.addi v13 v1015
  ![0, v1016.toNat]
def k0_dev10 (d0 : Dev nD) : Nat :=
  let c0_i32_886 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_885 : BitVec 32 := 8#32
  let v1022 : BitVec 32 := Scalar.muli v10 c8_i32_885
  let v1023 : BitVec 32 := Scalar.addi c0_i32_886 v1022
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_887 : BitVec 32 := 4#32
  let v1024 : BitVec 32 := Scalar.muli v5 c4_i32_887
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1026 : BitVec 32 := Scalar.muli v8 c1_i32_888
  let v1027 : BitVec 32 := Scalar.addi v1025 v1026
  v1027.toNat
def k0_cond11 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_632 : BitVec 32 := 1#32
  let v718 : BitVec 1 := Scalar.cmpi .sge arg24 c1_i32_632
  let v719 : BitVec 32 := Scalar.extui v718
  let c0_i32_633 : BitVec 32 := 0#32
  let v720 : BitVec 1 := Scalar.cmpi .ne v719 c0_i32_633
  v720

def k0_off20 (d0 : Dev nD) (k0_t1 : Fin k0_t1_loop.trips) : Fin 2 → Nat :=
  let c0_i32_862 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_630 : BitVec 32 := 4#32
  let c0_i32_26 : BitVec 32 := 0#32
  let c1_i32_28 : BitVec 32 := 1#32
  let arg24 : BitVec 32 := Scf.iv c0_i32_26 c1_i32_28 k0_t1
  let v716 : BitVec 32 := Scalar.muli c4_i32_630 arg24
  let c2_i32_631 : BitVec 32 := 2#32
  let v717 : BitVec 32 := Scalar.addi v716 c2_i32_631
  let c4_i32_856 : BitVec 32 := 4#32
  let v992 : BitVec 32 := Scalar.subi v717 c4_i32_856
  let v993 : BitVec 32 := Scalar.addi v14 v992
  let c512_i32_857 : BitVec 32 := 512#32
  let v994 : BitVec 32 := Scalar.muli v993 c512_i32_857
  let v995 : BitVec 32 := Scalar.addi v11 v994
  ![0, v995.toNat]
def k0_dev11 (d0 : Dev nD) : Nat :=
  let c0_i32_639 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_638 : BitVec 32 := 8#32
  let v724 : BitVec 32 := Scalar.muli v2 c8_i32_638
  let v725 : BitVec 32 := Scalar.addi c0_i32_639 v724
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_640 : BitVec 32 := 4#32
  let v726 : BitVec 32 := Scalar.muli v9 c4_i32_640
  let v727 : BitVec 32 := Scalar.addi v725 v726
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_641 : BitVec 32 := 1#32
  let v728 : BitVec 32 := Scalar.muli v8 c1_i32_641
  let v729 : BitVec 32 := Scalar.addi v727 v728
  v729.toNat
def k0_dev12 (d0 : Dev nD) : Nat :=
  let c0_i32_671 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_670 : BitVec 32 := 8#32
  let v764 : BitVec 32 := Scalar.muli v10 c8_i32_670
  let v765 : BitVec 32 := Scalar.addi c0_i32_671 v764
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_672 : BitVec 32 := 4#32
  let v766 : BitVec 32 := Scalar.muli v5 c4_i32_672
  let v767 : BitVec 32 := Scalar.addi v765 v766
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_673 : BitVec 32 := 1#32
  let v768 : BitVec 32 := Scalar.muli v8 c1_i32_673
  let v769 : BitVec 32 := Scalar.addi v767 v768
  v769.toNat
def k0_off21 (d0 : Dev nD) (k0_t1 : Fin k0_t1_loop.trips) (c2_i32_631 : BitVec 32) : Fin 2 → Nat :=
  let c0_i32_694 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_630 : BitVec 32 := 4#32
  let c0_i32_26 : BitVec 32 := 0#32
  let c1_i32_28 : BitVec 32 := 1#32
  let arg24 : BitVec 32 := Scf.iv c0_i32_26 c1_i32_28 k0_t1
  let v716 : BitVec 32 := Scalar.muli c4_i32_630 arg24
  let v717 : BitVec 32 := Scalar.addi v716 c2_i32_631
  let c2_i32_690 : BitVec 32 := 2#32
  let v790 : BitVec 32 := Scalar.subi v717 c2_i32_690
  let v791 : BitVec 32 := Scalar.addi v16 v790
  let c512_i32_691 : BitVec 32 := 512#32
  let v792 : BitVec 32 := Scalar.muli v791 c512_i32_691
  let v793 : BitVec 32 := Scalar.addi v13 v792
  ![0, v793.toNat]
def k0_cond13 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_697 : BitVec 32 := 1#32
  let v799 : BitVec 1 := Scalar.cmpi .sge arg24 c1_i32_697
  let v800 : BitVec 32 := Scalar.extui v799
  let c0_i32_698 : BitVec 32 := 0#32
  let v801 : BitVec 1 := Scalar.cmpi .ne v800 c0_i32_698
  v801

def k0_off22 (d0 : Dev nD) (k0_t1 : Fin k0_t1_loop.trips) : Fin 2 → Nat :=
  let c0_i32_860 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_630 : BitVec 32 := 4#32
  let c0_i32_26 : BitVec 32 := 0#32
  let c1_i32_28 : BitVec 32 := 1#32
  let arg24 : BitVec 32 := Scf.iv c0_i32_26 c1_i32_28 k0_t1
  let v716 : BitVec 32 := Scalar.muli c4_i32_630 arg24
  let c2_i32_631 : BitVec 32 := 2#32
  let v717 : BitVec 32 := Scalar.addi v716 c2_i32_631
  let c3_i32_856 : BitVec 32 := 3#32
  let v992 : BitVec 32 := Scalar.subi v717 c3_i32_856
  let v993 : BitVec 32 := Scalar.addi v14 v992
  let c512_i32_857 : BitVec 32 := 512#32
  let v994 : BitVec 32 := Scalar.muli v993 c512_i32_857
  let v995 : BitVec 32 := Scalar.addi v13 v994
  ![0, v995.toNat]
def k0_dev13 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_873 : BitVec 32 := 8#32
  let v1007 : BitVec 32 := Scalar.muli v2 c8_i32_873
  let v1008 : BitVec 32 := Scalar.addi c0_i32_874 v1007
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_875 : BitVec 32 := 4#32
  let v1009 : BitVec 32 := Scalar.muli v9 c4_i32_875
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1011 : BitVec 32 := Scalar.muli v8 c1_i32_876
  let v1012 : BitVec 32 := Scalar.addi v1010 v1011
  v1012.toNat
def k0_off23 (d0 : Dev nD) (k0_t1 : Fin k0_t1_loop.trips) : Fin 2 → Nat :=
  let c0_i32_881 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_630 : BitVec 32 := 4#32
  let c0_i32_26 : BitVec 32 := 0#32
  let c1_i32_28 : BitVec 32 := 1#32
  let arg24 : BitVec 32 := Scf.iv c0_i32_26 c1_i32_28 k0_t1
  let v716 : BitVec 32 := Scalar.muli c4_i32_630 arg24
  let c2_i32_631 : BitVec 32 := 2#32
  let v717 : BitVec 32 := Scalar.addi v716 c2_i32_631
  let c3_i32_877 : BitVec 32 := 3#32
  let v1013 : BitVec 32 := Scalar.subi v717 c3_i32_877
  let v1014 : BitVec 32 := Scalar.addi v16 v1013
  let c512_i32_878 : BitVec 32 := 512#32
  let v1015 : BitVec 32 := Scalar.muli v1014 c512_i32_878
  let v1016 : BitVec 32 := Scalar.addi v13 v1015
  ![0, v1016.toNat]
def k0_dev14 (d0 : Dev nD) : Nat :=
  let c0_i32_886 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_885 : BitVec 32 := 8#32
  let v1022 : BitVec 32 := Scalar.muli v10 c8_i32_885
  let v1023 : BitVec 32 := Scalar.addi c0_i32_886 v1022
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_887 : BitVec 32 := 4#32
  let v1024 : BitVec 32 := Scalar.muli v5 c4_i32_887
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1026 : BitVec 32 := Scalar.muli v8 c1_i32_888
  let v1027 : BitVec 32 := Scalar.addi v1025 v1026
  v1027.toNat
def k0_cond14 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_749 : BitVec 32 := 1#32
  let v862 : BitVec 32 := Scalar.addi arg24 c1_i32_749
  let c4_i32_750 : BitVec 32 := 4#32
  let v863 : BitVec 1 := Scalar.cmpi .slt v862 c4_i32_750
  let v864 : BitVec 32 := Scalar.extui v863
  let c0_i32_751 : BitVec 32 := 0#32
  let v865 : BitVec 1 := Scalar.cmpi .ne v864 c0_i32_751
  v865

def k0_off24 (d0 : Dev nD) (k0_t1 : Fin k0_t1_loop.trips) : Fin 2 → Nat :=
  let c0_i32_864 : BitVec 32 := 0#32
  let c8_i32_746 : BitVec 32 := 8#32
  let c0_i32_26 : BitVec 32 := 0#32
  let c1_i32_28 : BitVec 32 := 1#32
  let arg24 : BitVec 32 := Scf.iv c0_i32_26 c1_i32_28 k0_t1
  let v857 : BitVec 32 := Scalar.muli c8_i32_746 arg24
  let c7_i32 : BitVec 32 := 7#32
  let v858 : BitVec 32 := Scalar.addi v857 c7_i32
  let c1_i32_856 : BitVec 32 := 1#32
  let v992 : BitVec 32 := Scalar.addi v858 c1_i32_856
  let c16_i32_857 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v993 : BitVec 32 := Scalar.muli c16_i32_857 v2
  let v994 : BitVec 32 := Scalar.addi v992 v993
  let c32_i32_858 : BitVec 32 := 32#32
  let v995 : BitVec 32 := Scalar.remsi v994 c32_i32_858
  let c512_i32_859 : BitVec 32 := 512#32
  let v996 : BitVec 32 := Scalar.muli v995 c512_i32_859
  ![0, v996.toNat]
def k0_cond15 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c1_i32_789 : BitVec 32 := 1#32
  let v908 : BitVec 1 := Scalar.cmpi .sge arg24 c1_i32_789
  let v909 : BitVec 32 := Scalar.extui v908
  let c0_i32_790 : BitVec 32 := 0#32
  let v910 : BitVec 1 := Scalar.cmpi .ne v909 c0_i32_790
  v910

def k0_off25 (d0 : Dev nD) (k0_t1 : Fin k0_t1_loop.trips) : Fin 2 → Nat :=
  let c0_i32_862 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_787 : BitVec 32 := 4#32
  let c0_i32_26 : BitVec 32 := 0#32
  let c1_i32_28 : BitVec 32 := 1#32
  let arg24 : BitVec 32 := Scf.iv c0_i32_26 c1_i32_28 k0_t1
  let v906 : BitVec 32 := Scalar.muli c4_i32_787 arg24
  let c3_i32_788 : BitVec 32 := 3#32
  let v907 : BitVec 32 := Scalar.addi v906 c3_i32_788
  let c4_i32_856 : BitVec 32 := 4#32
  let v992 : BitVec 32 := Scalar.subi v907 c4_i32_856
  let v993 : BitVec 32 := Scalar.addi v14 v992
  let c512_i32_857 : BitVec 32 := 512#32
  let v994 : BitVec 32 := Scalar.muli v993 c512_i32_857
  let v995 : BitVec 32 := Scalar.addi v11 v994
  ![0, v995.toNat]
def k0_dev15 (d0 : Dev nD) : Nat :=
  let c0_i32_796 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_795 : BitVec 32 := 8#32
  let v914 : BitVec 32 := Scalar.muli v2 c8_i32_795
  let v915 : BitVec 32 := Scalar.addi c0_i32_796 v914
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_797 : BitVec 32 := 4#32
  let v916 : BitVec 32 := Scalar.muli v9 c4_i32_797
  let v917 : BitVec 32 := Scalar.addi v915 v916
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_798 : BitVec 32 := 1#32
  let v918 : BitVec 32 := Scalar.muli v8 c1_i32_798
  let v919 : BitVec 32 := Scalar.addi v917 v918
  v919.toNat
def k0_dev16 (d0 : Dev nD) : Nat :=
  let c0_i32_828 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_827 : BitVec 32 := 8#32
  let v954 : BitVec 32 := Scalar.muli v10 c8_i32_827
  let v955 : BitVec 32 := Scalar.addi c0_i32_828 v954
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_829 : BitVec 32 := 4#32
  let v956 : BitVec 32 := Scalar.muli v5 c4_i32_829
  let v957 : BitVec 32 := Scalar.addi v955 v956
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_830 : BitVec 32 := 1#32
  let v958 : BitVec 32 := Scalar.muli v8 c1_i32_830
  let v959 : BitVec 32 := Scalar.addi v957 v958
  v959.toNat
def k0_cond17 (k0_t1 : Fin k0_t1_loop.trips) : BitVec 1 :=
  let c0_i32_26 : BitVec 32 := 0#32
  let c1_i32_28 : BitVec 32 := 1#32
  let arg24 : BitVec 32 := Scf.iv c0_i32_26 c1_i32_28 k0_t1
  let c2_i32_854 : BitVec 32 := 2#32
  let v989 : BitVec 1 := Scalar.cmpi .sle arg24 c2_i32_854
  let v990 : BitVec 32 := Scalar.extui v989
  let c0_i32_855 : BitVec 32 := 0#32
  let v991 : BitVec 1 := Scalar.cmpi .ne v990 c0_i32_855
  v991

def k0_off26 (d0 : Dev nD) (k0_t1 : Fin k0_t1_loop.trips) : Fin 2 → Nat :=
  let c0_i32_860 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let c4_i32_787 : BitVec 32 := 4#32
  let c0_i32_26 : BitVec 32 := 0#32
  let c1_i32_28 : BitVec 32 := 1#32
  let arg24 : BitVec 32 := Scf.iv c0_i32_26 c1_i32_28 k0_t1
  let v906 : BitVec 32 := Scalar.muli c4_i32_787 arg24
  let c3_i32_788 : BitVec 32 := 3#32
  let v907 : BitVec 32 := Scalar.addi v906 c3_i32_788
  let c3_i32_856 : BitVec 32 := 3#32
  let v992 : BitVec 32 := Scalar.subi v907 c3_i32_856
  let v993 : BitVec 32 := Scalar.addi v14 v992
  let c512_i32_857 : BitVec 32 := 512#32
  let v994 : BitVec 32 := Scalar.muli v993 c512_i32_857
  let v995 : BitVec 32 := Scalar.addi v13 v994
  ![0, v995.toNat]
def k0_dev17 (d0 : Dev nD) : Nat :=
  let c0_i32_874 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_873 : BitVec 32 := 8#32
  let v1007 : BitVec 32 := Scalar.muli v2 c8_i32_873
  let v1008 : BitVec 32 := Scalar.addi c0_i32_874 v1007
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_875 : BitVec 32 := 4#32
  let v1009 : BitVec 32 := Scalar.muli v9 c4_i32_875
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_876 : BitVec 32 := 1#32
  let v1011 : BitVec 32 := Scalar.muli v8 c1_i32_876
  let v1012 : BitVec 32 := Scalar.addi v1010 v1011
  v1012.toNat
def k0_off27 (d0 : Dev nD) (k0_t1 : Fin k0_t1_loop.trips) : Fin 2 → Nat :=
  let c0_i32_881 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let c4_i32_787 : BitVec 32 := 4#32
  let c0_i32_26 : BitVec 32 := 0#32
  let c1_i32_28 : BitVec 32 := 1#32
  let arg24 : BitVec 32 := Scf.iv c0_i32_26 c1_i32_28 k0_t1
  let v906 : BitVec 32 := Scalar.muli c4_i32_787 arg24
  let c3_i32_788 : BitVec 32 := 3#32
  let v907 : BitVec 32 := Scalar.addi v906 c3_i32_788
  let c3_i32_877 : BitVec 32 := 3#32
  let v1013 : BitVec 32 := Scalar.subi v907 c3_i32_877
  let v1014 : BitVec 32 := Scalar.addi v16 v1013
  let c512_i32_878 : BitVec 32 := 512#32
  let v1015 : BitVec 32 := Scalar.muli v1014 c512_i32_878
  let v1016 : BitVec 32 := Scalar.addi v13 v1015
  ![0, v1016.toNat]
def k0_dev18 (d0 : Dev nD) : Nat :=
  let c0_i32_886 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_885 : BitVec 32 := 8#32
  let v1022 : BitVec 32 := Scalar.muli v10 c8_i32_885
  let v1023 : BitVec 32 := Scalar.addi c0_i32_886 v1022
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_887 : BitVec 32 := 4#32
  let v1024 : BitVec 32 := Scalar.muli v5 c4_i32_887
  let v1025 : BitVec 32 := Scalar.addi v1023 v1024
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_888 : BitVec 32 := 1#32
  let v1026 : BitVec 32 := Scalar.muli v8 c1_i32_888
  let v1027 : BitVec 32 := Scalar.addi v1025 v1026
  v1027.toNat
def k0_off28 (d0 : Dev nD) : Fin 2 → Nat :=
  let c0_i32_35 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c31_i32 : BitVec 32 := 31#32
  let c16_i32_30 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v44 : BitVec 32 := Scalar.muli c16_i32_30 v2
  let v45 : BitVec 32 := Scalar.addi c31_i32 v44
  let c32_i32_31 : BitVec 32 := 32#32
  let v46 : BitVec 32 := Scalar.remsi v45 c32_i32_31
  let c512_i32_32 : BitVec 32 := 512#32
  let v47 : BitVec 32 := Scalar.muli v46 c512_i32_32
  let v48 : BitVec 32 := Scalar.addi v11 v47
  ![0, v48.toNat]
def k0_off29 (d0 : Dev nD) (c15_i32 : BitVec 32) : Fin 2 → Nat :=
  let c0_i32_47 : BitVec 32 := 0#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c16384_i32 : BitVec 32 := 16384#32
  let v11 : BitVec 32 := Scalar.muli v5 c16384_i32
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let v54 : BitVec 32 := Scalar.addi v14 c15_i32
  let c512_i32_38 : BitVec 32 := 512#32
  let v55 : BitVec 32 := Scalar.muli v54 c512_i32_38
  let v56 : BitVec 32 := Scalar.addi v11 v55
  ![0, v56.toNat]
def k0_off30 (d0 : Dev nD) (c15_i32_48 : BitVec 32) : Fin 2 → Nat :=
  let c0_i32_52 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32 : BitVec 32 := 16#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c16_i32 v2
  let v68 : BitVec 32 := Scalar.addi v14 c15_i32_48
  let c512_i32_49 : BitVec 32 := 512#32
  let v69 : BitVec 32 := Scalar.muli v68 c512_i32_49
  let v70 : BitVec 32 := Scalar.addi v13 v69
  ![0, v70.toNat]
def k0_dev19 (d0 : Dev nD) : Nat :=
  let c0_i32_62 : BitVec 32 := 0#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v10 : BitVec 32 := Scalar.subi c1_i32_3 v2
  let c8_i32_61 : BitVec 32 := 8#32
  let v76 : BitVec 32 := Scalar.muli v10 c8_i32_61
  let v77 : BitVec 32 := Scalar.addi c0_i32_62 v76
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_63 : BitVec 32 := 4#32
  let v78 : BitVec 32 := Scalar.muli v5 c4_i32_63
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v80 : BitVec 32 := Scalar.muli v8 c1_i32_64
  let v81 : BitVec 32 := Scalar.addi v79 v80
  v81.toNat
def k0_off31 (d0 : Dev nD) (c14_i32 : BitVec 32) : Fin 2 → Nat :=
  let c0_i32_84 : BitVec 32 := 0#32
  let c1_i32_4 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v12 : BitVec 32 := Scalar.subi c1_i32_4 v5
  let c16384_i32_5 : BitVec 32 := 16384#32
  let v13 : BitVec 32 := Scalar.muli v12 c16384_i32_5
  let c16_i32_7 : BitVec 32 := 16#32
  let c1_i32_6 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v15 : BitVec 32 := Scalar.subi c1_i32_6 v2
  let v16 : BitVec 32 := Scalar.muli c16_i32_7 v15
  let v102 : BitVec 32 := Scalar.addi v16 c14_i32
  let c512_i32_81 : BitVec 32 := 512#32
  let v103 : BitVec 32 := Scalar.muli v102 c512_i32_81
  let v104 : BitVec 32 := Scalar.addi v13 v103
  ![0, v104.toNat]
def k0_dev20 (d0 : Dev nD) : Nat :=
  let c0_i32_233 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_232 : BitVec 32 := 8#32
  let v250 : BitVec 32 := Scalar.muli v2 c8_i32_232
  let v251 : BitVec 32 := Scalar.addi c0_i32_233 v250
  let c1_i32_2 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v9 : BitVec 32 := Scalar.subi c1_i32_2 v5
  let c4_i32_234 : BitVec 32 := 4#32
  let v252 : BitVec 32 := Scalar.muli v9 c4_i32_234
  let v253 : BitVec 32 := Scalar.addi v251 v252
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_235 : BitVec 32 := 1#32
  let v254 : BitVec 32 := Scalar.muli v8 c1_i32_235
  let v255 : BitVec 32 := Scalar.addi v253 v254
  v255.toNat
@[reducible] def k0_t2_loop : Scf.Loop 32 :=
  let c0_i32_254 : BitVec 32 := 0#32
  let c16_i32_255 : BitVec 32 := 16#32
  let v275 : BitVec 32 := Scalar.addi c0_i32_254 c16_i32_255
  let c1_i32_256 : BitVec 32 := 1#32
  ⟨c0_i32_254, v275, c1_i32_256⟩
def k0_cond18 (k0_t2 : Fin k0_t2_loop.trips) : BitVec 1 :=
  let c4_i32_278 : BitVec 32 := 4#32
  let c0_i32_254 : BitVec 32 := 0#32
  let c1_i32_256 : BitVec 32 := 1#32
  let arg24 : BitVec 32 := Scf.iv c0_i32_254 c1_i32_256 k0_t2
  let v296 : BitVec 32 := Scalar.muli c4_i32_278 arg24
  let c0_i32_279 : BitVec 32 := 0#32
  let v297 : BitVec 32 := Scalar.addi v296 c0_i32_279
  let c1_i32_280 : BitVec 32 := 1#32
  let v298 : BitVec 32 := Scalar.addi v297 c1_i32_280
  let c64_i32 : BitVec 32 := 64#32
  let v299 : BitVec 1 := Scalar.cmpi .slt v298 c64_i32
  let v300 : BitVec 32 := Scalar.extui v299
  let c0_i32_281 : BitVec 32 := 0#32
  let v301 : BitVec 1 := Scalar.cmpi .ne v300 c0_i32_281
  v301

def k0_cond19 (k0_t2 : Fin k0_t2_loop.trips) : BitVec 1 :=
  let c4_i32_278 : BitVec 32 := 4#32
  let c0_i32_254 : BitVec 32 := 0#32
  let c1_i32_256 : BitVec 32 := 1#32
  let arg24 : BitVec 32 := Scf.iv c0_i32_254 c1_i32_256 k0_t2
  let v296 : BitVec 32 := Scalar.muli c4_i32_278 arg24
  let c0_i32_279 : BitVec 32 := 0#32
  let v297 : BitVec 32 := Scalar.addi v296 c0_i32_279
  let c3_i32_374 : BitVec 32 := 3#32
  let v400 : BitVec 1 := Scalar.cmpi .sge v297 c3_i32_374
  let v401 : BitVec 32 := Scalar.extui v400
  let c0_i32_375 : BitVec 32 := 0#32
  let v402 : BitVec 1 := Scalar.cmpi .ne v401 c0_i32_375
  v402

def k0_off32 (k0_t2 : Fin k0_t2_loop.trips) : Fin 2 → Nat :=
  let c0_i32_387 : BitVec 32 := 0#32
  let c4_i32_278 : BitVec 32 := 4#32
  let c0_i32_254 : BitVec 32 := 0#32
  let c1_i32_256 : BitVec 32 := 1#32
  let arg24 : BitVec 32 := Scf.iv c0_i32_254 c1_i32_256 k0_t2
  let v296 : BitVec 32 := Scalar.muli c4_i32_278 arg24
  let c0_i32_279 : BitVec 32 := 0#32
  let v297 : BitVec 32 := Scalar.addi v296 c0_i32_279
  let c3_i32_383 : BitVec 32 := 3#32
  let v410 : BitVec 32 := Scalar.subi v297 c3_i32_383
  let c512_i32_384 : BitVec 32 := 512#32
  let v411 : BitVec 32 := Scalar.muli v410 c512_i32_384
  ![0, v411.toNat]
def k0_off33 (k0_t2 : Fin k0_t2_loop.trips) : Fin 2 → Nat :=
  let c0_i32_382 : BitVec 32 := 0#32
  let c4_i32_278 : BitVec 32 := 4#32
  let c0_i32_254 : BitVec 32 := 0#32
  let c1_i32_256 : BitVec 32 := 1#32
  let arg24 : BitVec 32 := Scf.iv c0_i32_254 c1_i32_256 k0_t2
  let v296 : BitVec 32 := Scalar.muli c4_i32_278 arg24
  let c0_i32_279 : BitVec 32 := 0#32
  let v297 : BitVec 32 := Scalar.addi v296 c0_i32_279
  let c1_i32_376 : BitVec 32 := 1#32
  let v403 : BitVec 32 := Scalar.addi v297 c1_i32_376
  let c512_i32_377 : BitVec 32 := 512#32
  let v404 : BitVec 32 := Scalar.muli v403 c512_i32_377
  ![0, v404.toNat]
def k0_off34 (k0_t2 : Fin k0_t2_loop.trips) (c0_i32_279 : BitVec 32) : Fin 2 → Nat :=
  let c0_i32_287 : BitVec 32 := 0#32
  let c4_i32_278 : BitVec 32 := 4#32
  let c0_i32_254 : BitVec 32 := 0#32
  let c1_i32_256 : BitVec 32 := 1#32
  let arg24 : BitVec 32 := Scf.iv c0_i32_254 c1_i32_256 k0_t2
  let v296 : BitVec 32 := Scalar.muli c4_i32_278 arg24
  let v297 : BitVec 32 := Scalar.addi v296 c0_i32_279
  let c512_i32_282 : BitVec 32 := 512#32
  let v302 : BitVec 32 := Scalar.muli v297 c512_i32_282
  ![0, v302.toNat]
def k0_cond20 (k0_t2 : Fin k0_t2_loop.trips) : BitVec 1 :=
  let c4_i32_302 : BitVec 32 := 4#32
  let c0_i32_254 : BitVec 32 := 0#32
  let c1_i32_256 : BitVec 32 := 1#32
  let arg24 : BitVec 32 := Scf.iv c0_i32_254 c1_i32_256 k0_t2
  let v322 : BitVec 32 := Scalar.muli c4_i32_302 arg24
  let c1_i32_303 : BitVec 32 := 1#32
  let v323 : BitVec 32 := Scalar.addi v322 c1_i32_303
  let c1_i32_304 : BitVec 32 := 1#32
  let v324 : BitVec 32 := Scalar.addi v323 c1_i32_304
  let c64_i32_305 : BitVec 32 := 64#32
  let v325 : BitVec 1 := Scalar.cmpi .slt v324 c64_i32_305
  let v326 : BitVec 32 := Scalar.extui v325
  let c0_i32_306 : BitVec 32 := 0#32
  let v327 : BitVec 1 := Scalar.cmpi .ne v326 c0_i32_306
  v327

def k0_cond21 (k0_t2 : Fin k0_t2_loop.trips) : BitVec 1 :=
  let c4_i32_302 : BitVec 32 := 4#32
  let c0_i32_254 : BitVec 32 := 0#32
  let c1_i32_256 : BitVec 32 := 1#32
  let arg24 : BitVec 32 := Scf.iv c0_i32_254 c1_i32_256 k0_t2
  let v322 : BitVec 32 := Scalar.muli c4_i32_302 arg24
  let c1_i32_303 : BitVec 32 := 1#32
  let v323 : BitVec 32 := Scalar.addi v322 c1_i32_303
  let c3_i32_374 : BitVec 32 := 3#32
  let v400 : BitVec 1 := Scalar.cmpi .sge v323 c3_i32_374
  let v401 : BitVec 32 := Scalar.extui v400
  let c0_i32_375 : BitVec 32 := 0#32
  let v402 : BitVec 1 := Scalar.cmpi .ne v401 c0_i32_375
  v402

def k0_off35 (k0_t2 : Fin k0_t2_loop.trips) : Fin 2 → Nat :=
  let c0_i32_387 : BitVec 32 := 0#32
  let c4_i32_302 : BitVec 32 := 4#32
  let c0_i32_254 : BitVec 32 := 0#32
  let c1_i32_256 : BitVec 32 := 1#32
  let arg24 : BitVec 32 := Scf.iv c0_i32_254 c1_i32_256 k0_t2
  let v322 : BitVec 32 := Scalar.muli c4_i32_302 arg24
  let c1_i32_303 : BitVec 32 := 1#32
  let v323 : BitVec 32 := Scalar.addi v322 c1_i32_303
  let c3_i32_383 : BitVec 32 := 3#32
  let v410 : BitVec 32 := Scalar.subi v323 c3_i32_383
  let c512_i32_384 : BitVec 32 := 512#32
  let v411 : BitVec 32 := Scalar.muli v410 c512_i32_384
  ![0, v411.toNat]
def k0_off36 (k0_t2 : Fin k0_t2_loop.trips) : Fin 2 → Nat :=
  let c0_i32_382 : BitVec 32 := 0#32
  let c4_i32_302 : BitVec 32 := 4#32
  let c0_i32_254 : BitVec 32 := 0#32
  let c1_i32_256 : BitVec 32 := 1#32
  let arg24 : BitVec 32 := Scf.iv c0_i32_254 c1_i32_256 k0_t2
  let v322 : BitVec 32 := Scalar.muli c4_i32_302 arg24
  let c1_i32_303 : BitVec 32 := 1#32
  let v323 : BitVec 32 := Scalar.addi v322 c1_i32_303
  let c1_i32_376 : BitVec 32 := 1#32
  let v403 : BitVec 32 := Scalar.addi v323 c1_i32_376
  let c512_i32_377 : BitVec 32 := 512#32
  let v404 : BitVec 32 := Scalar.muli v403 c512_i32_377
  ![0, v404.toNat]
def k0_cond22 (k0_t2 : Fin k0_t2_loop.trips) : BitVec 1 :=
  let c4_i32_326 : BitVec 32 := 4#32
  let c0_i32_254 : BitVec 32 := 0#32
  let c1_i32_256 : BitVec 32 := 1#32
  let arg24 : BitVec 32 := Scf.iv c0_i32_254 c1_i32_256 k0_t2
  let v348 : BitVec 32 := Scalar.muli c4_i32_326 arg24
  let c2_i32_327 : BitVec 32 := 2#32
  let v349 : BitVec 32 := Scalar.addi v348 c2_i32_327
  let c1_i32_328 : BitVec 32 := 1#32
  let v350 : BitVec 32 := Scalar.addi v349 c1_i32_328
  let c64_i32_329 : BitVec 32 := 64#32
  let v351 : BitVec 1 := Scalar.cmpi .slt v350 c64_i32_329
  let v352 : BitVec 32 := Scalar.extui v351
  let c0_i32_330 : BitVec 32 := 0#32
  let v353 : BitVec 1 := Scalar.cmpi .ne v352 c0_i32_330
  v353

def k0_cond23 (k0_t2 : Fin k0_t2_loop.trips) : BitVec 1 :=
  let c4_i32_326 : BitVec 32 := 4#32
  let c0_i32_254 : BitVec 32 := 0#32
  let c1_i32_256 : BitVec 32 := 1#32
  let arg24 : BitVec 32 := Scf.iv c0_i32_254 c1_i32_256 k0_t2
  let v348 : BitVec 32 := Scalar.muli c4_i32_326 arg24
  let c2_i32_327 : BitVec 32 := 2#32
  let v349 : BitVec 32 := Scalar.addi v348 c2_i32_327
  let c3_i32_374 : BitVec 32 := 3#32
  let v400 : BitVec 1 := Scalar.cmpi .sge v349 c3_i32_374
  let v401 : BitVec 32 := Scalar.extui v400
  let c0_i32_375 : BitVec 32 := 0#32
  let v402 : BitVec 1 := Scalar.cmpi .ne v401 c0_i32_375
  v402

def k0_off37 (k0_t2 : Fin k0_t2_loop.trips) : Fin 2 → Nat :=
  let c0_i32_387 : BitVec 32 := 0#32
  let c4_i32_326 : BitVec 32 := 4#32
  let c0_i32_254 : BitVec 32 := 0#32
  let c1_i32_256 : BitVec 32 := 1#32
  let arg24 : BitVec 32 := Scf.iv c0_i32_254 c1_i32_256 k0_t2
  let v348 : BitVec 32 := Scalar.muli c4_i32_326 arg24
  let c2_i32_327 : BitVec 32 := 2#32
  let v349 : BitVec 32 := Scalar.addi v348 c2_i32_327
  let c3_i32_383 : BitVec 32 := 3#32
  let v410 : BitVec 32 := Scalar.subi v349 c3_i32_383
  let c512_i32_384 : BitVec 32 := 512#32
  let v411 : BitVec 32 := Scalar.muli v410 c512_i32_384
  ![0, v411.toNat]
def k0_off38 (k0_t2 : Fin k0_t2_loop.trips) : Fin 2 → Nat :=
  let c0_i32_382 : BitVec 32 := 0#32
  let c4_i32_326 : BitVec 32 := 4#32
  let c0_i32_254 : BitVec 32 := 0#32
  let c1_i32_256 : BitVec 32 := 1#32
  let arg24 : BitVec 32 := Scf.iv c0_i32_254 c1_i32_256 k0_t2
  let v348 : BitVec 32 := Scalar.muli c4_i32_326 arg24
  let c2_i32_327 : BitVec 32 := 2#32
  let v349 : BitVec 32 := Scalar.addi v348 c2_i32_327
  let c1_i32_376 : BitVec 32 := 1#32
  let v403 : BitVec 32 := Scalar.addi v349 c1_i32_376
  let c512_i32_377 : BitVec 32 := 512#32
  let v404 : BitVec 32 := Scalar.muli v403 c512_i32_377
  ![0, v404.toNat]
def k0_cond24 (k0_t2 : Fin k0_t2_loop.trips) : BitVec 1 :=
  let c4_i32_350 : BitVec 32 := 4#32
  let c0_i32_254 : BitVec 32 := 0#32
  let c1_i32_256 : BitVec 32 := 1#32
  let arg24 : BitVec 32 := Scf.iv c0_i32_254 c1_i32_256 k0_t2
  let v374 : BitVec 32 := Scalar.muli c4_i32_350 arg24
  let c3_i32_351 : BitVec 32 := 3#32
  let v375 : BitVec 32 := Scalar.addi v374 c3_i32_351
  let c1_i32_352 : BitVec 32 := 1#32
  let v376 : BitVec 32 := Scalar.addi v375 c1_i32_352
  let c64_i32_353 : BitVec 32 := 64#32
  let v377 : BitVec 1 := Scalar.cmpi .slt v376 c64_i32_353
  let v378 : BitVec 32 := Scalar.extui v377
  let c0_i32_354 : BitVec 32 := 0#32
  let v379 : BitVec 1 := Scalar.cmpi .ne v378 c0_i32_354
  v379

def k0_cond25 (k0_t2 : Fin k0_t2_loop.trips) : BitVec 1 :=
  let c4_i32_350 : BitVec 32 := 4#32
  let c0_i32_254 : BitVec 32 := 0#32
  let c1_i32_256 : BitVec 32 := 1#32
  let arg24 : BitVec 32 := Scf.iv c0_i32_254 c1_i32_256 k0_t2
  let v374 : BitVec 32 := Scalar.muli c4_i32_350 arg24
  let c3_i32_351 : BitVec 32 := 3#32
  let v375 : BitVec 32 := Scalar.addi v374 c3_i32_351
  let c3_i32_374 : BitVec 32 := 3#32
  let v400 : BitVec 1 := Scalar.cmpi .sge v375 c3_i32_374
  let v401 : BitVec 32 := Scalar.extui v400
  let c0_i32_375 : BitVec 32 := 0#32
  let v402 : BitVec 1 := Scalar.cmpi .ne v401 c0_i32_375
  v402

def k0_off39 (k0_t2 : Fin k0_t2_loop.trips) : Fin 2 → Nat :=
  let c0_i32_387 : BitVec 32 := 0#32
  let c4_i32_350 : BitVec 32 := 4#32
  let c0_i32_254 : BitVec 32 := 0#32
  let c1_i32_256 : BitVec 32 := 1#32
  let arg24 : BitVec 32 := Scf.iv c0_i32_254 c1_i32_256 k0_t2
  let v374 : BitVec 32 := Scalar.muli c4_i32_350 arg24
  let c3_i32_351 : BitVec 32 := 3#32
  let v375 : BitVec 32 := Scalar.addi v374 c3_i32_351
  let c3_i32_383 : BitVec 32 := 3#32
  let v410 : BitVec 32 := Scalar.subi v375 c3_i32_383
  let c512_i32_384 : BitVec 32 := 512#32
  let v411 : BitVec 32 := Scalar.muli v410 c512_i32_384
  ![0, v411.toNat]
def k0_off40 (k0_t2 : Fin k0_t2_loop.trips) : Fin 2 → Nat :=
  let c0_i32_382 : BitVec 32 := 0#32
  let c4_i32_350 : BitVec 32 := 4#32
  let c0_i32_254 : BitVec 32 := 0#32
  let c1_i32_256 : BitVec 32 := 1#32
  let arg24 : BitVec 32 := Scf.iv c0_i32_254 c1_i32_256 k0_t2
  let v374 : BitVec 32 := Scalar.muli c4_i32_350 arg24
  let c3_i32_351 : BitVec 32 := 3#32
  let v375 : BitVec 32 := Scalar.addi v374 c3_i32_351
  let c1_i32_376 : BitVec 32 := 1#32
  let v403 : BitVec 32 := Scalar.addi v375 c1_i32_376
  let c512_i32_377 : BitVec 32 := 512#32
  let v404 : BitVec 32 := Scalar.muli v403 c512_i32_377
  ![0, v404.toNat]
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1024x2048 : Shape := ⟨2, ![1024, 2048]⟩
abbrev S2048x32768 : Shape := ⟨2, ![2048, 32768]⟩
abbrev S1024x32768 : Shape := ⟨2, ![1024, 32768]⟩
abbrev S_ : Shape := ⟨0, ![]⟩
abbrev S1024 : Shape := ⟨1, ![1024]⟩
abbrev S1024x1 : Shape := ⟨2, ![1024, 1]⟩

abbrev nBuf : Space → Nat
  | .hbm => 14
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S2048x32768, .f32⟩
  | .hbm, ⟨2, _⟩ => ⟨S1024x32768, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S1024x32768, .f32⟩
  | .hbm, ⟨7, _⟩ => ⟨S1024x32768, .f32⟩
  | .hbm, ⟨8, _⟩ => ⟨S1024x32768, .f32⟩
  | .hbm, ⟨9, _⟩ => ⟨S_, .f32⟩
  | .hbm, ⟨10, _⟩ => ⟨S1024, .f32⟩
  | .hbm, ⟨11, _⟩ => ⟨S1024x1, .f32⟩
  | .hbm, ⟨12, _⟩ => ⟨S1024x32768, .f32⟩
  | .hbm, ⟨13, _⟩ => ⟨S1024x32768, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.Base.lean ====
/-
# The buffers, the semaphore cells and the ghost algebra of the kernel's run

The mesh is 2 × 2 × 4: device `8 x + 4 y + z`. A device exchanges with `py c` (the other `y`) and `px c` (the other
`x`). Two channels carry chunks of 1024 × 512 values: channel `false` from `py c`, channel `true` from `px c`; each has
four landing slots, four semaphores a side, and a credit semaphore.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Rounds
public import Idealize.ShloMosaic.Lib.Release
public import Idealize.ShloMosaic.Lib.Transfers
public import Idealize.ShloMosaic.Lib.Memref
public import Idealize.ShloMosaic.Lib.Tactic

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

/-! ## The ghost algebra -/

/-- The staging pipeline's rounds, the kernel's own rounds, the landing slots' releases, the local transfers' counters. -/
abbrev UB : Type := URounds (GSem nD τ sig) ℕ
abbrev US : Type := USlots (Dev nD × ℕ)
abbrev UU : Type := UR sig nD τ × (UB × (US × Counters))

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := (Emb.inl : Emb UB (UB × (US × Counters))).trans embR
abbrev ES : Emb US (MT nD τ sig ℕ (Elt F) ℕ UU ℕ) :=
  (Emb.inl : Emb US (US × Counters)).trans ((Emb.inr : Emb (US × Counters) (UB × (US × Counters))).trans embR)
abbrev EC : UEmb Counters (MT nD τ sig ℕ (Elt F) ℕ UU ℕ) := countersEmb

omit [FloatOps F] in
theorem ER_lands : (ER (F := F)).LandsIn (upEmb : UEmb _ 𝕄) := inferInstance
omit [FloatOps F] in
theorem ES_lands : (ES (F := F)).LandsIn (upEmb : UEmb _ 𝕄) := inferInstance
omit [FloatOps F] in
theorem EC_lands : (EC (F := F)).LandsIn (upEmb : UEmb _ 𝕄) := inferInstance

/-! ## The mesh -/

/-- A device's `x` and `y`. -/
abbrev cx (c : Dev nD) : ℕ := c.val / 8
abbrev cy (c : Dev nD) : ℕ := c.val / 4 % 2

set_option backward.proofsInPublic true in
def py (c : Dev nD) : Dev nD := ⟨(8 * (c.val / 8) + (c.val % 4) + 4) - 4 * ((c.val / 4) % 2), by revert c; decide⟩
set_option backward.proofsInPublic true in
def px (c : Dev nD) : Dev nD := ⟨(4 * ((c.val / 4) % 2) + (c.val % 4) + 8) - 8 * (c.val / 8), by revert c; decide⟩

theorem py_py (c : Dev nD) : py (py c) = c := by revert c; decide
theorem px_px (c : Dev nD) : px (px c) = c := by revert c; decide
theorem px_py (c : Dev nD) : px (py c) = py (px c) := by revert c; decide
theorem cx_py (c : Dev nD) : cx (py c) = cx c := by revert c; decide
theorem cy_px (c : Dev nD) : cy (px c) = cy c := by revert c; decide
theorem cx_px (c : Dev nD) : cx (px c) = 1 - cx c := by revert c; decide
theorem cy_py (c : Dev nD) : cy (py c) = 1 - cy c := by revert c; decide
theorem cx_lt (c : Dev nD) : cx c < 2 := by revert c; decide
theorem cy_lt (c : Dev nD) : cy c < 2 := by revert c; decide

/-- The peer on channel `b`. -/
def pc (b : Bool) (c : Dev nD) : Dev nD := if b then px c else py c
theorem pc_pc (b : Bool) (c : Dev nD) : pc b (pc b c) = c := by
  cases b
  · exact py_py c
  · exact px_px c
def ringB (b : Bool) : Dev nD ≃ Dev nD := ⟨pc b, pc b, pc_pc b, pc_pc b⟩

/-! ## Views -/

abbrev xM : Memref sig .tc .vmem S1024x2048 .f32 := Memref.whole cc0_stg0_0
abbrev wM : Memref sig .tc .hbm S2048x16384 .f32 := Memref.whole main_arg1
abbrev oM : Memref sig .tc .hbm S1024x32768 .f32 := Memref.whole main_v1
abbrev wbM : Memref sig .tc .vmem S2x2048x512 .f32 := Memref.whole cc0_scratch0
abbrev ebM : Memref sig .tc .vmem S2x1024x512 .f32 := Memref.whole cc0_scratch1
abbrev yrM : Memref sig .tc .vmem S4x1024x512 .f32 := Memref.whole cc0_scratch2
abbrev xrM : Memref sig .tc .vmem S4x1024x512 .f32 := Memref.whole cc0_scratch3
abbrev sM : Memref sig .tc .vmem S1024x1 .f32 := Memref.whole cc0_scratch4
abbrev soM : Memref sig .tc .vmem S1024x1 .f32 := Memref.whole cc0_scratch5
abbrev ivM : Memref sig .tc .vmem S1024x1 .f32 := Memref.whole cc0_scratch6

/-- Channel `b`'s landing buffer. -/
abbrev rM (b : Bool) : Memref sig .tc .vmem S4x1024x512 .f32 := match b with | false => yrM | true => xrM

/-- 512 columns of the result, of the weights; one slot of the weight, the block and the landing buffers. -/
abbrev oAt (off : Fin 2 → ℕ) (h : ∀ a, off a + S1024x512.size a ≤ S1024x32768.size a) : Memref sig .tc .hbm S1024x512 .f32 :=
  oM.slice (Rect.unit (s := S1024x32768) off S1024x512.size h) (fun _ => rfl)
abbrev wAt (off : Fin 2 → ℕ) (h : ∀ a, off a + S2048x512.size a ≤ S2048x16384.size a) : Memref sig .tc .hbm S2048x512 .f32 :=
  wM.slice (Rect.unit (s := S2048x16384) off S2048x512.size h) (fun _ => rfl)
abbrev wbAt (off : Fin 3 → ℕ) (h : ∀ a, off a + S1x2048x512.size a ≤ S2x2048x512.size a) : Memref sig .tc .vmem S2048x512 .f32 :=
  (wbM.slice (Rect.unit (s := S2x2048x512) off S1x2048x512.size h) (fun _ => rfl)).squeeze S2048x512 squeezes_S1x2048x512_S2048x512
abbrev ebAt (off : Fin 3 → ℕ) (h : ∀ a, off a + S1x1024x512.size a ≤ S2x1024x512.size a) : Memref sig .tc .vmem S1024x512 .f32 :=
  (ebM.slice (Rect.unit (s := S2x1024x512) off S1x1024x512.size h) (fun _ => rfl)).squeeze S1024x512 squeezes_S1x1024x512_S1024x512
abbrev rAt (b : Bool) (off : Fin 3 → ℕ) (h : ∀ a, off a + S1x1024x512.size a ≤ S4x1024x512.size a) : Memref sig .tc .vmem S1024x512 .f32 :=
  ((rM b).slice (Rect.unit (s := S4x1024x512) off S1x1024x512.size h) (fun _ => rfl)).squeeze S1024x512 squeezes_S1x1024x512_S1024x512

theorem o_inb (g : ℕ) : ∀ a, (![0, 512 * (g % 64)] : Fin 2 → ℕ) a + S1024x512.size a ≤ S1024x32768.size a :=
  fun a => by
    have h1 : g % 64 < 64 := Nat.mod_lt _ (by decide)
    fin_cases a
    · show 0 + 1024 ≤ 1024; omega
    · show 512 * (g % 64) + 512 ≤ 32768; omega
theorem w_inb (j : ℕ) : ∀ a, (![0, 512 * (j % 32)] : Fin 2 → ℕ) a + S2048x512.size a ≤ S2048x16384.size a :=
  fun a => by
    have h1 : j % 32 < 32 := Nat.mod_lt _ (by decide)
    fin_cases a
    · show 0 + 2048 ≤ 2048; omega
    · show 512 * (j % 32) + 512 ≤ 16384; omega
theorem wb_inb (u : ℕ) : ∀ a, (![u % 2, 0, 0] : Fin 3 → ℕ) a + S1x2048x512.size a ≤ S2x2048x512.size a :=
  fun a => by
    have h1 : u % 2 < 2 := Nat.mod_lt _ (by decide)
    fin_cases a
    · show u % 2 + 1 ≤ 2; omega
    · show 0 + 2048 ≤ 2048; omega
    · show 0 + 512 ≤ 512; omega
theorem eb_inb (u : ℕ) : ∀ a, (![u % 2, 0, 0] : Fin 3 → ℕ) a + S1x1024x512.size a ≤ S2x1024x512.size a :=
  fun a => by
    have h1 : u % 2 < 2 := Nat.mod_lt _ (by decide)
    fin_cases a
    · show u % 2 + 1 ≤ 2; omega
    · show 0 + 1024 ≤ 1024; omega
    · show 0 + 512 ≤ 512; omega
theorem r_inb (u : ℕ) : ∀ a, (![u % 4, 0, 0] : Fin 3 → ℕ) a + S1x1024x512.size a ≤ S4x1024x512.size a :=
  fun a => by
    have h1 : u % 4 < 4 := Nat.mod_lt _ (by decide)
    fin_cases a
    · show u % 4 + 1 ≤ 4; omega
    · show 0 + 1024 ≤ 1024; omega
    · show 0 + 512 ≤ 512; omega

/-- Result chunk `g` (of 64), weight chunk `j` (of 32), and the slots use `u` of each buffer takes. -/
abbrev oC (g : ℕ) := oAt ![0, 512 * (g % 64)] (o_inb g)
abbrev wC (j : ℕ) := wAt ![0, 512 * (j % 32)] (w_inb j)
abbrev wbS (u : ℕ) := wbAt ![u % 2, 0, 0] (wb_inb u)
abbrev ebS (u : ℕ) := ebAt ![u % 2, 0, 0] (eb_inb u)
abbrev rS (b : Bool) (u : ℕ) := rAt b ![u % 4, 0, 0] (r_inb u)

/-! ## Semaphores -/

theorem s2_inb (u : ℕ) : ∀ a, (![u % 2] : Fin 1 → ℕ) a + S1.size a ≤ S2.size a :=
  fun a => by
    have h1 : u % 2 < 2 := Nat.mod_lt _ (by decide)
    fin_cases a
    show u % 2 + 1 ≤ 2; omega
theorem s4_inb (u : ℕ) : ∀ a, (![u % 4] : Fin 1 → ℕ) a + S1.size a ≤ S4.size a :=
  fun a => by
    have h1 : u % 4 < 4 := Nat.mod_lt _ (by decide)
    fin_cases a
    show u % 4 + 1 ≤ 4; omega

abbrev s2At (a : DmaSems sig S2) (off : Fin 1 → ℕ) (h : ∀ i, off i + S1.size i ≤ S2.size i) : DmaSem sig :=
  ((a.slice (Rect.unit (s := S2) off S1.size h)).squeeze S_ squeezes_S1_S_).sem
abbrev s4At (a : DmaSems sig S4) (off : Fin 1 → ℕ) (h : ∀ i, off i + S1.size i ≤ S4.size i) : DmaSem sig :=
  ((a.slice (Rect.unit (s := S4) off S1.size h)).squeeze S_ squeezes_S1_S_).sem

abbrev sdA (b : Bool) : DmaSems sig S4 := match b with | false => cc0_scratch9 | true => cc0_scratch11
abbrev rvA (b : Bool) : DmaSems sig S4 := match b with | false => cc0_scratch10 | true => cc0_scratch12
abbrev stA (b : Bool) : DmaSems sig S4 := match b with | false => cc0_scratch13 | true => cc0_scratch14
abbrev crA (b : Bool) : Sems sig S_ := match b with | false => cc0_scratch17 | true => cc0_scratch18

/-- The semaphores use `u` takes: weights, own blocks; a channel's send, landing, storing; the last phase's two. -/
abbrev wdS (u : ℕ) : DmaSem sig := s2At cc0_scratch7 ![u % 2] (s2_inb u)
abbrev esS (u : ℕ) : DmaSem sig := s2At cc0_scratch8 ![u % 2] (s2_inb u)
abbrev sdS (b : Bool) (u : ℕ) : DmaSem sig := s4At (sdA b) ![u % 4] (s4_inb u)
abbrev rvS (b : Bool) (u : ℕ) : DmaSem sig := s4At (rvA b) ![u % 4] (s4_inb u)
abbrev stS (b : Bool) (u : ℕ) : DmaSem sig := s4At (stA b) ![u % 4] (s4_inb u)
abbrev plS (u : ℕ) : DmaSem sig := s4At cc0_scratch19 ![u % 4] (s4_inb u)
abbrev psS (u : ℕ) : DmaSem sig := s4At cc0_scratch20 ![u % 4] (s4_inb u)
abbrev crS (b : Bool) : Sem sig := (crA b).sem
abbrev ssS : DmaSem sig := (cc0_scratch15 : DmaSems sig S_).sem
abbrev srS : DmaSem sig := (cc0_scratch16 : DmaSems sig S_).sem
/-- The runtime's barrier semaphore. -/
abbrev barS : Sem sig := (SemArray.scalar (sig.barrier 0 rfl) : Sems sig S_).sem

abbrev barC (c : Dev nD) : GSem nD τ sig := ((c : Thread nD τ), .reg barS)
abbrev crC (b : Bool) (c : Dev nD) : GSem nD τ sig := ((c : Thread nD τ), .reg (crS b))
abbrev sdC (b : Bool) (c : Dev nD) (u : ℕ) : GSem nD τ sig := ((c : Thread nD τ), .dma (sdS b u))
abbrev rvC (b : Bool) (c : Dev nD) (u : ℕ) : GSem nD τ sig := ((c : Thread nD τ), .dma (rvS b u))
abbrev ssC (c : Dev nD) : GSem nD τ sig := ((c : Thread nD τ), .dma ssS)
abbrev srC (c : Dev nD) : GSem nD τ sig := ((c : Thread nD τ), .dma srS)

/-- The units a transfer of one chunk, of one chunk of the result, of one weight chunk, of a column raises its semaphore by. -/
@[irreducible] def NC : ℕ := (rS false 0).view.dmaCredit
@[irreducible] def NO : ℕ := (oC 0).view.dmaCredit
@[irreducible] def NW : ℕ := (wbS 0).view.dmaCredit
@[irreducible] def NS : ℕ := sM.view.dmaCredit

theorem rS_credit (b : Bool) (off : Fin 3 → ℕ) (h) : (rAt b off h).view.dmaCredit = NC := by unfold NC; cases b <;> rfl
theorem eb_credit (off : Fin 3 → ℕ) (h) : (ebAt off h).view.dmaCredit = NC := by unfold NC; rfl
theorem oC_credit (off : Fin 2 → ℕ) (h) : (oAt off h).view.dmaCredit = NO := by unfold NO; rfl
theorem wb_credit (off : Fin 3 → ℕ) (h) : (wbAt off h).view.dmaCredit = NW := by unfold NW; rfl
theorem sM_credit : sM.view.dmaCredit = NS := by unfold NS; rfl
theorem soM_credit : soM.view.dmaCredit = NS := by unfold NS; rfl
theorem rS_amount (b : Bool) (off : Fin 3 → ℕ) (h) (q : DmaSem sig) : (rAt b off h).view.amount (.dma q) = NC := rS_credit b off h
theorem oC_amount (off : Fin 2 → ℕ) (h) (q : DmaSem sig) : (oAt off h).view.amount (.dma q) = NO := oC_credit off h
theorem wb_amount (off : Fin 3 → ℕ) (h) (q : DmaSem sig) : (wbAt off h).view.amount (.dma q) = NW := wb_credit off h
theorem soM_amount (q : DmaSem sig) : soM.view.amount (.dma q) = NS := soM_credit
theorem NC_pos : 0 < NC := by unfold NC; exact View.dmaCredit_pos _ (by decide)
theorem NO_pos : 0 < NO := by unfold NO; exact View.dmaCredit_pos _ (by decide)
theorem NW_pos : 0 < NW := by unfold NW; exact View.dmaCredit_pos _ (by decide)
theorem NS_pos : 0 < NS := by unfold NS; exact View.dmaCredit_pos _ (by decide)

/-- Which use a printed offset belongs to. -/
theorem off1_eq {k n u : ℕ} (h : n = u % k) : (![n] : Fin 1 → ℕ) = ![u % k] := by rw [h]
theorem off3_eq {k n u : ℕ} (h : n = u % k) : (![n, 0, 0] : Fin 3 → ℕ) = ![u % k, 0, 0] := by rw [h]

/-- Only the slot matters of a use. -/
theorem s2At_congr (a : DmaSems sig S2) {n m : ℕ} (h : n = m) (hn hm) : s2At a ![n] hn = s2At a ![m] hm := by subst h; rfl
theorem s4At_congr (a : DmaSems sig S4) {n m : ℕ} (h : n = m) (hn hm) : s4At a ![n] hn = s4At a ![m] hm := by subst h; rfl
theorem rAt_congr (b : Bool) {n m : ℕ} (h : n = m) (hn hm) : rAt b ![n, 0, 0] hn = rAt b ![m, 0, 0] hm := by subst h; rfl
theorem wbAt_congr {n m : ℕ} (h : n = m) (hn hm) : wbAt ![n, 0, 0] hn = wbAt ![m, 0, 0] hm := by subst h; rfl
theorem ebAt_congr {n m : ℕ} (h : n = m) (hn hm) : ebAt ![n, 0, 0] hn = ebAt ![m, 0, 0] hm := by subst h; rfl
theorem oAt_congr {n m : ℕ} (h : n = m) (hn hm) : oAt ![0, n] hn = oAt ![0, m] hm := by subst h; rfl
theorem wAt_congr {n m : ℕ} (h : n = m) (hn hm) : wAt ![0, n] hn = wAt ![0, m] hm := by subst h; rfl
theorem add4 (u : ℕ) : (u + 4) % 4 = u % 4 := Nat.add_mod_right u 4
theorem add2 (u : ℕ) : (u + 2) % 2 = u % 2 := Nat.add_mod_right u 2

end Cert.Proof.Run

end
-- ==== Proof.Windows.lean ====
/-
# Transfers, loads and stores of windows held at their contents

Each rule takes a window by what it reads (`owns`) and gives it back the same way.
-/
module

public import proofs.«01_k».proof.Proof.Base
public import Idealize.ShloMosaic.Lib.Pipeline.Value

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-- The weakest precondition of a piece of device `c`'s kernel. -/
abbrev WP (c : Dev nD) {α : Type} (p : Prog (TpuEff nD τ sig (Elt F) Λ₀ .tc) α) (Q : α → sProp 𝕄) : sProp 𝕄 :=
  wp frame (wpE (defs₀ (F := F)) Variants.none (c : Thread nD τ) none) Set.univ p Q

/-- A window held at some contents. -/
def raw (c : Dev nD) {sp : Space} {s : Shape} {e : EltTy} (m : Memref sig .tc sp s e) : sProp 𝕄 :=
  iprop(∃ X, owns (c : Thread nD τ) m fullShare X)

instance raw_storable (c : Dev nD) {sp : Space} {s : Shape} {e : EltTy} (m : Memref sig .tc sp s e) :
    Storable (upEmb : UEmb _ 𝕄) (raw c m) := by unfold raw; infer_instance

variable {c : Dev nD} {sp sp' : Space} {s : Shape} {e : EltTy}

theorem raw_intro {m : Memref sig .tc sp s e} {X : s.Idx → Elt F e} :
    (owns (c : Thread nD τ) m fullShare X : sProp 𝕄) ⊢ raw c m := by
  unfold raw; iintro H; iexists X; iexact H

/-- A raw window is its elements at some contents. -/
theorem raw_of_slot {m : Memref sig .tc sp s e} :
    (slot (m.view.loc (c : Thread nD τ)) m.view.set : sProp 𝕄) ⊢ raw c m := by
  unfold raw slot
  iintro ⟨%f, H⟩; iexists _; iapply (owns_intro (c : Thread nD τ) m fullShare f) $$ H
theorem slot_of_raw {m : Memref sig .tc sp s e} :
    (raw c m : sProp 𝕄) ⊢ slot (m.view.loc (c : Thread nD τ)) m.view.set := by
  unfold raw slot owns
  iintro ⟨%X, %f, -, H⟩; iexists f; iexact H

/-- A local transfer between two windows. -/
theorem own_start {src : Memref sig .tc sp s e} {dst : Memref sig .tc sp' s e} {sm : SemLoc sig} {q : PosShare TreeShare} {X : s.Idx → Elt F e}
    {hsrc : src.view.WordExact} {hdst : dst.view.WordExact} {hsem : DmaTarget.Typed (nD := nD) sp sm (.here (p := (.tc : Proc τ)) dst)} {α : Type} {Q : α → sProp 𝕄}
    {k : PUnit → Prog (TpuEff nD τ sig (Elt F) Λ₀ .tc) α} (N : ℕ) (hN : dst.view.amount sm = N) (hN0 : 0 < N) :
    iprop(owns (c : Thread nD τ) src q X ∗ raw c dst ∗ semVal ((c : Thread nD τ), sm) 0)
      ⊢ iprop((Transfers.Flight EC (c : Thread nD τ) sm 0 N iprop(owns (c : Thread nD τ) dst fullShare X ∗ owns (c : Thread nD τ) src q X) -∗ WP c (k ⟨⟩) Q)
        -∗ WP c (.op (.enqueueDma src (.here dst) sm hsrc hdst hsem) k) Q) := by
  unfold raw owns
  iintro ⟨⟨%fs, %hfs, Hs⟩, ⟨%Y, %fd, -, Hd⟩, Hv⟩ Hk
  iapply (Transfers.wp_dmaLocal EC Variants.none (c : Thread nD τ) none 0 N hN hN0 (Finset.Subset.refl _) (fd := fd) (fs := fs)) $$ [Hs Hd Hv]
  · isplitl [Hs]; · iexact Hs
    isplitl [Hd] <;> iassumption
  iintro HF
  iapply Hk
  iapply (Transfers.Flight_mono EC (c : Thread nD τ) ?_) $$ HF
  iintro ⟨Hd, Hs⟩
  isplitl [Hd]
  · iexists _; isplitr; rotate_left; · iexact Hd
    ipureintro
    rw [View.read_write_univ, ← hfs]
  · iexists fs; isplitr; · ipureintro; exact hfs
    iexact Hs

/-- The wait for one. -/
theorem own_wait {s' : Shape} {e' : EltTy} {sem : DmaSem sig} {srcw : Memref sig .tc sp' s' e'} {dstw : Memref sig .tc sp s e}
    {hsrc : srcw.view.WordExact} {hdst : dstw.view.WordExact} {α : Type} {Q : α → sProp 𝕄}
    {k : PUnit → Prog (TpuEff nD τ sig (Elt F) Λ₀ .tc) α} {N : ℕ} (hN : dstw.view.dmaCredit = N) {D : sProp 𝕄}
    {O : CellTallies nD τ sig ℕ} {W : Waits sig ℕ} :
    iprop(Transfers.Flight EC (c : Thread nD τ) (.dma sem) 0 N D ∗ owes (c : Thread nD τ) O W ∗ MayWait (c : Thread nD τ) (.dma sem) 0 O)
      ⊢ iprop((iprop(D ∗ semVal ((c : Thread nD τ), .dma sem) 0 ∗ ∃ W', owes (c : Thread nD τ) O W') -∗ WP c (k ⟨⟩) Q)
          -∗ WP c (.op (.waitDma2 sem srcw dstw hsrc hdst) k) Q) := by
  iintro H Hk
  iapply (Transfers.wp_waitLocalO EC Variants.none (c : Thread nD τ) none 0 hN) $$ H
  iintro ⟨HD, Hs, HO⟩
  iapply Hk
  isplitl [HD]; · iexact HD
  isplitl [Hs]; · iexact Hs
  iexists _; iexact HO

/-- A load of one slot of a buffer, the slot held at its contents behind a squeeze. -/
theorem own_load_slot {cs : CoreSpace} {s' : Shape} {M : Memref sig .tc cs s e} {r : Rect s} {hr : ∀ a, r.stride a = 1} {hq : r.shape.Squeezes s'}
    {q : PosShare TreeShare} {X : s'.Idx → Elt F e} {hl : M.view.LoadsAt r.toLoadRect} {α : Type} {Q : α → sProp 𝕄}
    {k : (r.shape.Idx → Elt F e) → Prog (TpuEff nD τ sig (Elt F) Λ₀ .tc) α} (hc : r.shape.ShapeCasts s') :
    (owns (c : Thread nD τ) ((M.slice r hr).squeeze s' hq) q X : sProp 𝕄)
      ⊢ iprop((∀ v : r.shape.Idx → Elt F e, (⌜shapeCast s' v hc = X⌝ ∗ owns (c : Thread nD τ) ((M.slice r hr).squeeze s' hq) q X) -∗ WP c (k v) Q)
          -∗ WP c (.op (.load M r.toLoadRect hl) k) Q) := by
  unfold owns
  have hset : ((M.slice r hr).squeeze s' hq).view.set = (M.access r).set := View.set_reshape (v := M.view.slice r) hq.numel_eq
  have hl' : ∀ f : Buf (Elt F) ((M.access r).loc (c : Thread nD τ)),
      (((M.slice r hr).squeeze s' hq).view.loc (c : Thread nD τ) ↦[((M.slice r hr).squeeze s' hq).view.set]{q} f : sProp 𝕄)
        = ((M.access r).loc (c : Thread nD τ) ↦[(M.access r).set]{q} f) := fun f => by rw [hset]
  iintro ⟨%f, %hf, H⟩ Hk
  ihave H := (Entails.of_eq (hl' f)) $$ H
  iapply (wp_load_rect Variants.none (c : Thread nD τ) none Set.univ (m := M) (r := r) (S := (M.access r).set) (f := f) (Finset.Subset.refl _)) $$ [H]
  · iexact H
  iintro H
  iapply Hk $$ %_
  isplitr; rotate_left
  · iexists f
    isplitr; · ipureintro; exact hf
    iapply (Entails.of_eq (hl' f).symm) $$ H
  · ipureintro; rw [← hf]; exact (Memref.read_squeeze_slice M r hr hq hc f).symm

/-- A load of one slot whose contents do not matter. -/
theorem raw_load_slot {cs : CoreSpace} {s' : Shape} {M : Memref sig .tc cs s e} {r : Rect s} {hr : ∀ a, r.stride a = 1} {hq : r.shape.Squeezes s'}
    {hl : M.view.LoadsAt r.toLoadRect} {α : Type} {Q : α → sProp 𝕄}
    {k : (r.shape.Idx → Elt F e) → Prog (TpuEff nD τ sig (Elt F) Λ₀ .tc) α} (hc : r.shape.ShapeCasts s') :
    (raw c ((M.slice r hr).squeeze s' hq) : sProp 𝕄)
      ⊢ iprop((∀ v : r.shape.Idx → Elt F e, raw c ((M.slice r hr).squeeze s' hq) -∗ WP c (k v) Q) -∗ WP c (.op (.load M r.toLoadRect hl) k) Q) := by
  unfold raw
  iintro ⟨%Y, H⟩ Hk
  iapply (own_load_slot hc) $$ H
  iintro %v ⟨-, H⟩
  iapply Hk $$ %v
  iexists Y; iexact H

/-- A store over one slot of a buffer. -/
theorem own_store_slot {cs : CoreSpace} {s' : Shape} {M : Memref sig .tc cs s e} {r : Rect s} {hr : ∀ a, r.stride a = 1} {hq : r.shape.Squeezes s'}
    {w : r.shape.Idx → Elt F e} {hx : (M.access r).Stores Finset.univ} {hm : Finset.univ = Finset.univ ∨ ∀ a, r.stride a = 1}
    {α : Type} {Q : α → sProp 𝕄} {k : PUnit → Prog (TpuEff nD τ sig (Elt F) Λ₀ .tc) α} (hc : r.shape.ShapeCasts s') :
    (raw c ((M.slice r hr).squeeze s' hq) : sProp 𝕄)
      ⊢ iprop((owns (c : Thread nD τ) ((M.slice r hr).squeeze s' hq) fullShare (shapeCast s' w hc) -∗ WP c (k ⟨⟩) Q)
          -∗ WP c (.op (.store M r w Finset.univ hx hm) k) Q) := by
  unfold raw owns
  have hset : ((M.slice r hr).squeeze s' hq).view.set = (M.access r).set := View.set_reshape (v := M.view.slice r) hq.numel_eq
  have hl' : ∀ f : Buf (Elt F) ((M.access r).loc (c : Thread nD τ)),
      (((M.slice r hr).squeeze s' hq).view.loc (c : Thread nD τ) ↦[((M.slice r hr).squeeze s' hq).view.set]{fullShare} f : sProp 𝕄)
        = ((M.access r).loc (c : Thread nD τ) ↦[(M.access r).set]{fullShare} f) := fun f => by rw [hset]
  have hw : ∀ f, ((M.slice r hr).squeeze s' hq).view.read (Elt F) ((M.access r).write (Elt F) f w Finset.univ) = shapeCast s' w hc := fun f => by
    have h1 : ((M.slice r hr).squeeze s' hq).view.read (Elt F) ((M.access r).write (Elt F) f w Finset.univ)
        = fun i => (M.access r).read (Elt F) ((M.access r).write (Elt F) f w Finset.univ) (Shape.reshapeEquiv hq.numel_eq i) := rfl
    rw [h1, View.read_write_univ]; rfl
  iintro ⟨%X, %f, -, H⟩ Hk
  ihave H := (Entails.of_eq (hl' f)) $$ H
  iapply (wp_store Variants.none (c : Thread nD τ) none Set.univ (m := M) (r := r) (S := (M.access r).set) (f := f) (Finset.Subset.refl _)) $$ [H]
  · iexact H
  iintro H
  iapply Hk
  iexists ((M.access r).write (Elt F) f w Finset.univ)
  isplitr; · ipureintro; exact hw f
  iapply (Entails.of_eq (hl' _).symm) $$ H

/-- A load and a store of a whole buffer. -/
theorem own_load {cs : CoreSpace} {M : Memref sig .tc cs s e} {r : Rect s} {q : PosShare TreeShare} {X : s.Idx → Elt F e} {hl : M.view.LoadsAt r.toLoadRect} {α : Type}
    {Q : α → sProp 𝕄} {k : (r.shape.Idx → Elt F e) → Prog (TpuEff nD τ sig (Elt F) Λ₀ .tc) α} :
    (owns (c : Thread nD τ) M q X : sProp 𝕄)
      ⊢ iprop((owns (c : Thread nD τ) M q X -∗ WP c (k (fun j => X (r.emb j))) Q) -∗ WP c (.op (.load M r.toLoadRect hl) k) Q) := by
  unfold owns
  iintro ⟨%f, %hf, H⟩ Hk
  iapply (wp_load Variants.none (c : Thread nD τ) none Set.univ (m := M) (S := M.view.set) (f := f)
    (View.setOn_subset_set _ _)) $$ [H]
  · iexact H
  iintro H
  have e1 : M.view.readAt (Elt F) r.toLoadRect f = fun j => X (r.emb j) := by rw [← hf]; rfl
  rw [e1]
  iapply Hk
  iexists f
  isplitr; · ipureintro; exact hf
  iexact H

/-- A rectangle that is all of a shape. -/
theorem emb_full {off : Fin s.rank → ℕ} (h0 : ∀ a, off a = 0) (h) (j : s.Idx) : (Rect.unit (s := s) off s.size h).emb j = j :=
  funext fun a => Fin.ext (by
    show off a + 1 * (j a).val = (j a).val
    rw [h0 a, Nat.zero_add, Nat.one_mul])

theorem own_load_all {cs : CoreSpace} {M : Memref sig .tc cs s e} {off : Fin s.rank → ℕ} {hin} {q : PosShare TreeShare} {X : s.Idx → Elt F e}
    {hl : M.view.LoadsAt (Rect.unit (s := s) off s.size hin).toLoadRect} {α : Type}
    {Q : α → sProp 𝕄} {k : (s.Idx → Elt F e) → Prog (TpuEff nD τ sig (Elt F) Λ₀ .tc) α} (h0 : ∀ a, off a = 0) :
    (owns (c : Thread nD τ) M q X : sProp 𝕄)
      ⊢ iprop((owns (c : Thread nD τ) M q X -∗ WP c (k X) Q) -∗ WP c (.op (.load M (Rect.unit (s := s) off s.size hin).toLoadRect hl) k) Q) := by
  have h := own_load (F := F) (c := c) (M := M) (r := Rect.unit (s := s) off s.size hin) (q := q) (X := X) (hl := hl) (Q := Q) (k := k)
  have e1 : (fun j => X ((Rect.unit (s := s) off s.size hin).emb j)) = X := funext fun j => congrArg X (emb_full h0 hin j)
  rw [e1] at h
  exact h

theorem own_store_all {cs : CoreSpace} {M : Memref sig .tc cs s e} {off : Fin s.rank → ℕ} {hin} {w : s.Idx → Elt F e}
    {hx : (M.access (Rect.unit (s := s) off s.size hin)).Stores Finset.univ}
    {hm : (Finset.univ : Finset (Rect.unit (s := s) off s.size hin).shape.Idx) = Finset.univ ∨ ∀ a, (Rect.unit (s := s) off s.size hin).stride a = 1} {α : Type}
    {Q : α → sProp 𝕄} {k : PUnit → Prog (TpuEff nD τ sig (Elt F) Λ₀ .tc) α} (h0 : ∀ a, off a = 0) :
    (raw c M : sProp 𝕄)
      ⊢ iprop((owns (c : Thread nD τ) M fullShare w -∗ WP c (k ⟨⟩) Q) -∗ WP c (.op (.store M (Rect.unit (s := s) off s.size hin) w Finset.univ hx hm) k) Q) := by
  unfold raw owns
  have hw : ∀ f, M.view.read (Elt F) ((M.access (Rect.unit (s := s) off s.size hin)).write (Elt F) f w Finset.univ) = w := fun f => by
    have h1 := View.read_write_univ (Val := Elt F) (v := M.access (Rect.unit (s := s) off s.size hin)) f w
    refine funext fun j => ?_
    have h2 := congrFun h1 j
    rw [← h2]
    exact congrArg (M.view.read (Elt F) _) (emb_full h0 hin j).symm
  iintro ⟨%Y, %f, -, H⟩ Hk
  iapply (wp_store Variants.none (c : Thread nD τ) none Set.univ (m := M) (r := Rect.unit (s := s) off s.size hin) (S := M.view.set) (f := f) ?_) $$ [H]
  · exact (View.setOn_subset_set _ _).trans (View.set_slice_subset _ _)
  · iexact H
  iintro H
  iapply Hk
  iexists _
  isplitr; · ipureintro; exact hw f
  iexact H

end Cert.Proof.Run

end
-- ==== Proof.Contents.lean ====
/-
# What each window holds

`X d` is device `d`'s rows, `Wt d` its columns of the weights. Block `j` of a device is the exponential of its rows
times 512 of its columns. A result chunk holds the block of the device that computed it until the last phase scales it.
-/
module

public import proofs.«01_k».proof.Proof.Base

@[expose] public section

noncomputable section

namespace Cert.Proof.Run

open Cert.KernelIdeal Cert.KernelIdeal.Gen
open Idealize.ShloMosaic Idealize.ShloMosaic.TcCoe

variable {F : FTy → Type} [FloatOps F]

/-- The block a weight chunk gives. -/
def blockOf (x : Vec F S1024x2048 .f32) (w : Vec F S2048x512 .f32) : FVec F S1024x512 .f32 :=
  exp (matmul dot_S1024x2048_S2048x512_S1024x512_1_0_0_1_n_n none (shapeCast S1024x2048 x shapeCasts_S1024x2048_S1024x2048) w
    (constant S1024x512 .f32 0x00000000#32))

/-- A block scaled by the reciprocal sums of its rows. -/
def scaled (e : FVec F S1024x512 .f32) (inv : Vec F S1024x1 .f32) : FVec F S1024x512 .f32 :=
  mulf e (broadcastTo S1024x512 inv broadcasts_S1024x1_S1024x512)

section
variable (X : Dev nD → Vec F S1024x2048 .f32) (Wt : Dev nD → Vec F S2048x16384 .f32)

/-- Weight chunk `j` of device `d`, and the block it gives. -/
def wch (d : Dev nD) (j : ℕ) : Vec F S2048x512 .f32 := (wC j).view.read (Elt F) (Wt d)
def EV (d : Dev nD) (j : ℕ) : FVec F S1024x512 .f32 := blockOf (X d) (wch Wt d j)

/-- The chunk of columns device `d` computes at step `t`; the result chunk it goes to. -/
def jof (d : Dev nD) (t : ℕ) : ℕ := (t + 16 * cx d) % 32
def gof (d : Dev nD) (t : ℕ) : ℕ := 32 * cy d + jof d t

/-- The row sums after `t` steps; the reciprocals of the whole rows' sums. -/
def SV (d : Dev nD) : ℕ → Vec F S1024x1 .f32
  | 0 => k0_pay30
  | t + 1 => k0_pay3 (EV X Wt d (jof d t)) (SV d t)
def IV (d : Dev nD) : FVec F S1024x1 .f32 := k0_pay31 (SV X Wt d 32) (SV X Wt (py d) 32)

/-- What use `u` of channel `b` brings to `d`; the result chunk it goes to. -/
def RV : Bool → Dev nD → ℕ → FVec F S1024x512 .f32
  | false, d, u => EV X Wt (py d) (jof d u)
  | true, d, u => EV X Wt (py (px d)) (jof (px d) u)
def gst : Bool → Dev nD → ℕ → ℕ
  | false, d, u => 32 * (1 - cy d) + (16 * cx d + u)
  | true, d, u => 32 * (1 - cy d) + (16 * (1 - cx d) + u)

/-- What result chunk `g` of device `d` holds before the last phase, and after. -/
def OV (d : Dev nD) (g : ℕ) : FVec F S1024x512 .f32 :=
  if g / 32 = cy d then EV X Wt d (g % 32)
  else if g % 32 / 16 = cx d then EV X Wt (py d) (g % 32) else EV X Wt (py (px d)) (g % 32)
def NV (d : Dev nD) (g : ℕ) : FVec F S1024x512 .f32 := scaled (OV X Wt d g) (IV X Wt d)

theorem RV_true_px (d : Dev nD) (u : ℕ) : RV X Wt true (px d) u = RV X Wt false d u := by
  show EV X Wt (py (px (px d))) (jof (px (px d)) u) = EV X Wt (py d) (jof d u)
  rw [px_px]

theorem OV_gof (d : Dev nD) (t : ℕ) : OV X Wt d (gof d t) = EV X Wt d (jof d t) := by
  have h1 : jof d t < 32 := Nat.mod_lt _ (by decide)
  have h2 : gof d t / 32 = cy d := by unfold gof; omega
  have h3 : gof d t % 32 = jof d t := by unfold gof; omega
  unfold OV; rw [if_pos h2, h3]

theorem OV_gst (b : Bool) (d : Dev nD) (u : ℕ) (hu : u < 16) : OV X Wt d (gst b d u) = RV X Wt b d u := by
  have hx := cx_lt d
  have hy := cy_lt d
  cases b
  · have h0 : gst false d u = 32 * (1 - cy d) + (16 * cx d + u) := rfl
    have h1 : gst false d u / 32 ≠ cy d := by rw [h0]; omega
    have h2 : gst false d u % 32 / 16 = cx d := by rw [h0]; omega
    have h3 : gst false d u % 32 = jof d u := by rw [h0]; unfold jof; omega
    unfold OV RV; rw [if_neg h1, if_pos h2, h3]
  · have h0 : gst true d u = 32 * (1 - cy d) + (16 * (1 - cx d) + u) := rfl
    have h1 : gst true d u / 32 ≠ cy d := by rw [h0]; omega
    have h2 : gst true d u % 32 / 16 ≠ cx d := by rw [h0]; omega
    have h3 : gst true d u % 32 = jof (px d) u := by rw [h0]; unfold jof; rw [cx_px]; omega
    unfold OV RV; rw [if_neg h1, if_neg h2, h3]

end

/-! ## The printed values are these -/

theorem pay1_eq (x : Vec F S1024x2048 .f32) (v : Vec F S1x2048x512 .f32) (w : Vec F S2048x512 .f32)
    (h : shapeCast S2048x512 v shapeCasts_S1x2048x512_S2048x512 = w) : k0_pay1 x v = blockOf x w := by subst h; rfl
theorem pay12_eq (x : Vec F S1024x2048 .f32) (v : Vec F S1x2048x512 .f32) (w : Vec F S2048x512 .f32)
    (h : shapeCast S2048x512 v shapeCasts_S1x2048x512_S2048x512 = w) : k0_pay12 (k0_pay10 x) (k0_pay11 v) = blockOf x w := by subst h; rfl

theorem cast_uncast (e : FVec F S1024x512 .f32) :
    shapeCast S1024x512 (shapeCast S1x1024x512 e shapeCasts_S1024x512_S1x1024x512) shapeCasts_S1x1024x512_S1024x512 = e :=
  funext fun i => by
    show e (Shape.reshapeEquiv _ (Shape.reshapeEquiv _ i)) = e i
    rw [Shape.reshapeEquiv_reshapeEquiv, Shape.reshapeEquiv_self]

theorem pay27_eq (v : Vec F S1x1024x512 .f32) (i : Vec F S1024x1 .f32) (e : FVec F S1024x512 .f32)
    (h : shapeCast S1024x512 v shapeCasts_S1x1024x512_S1024x512 = e) :
    shapeCast S1024x512 (k0_pay27 v i) shapeCasts_S1x1024x512_S1024x512 = scaled e i := by
  subst h
  exact cast_uncast _

end Cert.Proof.Run

end
-- ==== Proof.Sched.lean ====
/-
# The schedule of the kernel's semaphores

Every semaphore another device raises has rounds: which contributions a round has, how many units each brings, and what
it hands over. A landing semaphore's round `r` of slot `k` belongs to use `4 r + k` of its channel.
-/
module

public import proofs.«01_k».proof.Proof.Windows
public import proofs.«01_k».proof.Proof.Contents

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Which semaphore is which -/

inductive Role where
  | bar | cred (b : Bool) | send (b : Bool) (k : ℕ) | recv (b : Bool) (k : ℕ) | ssend | srecv | other

def role : SemLoc sig → Role
  | .reg s => if s = barS then .bar else if s = crS false then .cred false else if s = crS true then .cred true else .other
  | .dma s =>
    if 5 ≤ s.val ∧ s.val < 9 then .send false (s.val - 5) else if 9 ≤ s.val ∧ s.val < 13 then .recv false (s.val - 9)
    else if 13 ≤ s.val ∧ s.val < 17 then .send true (s.val - 13) else if 17 ≤ s.val ∧ s.val < 21 then .recv true (s.val - 17)
    else if s.val = 29 then .ssend else if s.val = 30 then .srecv else .other

theorem sdS_val (b : Bool) (u : ℕ) : (sdS b u).val = (if b then 13 else 5) + u % 4 := by
  have hf : ∀ u : Fin 4, (sdS false u.val).val = 5 + u.val := by decide
  have ht : ∀ u : Fin 4, (sdS true u.val).val = 13 + u.val := by decide
  have e : sdS b u = sdS b (u % 4) := s4At_congr _ (Nat.mod_mod _ _).symm _ _
  rw [e]
  cases b
  · exact hf ⟨u % 4, Nat.mod_lt _ (by decide)⟩
  · exact ht ⟨u % 4, Nat.mod_lt _ (by decide)⟩
theorem rvS_val (b : Bool) (u : ℕ) : (rvS b u).val = (if b then 17 else 9) + u % 4 := by
  have hf : ∀ u : Fin 4, (rvS false u.val).val = 9 + u.val := by decide
  have ht : ∀ u : Fin 4, (rvS true u.val).val = 17 + u.val := by decide
  have e : rvS b u = rvS b (u % 4) := s4At_congr _ (Nat.mod_mod _ _).symm _ _
  rw [e]
  cases b
  · exact hf ⟨u % 4, Nat.mod_lt _ (by decide)⟩
  · exact ht ⟨u % 4, Nat.mod_lt _ (by decide)⟩

theorem role_bar : role (.reg barS) = .bar := rfl
theorem role_cr (b : Bool) : role (.reg (crS b)) = .cred b := by cases b <;> rfl
theorem role_sd (b : Bool) (u : ℕ) : role (.dma (sdS b u)) = .send b (u % 4) := by
  have h := sdS_val b u
  have h4 : u % 4 < 4 := Nat.mod_lt _ (by decide)
  unfold role
  cases b
  · simp only [Bool.false_eq_true, if_false] at h
    simp only [h]
    rw [if_pos (by omega)]; congr 1; omega
  · simp only [if_true] at h
    simp only [h]
    rw [if_neg (by omega), if_neg (by omega), if_pos (by omega)]; congr 1; omega
theorem role_rv (b : Bool) (u : ℕ) : role (.dma (rvS b u)) = .recv b (u % 4) := by
  have h := rvS_val b u
  have h4 : u % 4 < 4 := Nat.mod_lt _ (by decide)
  unfold role
  cases b
  · simp only [Bool.false_eq_true, if_false] at h
    simp only [h]
    rw [if_neg (by omega), if_pos (by omega)]; congr 1; omega
  · simp only [if_true] at h
    simp only [h]
    rw [if_neg (by omega), if_neg (by omega), if_neg (by omega), if_pos (by omega)]; congr 1; omega
theorem role_ss : role (.dma ssS) = .ssend := rfl
theorem role_sr : role (.dma srS) = .srecv := rfl

/-- A slot's key in the release records. -/
abbrev skey (b : Bool) (d : Dev nD) (u : ℕ) : Dev nD × ℕ := (d, (if b then 4 else 0) + u % 4)

/-- Uses below `n` of channel `b` may land at `d`: their slots are free for them and their landing rounds are open. -/
def Perm (b : Bool) (d : Dev nD) (n : ℕ) : sProp 𝕄 :=
  bigSep (Finset.range n) fun u => iprop(released ES (skey b d u) (u / 4 + 1) ∗ reached ER (rvC b d u) (u / 4))

instance Perm_persistent (b : Bool) (d : Dev nD) (n : ℕ) : BI.Persistent (Perm (F := F) b d n) := by unfold Perm; infer_instance
instance Perm_storable (b : Bool) (d : Dev nD) (n : ℕ) : BI.Storable (upEmb : UEmb _ 𝕄) (Perm (F := F) b d n) := by unfold Perm; infer_instance

theorem Perm_elim {b : Bool} {d : Dev nD} {n u : ℕ} (h : u < n) :
    (Perm b d n : sProp 𝕄) ⊢ iprop(released ES (skey b d u) (u / 4 + 1) ∗ reached ER (rvC b d u) (u / 4)) :=
  bigSep_elim (Finset.mem_range.mpr h)

section
variable (X : Dev nD → Vec F S1024x2048 .f32) (Wt : Dev nD → Vec F S2048x16384 .f32)

/-- The part of a landed chunk the result's copy reads, and the part that is sent on. -/
abbrev qL : PosShare TreeShare := fullShare.left
abbrev qR : PosShare TreeShare := fullShare.right

/-- A landed chunk. -/
abbrev Rown (b : Bool) (c : Dev nD) (q : PosShare TreeShare) (u : ℕ) : sProp 𝕄 := owns (c : Thread nD τ) (rS b u) q (RV X Wt b c u)
/-- An own chunk in the result. -/
abbrev Oown (c : Dev nD) (t : ℕ) : sProp 𝕄 := owns (c : Thread nD τ) (oC (gof c t)) fullShare (EV X Wt c (jof c t))

/-- What the barrier signal of `pc b c` hands to `c`. -/
def barPay (b : Bool) (c : Dev nD) : sProp 𝕄 := iprop(Perm b (pc b c) 4 ∗ (if b then iprop(emp) else raw (py c) soM))

def pay (c : Dev nD) (r d : ℕ) : Role → sProp 𝕄
  | .bar => if d = 0 then barPay false c else barPay true c
  | .cred b => Perm b (pc b c) (d + 5)
  | .send false k => Oown X Wt c (4 * r + k)
  | .send true k => Rown X Wt false c qR (4 * r + k)
  | .recv b k => Rown X Wt b c fullShare (4 * r + k)
  | .ssend => owns (c : Thread nD τ) sM fullShare (SV X Wt c 32)
  | .srecv => owns (c : Thread nD τ) soM fullShare (SV X Wt (py c) 32)
  | .other => iprop(emp)

instance pay_storable (c : Dev nD) (r d : ℕ) (o : Role) : BI.Storable (upEmb : UEmb _ 𝕄) (pay X Wt c r d o) := by
  unfold pay barPay
  (repeat' split) <;> infer_instance

def dutiesOf (r : ℕ) : Role → Finset ℕ
  | .bar => if r = 0 then {0, 1} else ∅
  | .cred _ => if r = 0 then Finset.range 12 else ∅
  | .send _ _ => if r < 4 then {0} else ∅
  | .recv _ _ => if r < 4 then {0} else ∅
  | .ssend => if r = 0 then {0} else ∅
  | .srecv => if r = 0 then {0} else ∅
  | .other => ∅

def amountOf : Role → ℕ
  | .bar => 1
  | .cred _ => 1
  | .send _ _ => NC
  | .recv _ _ => NC
  | .ssend => NS
  | .srecv => NS
  | .other => 1

def Rd : Rounds.Schedule (GSem nD τ sig) ℕ 𝕄 where
  duties g r := dutiesOf r (role g.2)
  amount g _ _ := amountOf (role g.2)
  payload g r d := pay X Wt g.1.1 r d (role g.2)
  amount_pos g _ _ _ := by
    cases role g.2 <;> first | exact Nat.one_pos | exact NC_pos | exact NS_pos

instance Rd_storable (g : GSem nD τ sig) (r d : ℕ) : BI.Storable (upEmb : UEmb _ 𝕄) ((Rd X Wt).payload g r d) :=
  pay_storable X Wt _ _ _ _

variable (c : Dev nD)

theorem Rd_duties (sm : SemLoc sig) (r : ℕ) : (Rd X Wt).duties ((c : Thread nD τ), sm) r = dutiesOf r (role sm) := rfl
theorem Rd_amount (sm : SemLoc sig) (r d : ℕ) : (Rd X Wt).amount ((c : Thread nD τ), sm) r d = amountOf (role sm) := rfl
theorem Rd_payload (sm : SemLoc sig) (r d : ℕ) : (Rd X Wt).payload ((c : Thread nD τ), sm) r d = pay X Wt c r d (role sm) := rfl

theorem duties_bar : (Rd X Wt).duties (barC c) 0 = {0, 1} := rfl
theorem duties_cr (b : Bool) : (Rd X Wt).duties (crC b c) 0 = Finset.range 12 := by rw [Rd_duties, role_cr]; rfl
theorem duties_sd (b : Bool) (u : ℕ) (hu : u < 16) : (Rd X Wt).duties (sdC b c u) (u / 4) = {0} := by
  rw [Rd_duties, role_sd]; exact if_pos (by omega)
theorem duties_rv (b : Bool) (u : ℕ) (hu : u < 16) : (Rd X Wt).duties (rvC b c u) (u / 4) = {0} := by
  rw [Rd_duties, role_rv]; exact if_pos (by omega)
theorem duties_ss : (Rd X Wt).duties (ssC c) 0 = {0} := rfl
theorem duties_sr : (Rd X Wt).duties (srC c) 0 = {0} := rfl

theorem later_bar (g) (h : role g.2 = .bar) : ∀ r, 1 ≤ r → (Rd X Wt).duties g r = ∅ := fun r hr => by
  show dutiesOf r (role g.2) = ∅; rw [h]; exact if_neg (by omega)
theorem later_cr (b) (g) (h : role g.2 = .cred b) : ∀ r, 1 ≤ r → (Rd X Wt).duties g r = ∅ := fun r hr => by
  show dutiesOf r (role g.2) = ∅; rw [h]; exact if_neg (by omega)
theorem later_sd (b k) (g) (h : role g.2 = .send b k) : ∀ r, 4 ≤ r → (Rd X Wt).duties g r = ∅ := fun r hr => by
  show dutiesOf r (role g.2) = ∅; rw [h]; exact if_neg (by omega)
theorem later_rv (b k) (g) (h : role g.2 = .recv b k) : ∀ r, 4 ≤ r → (Rd X Wt).duties g r = ∅ := fun r hr => by
  show dutiesOf r (role g.2) = ∅; rw [h]; exact if_neg (by omega)
theorem later_ss (g) (h : role g.2 = .ssend) : ∀ r, 1 ≤ r → (Rd X Wt).duties g r = ∅ := fun r hr => by
  show dutiesOf r (role g.2) = ∅; rw [h]; exact if_neg (by omega)
theorem later_sr (g) (h : role g.2 = .srecv) : ∀ r, 1 ≤ r → (Rd X Wt).duties g r = ∅ := fun r hr => by
  show dutiesOf r (role g.2) = ∅; rw [h]; exact if_neg (by omega)

theorem amount_bar (d : ℕ) : (Rd X Wt).amount (barC c) 0 d = 1 := rfl
theorem amount_cr (b : Bool) (d : ℕ) : (Rd X Wt).amount (crC b c) 0 d = 1 := by rw [Rd_amount, role_cr]; rfl
theorem amount_sd (b : Bool) (u r d : ℕ) : (Rd X Wt).amount (sdC b c u) r d = NC := by rw [Rd_amount, role_sd]; rfl
theorem amount_rv (b : Bool) (u r d : ℕ) : (Rd X Wt).amount (rvC b c u) r d = NC := by rw [Rd_amount, role_rv]; rfl
theorem amount_ss (d : ℕ) : (Rd X Wt).amount (ssC c) 0 d = NS := rfl
theorem amount_sr (d : ℕ) : (Rd X Wt).amount (srC c) 0 d = NS := rfl

theorem expect_bar : (Rd X Wt).expect (barC c) 0 = 2 := by
  unfold Schedule.expect Schedule.amountOf
  rw [duties_bar, Finset.sum_congr rfl fun d _ => amount_bar X Wt c d]; rfl
theorem expect_cr (b : Bool) : (Rd X Wt).expect (crC b c) 0 = 12 := by
  unfold Schedule.expect Schedule.amountOf
  rw [duties_cr, Finset.sum_congr rfl fun d _ => amount_cr X Wt c b d]; rfl
theorem expect_sd (b : Bool) (u : ℕ) (hu : u < 16) : (Rd X Wt).expect (sdC b c u) (u / 4) = NC := by
  unfold Schedule.expect Schedule.amountOf; rw [duties_sd X Wt c b u hu, Finset.sum_singleton, amount_sd]
theorem expect_rv (b : Bool) (u : ℕ) (hu : u < 16) : (Rd X Wt).expect (rvC b c u) (u / 4) = NC := by
  unfold Schedule.expect Schedule.amountOf; rw [duties_rv X Wt c b u hu, Finset.sum_singleton, amount_rv]
theorem expect_ss : (Rd X Wt).expect (ssC c) 0 = NS := by
  unfold Schedule.expect Schedule.amountOf; rw [duties_ss, Finset.sum_singleton, amount_ss]
theorem expect_sr : (Rd X Wt).expect (srC c) 0 = NS := by
  unfold Schedule.expect Schedule.amountOf; rw [duties_sr, Finset.sum_singleton, amount_sr]

theorem use_eq (u : ℕ) : 4 * (u / 4) + u % 4 = u := by omega

theorem payload_bar (b : Bool) : (Rd X Wt).payload (barC c) 0 (if b then 1 else 0) = barPay b c := by cases b <;> rfl
theorem payload_cr (b : Bool) (d : ℕ) : (Rd X Wt).payload (crC b c) 0 d = Perm b (pc b c) (d + 5) := by rw [Rd_payload, role_cr]; rfl
theorem payload_sdy (u d : ℕ) : (Rd X Wt).payload (sdC false c u) (u / 4) d = Oown X Wt c u := by
  rw [Rd_payload, role_sd]; show Oown X Wt c (4 * (u / 4) + u % 4) = _; rw [use_eq]
theorem rS_add (b : Bool) (u : ℕ) : rS b (u + 4) = rS b u := rAt_congr b (add4 u) _ _
theorem payload_sdx (u d : ℕ) : (Rd X Wt).payload (sdC true c u) (u / 4) d = Rown X Wt false c qR u := by
  rw [Rd_payload, role_sd]; show Rown X Wt false c qR (4 * (u / 4) + u % 4) = _; rw [use_eq]
theorem payload_rv (b : Bool) (u d : ℕ) : (Rd X Wt).payload (rvC b c u) (u / 4) d = Rown X Wt b c fullShare u := by
  rw [Rd_payload, role_rv]; show Rown X Wt b c fullShare (4 * (u / 4) + u % 4) = _; rw [use_eq]
theorem payload_ss (d : ℕ) : (Rd X Wt).payload (ssC c) 0 d = owns (c : Thread nD τ) sM fullShare (SV X Wt c 32) := rfl
theorem payload_sr (d : ℕ) : (Rd X Wt).payload (srC c) 0 d = owns (c : Thread nD τ) soM fullShare (SV X Wt (py c) 32) := rfl

end

end Cert.Proof.Run

end
-- ==== Proof.Levels.lean ====
/-
# What a device still owes, and why it may wait

Every unit a device owes another carries an index, and a device waits for a unit only while all it owes carries greater
ones: chunk `u` of the first channel has `u + 2`, of the second `u + 3`, the slot release after use `m` has `m + 5`, the
column of row sums has 100. What a device waits for of its own making has 0.
-/
module

public import proofs.«01_k».proof.Proof.Sched

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

def L (g : GSem nD τ sig) : Finset ℕ := if g.1.2 = .tc then Finset.range 200 else ∅
def lv (g : GSem nD τ sig) (i : ℕ) : ℕ := i

theorem L_of_ne (g : GSem nD τ sig) (h : g.1.2 ≠ .tc) : L g = ∅ := if_neg h
theorem L_tc (c : Dev nD) (sm : SemLoc sig) : L ((c : Thread nD τ), sm) = Finset.range 200 := if_pos rfl

/-- The index of use `u`'s landing. -/
abbrev iR (b : Bool) (u : ℕ) : ℕ := if b then u + 3 else u + 2

/-- The chunks still to be sent on channel `b`; the releases still to be signalled; the column; the barrier's units. -/
def owR (c : Dev nD) (b : Bool) (s : ℕ) : CellTallies nD τ sig ℕ := ∑ u ∈ Finset.Ico s 16, tallyAt (rvC b (pc b c) u) (iR b u) NC
def owL (c : Dev nD) (b : Bool) (l : ℕ) : CellTallies nD τ sig ℕ := ∑ m ∈ Finset.Ico l 12, tallyAt (crC b (pc b c)) (m + 5) 1
def owS (c : Dev nD) : CellTallies nD τ sig ℕ := tallyAt (srC (py c)) 100 NS
def owB (c : Dev nD) (b : Bool) : CellTallies nD τ sig ℕ := tallyAt (barC (pc b c)) 1 1

def owM (c : Dev nD) (ys xs yl xl : ℕ) : CellTallies nD τ sig ℕ :=
  owR c false ys + owR c true xs + owL c false yl + owL c true xl + owS c

theorem ico_insert {a b : ℕ} (h : a < b) : Finset.Ico a b = insert a (Finset.Ico (a + 1) b) :=
  Finset.ext fun i => by rw [Finset.mem_insert, Finset.mem_Ico, Finset.mem_Ico]; omega
theorem ico_insert_right {a b : ℕ} (h : a ≤ b) : Finset.Ico a (b + 1) = insert b (Finset.Ico a b) :=
  Finset.ext fun i => by rw [Finset.mem_insert, Finset.mem_Ico, Finset.mem_Ico]; omega
theorem ico_not_left (a b : ℕ) : a ∉ Finset.Ico (a + 1) b := fun h => by have := (Finset.mem_Ico.mp h).1; omega
theorem ico_not_right (a b : ℕ) : b ∉ Finset.Ico a b := fun h => by have := (Finset.mem_Ico.mp h).2; omega

theorem owR_pop (c : Dev nD) (b : Bool) {s : ℕ} (h : s < 16) :
    owR c b s = owR c b (s + 1) + tallyAt (rvC b (pc b c) s) (iR b s) NC := by
  unfold owR; rw [ico_insert h, Finset.sum_insert (ico_not_left _ _), add_comm]
theorem owL_pop (c : Dev nD) (b : Bool) {l : ℕ} (h : l < 12) :
    owL c b l = owL c b (l + 1) + tallyAt (crC b (pc b c)) (l + 5) 1 := by
  unfold owL; rw [ico_insert h, Finset.sum_insert (ico_not_left _ _), add_comm]
theorem owR_end (c : Dev nD) (b : Bool) : owR c b 16 = 0 := Finset.sum_empty
theorem owL_end (c : Dev nD) (b : Bool) : owL c b 12 = 0 := Finset.sum_empty

theorem owM_popY (c : Dev nD) {ys xs yl xl : ℕ} (h : ys < 16) :
    owM c ys xs yl xl = owM c (ys + 1) xs yl xl + tallyAt (rvC false (py c) ys) (ys + 2) NC := by
  unfold owM; rw [owR_pop c false h]
  show _ + tallyAt (rvC false (py c) ys) (ys + 2) NC + _ + _ + _ + _ = _
  ac_rfl
theorem owM_popX (c : Dev nD) {ys xs yl xl : ℕ} (h : xs < 16) :
    owM c ys xs yl xl = owM c ys (xs + 1) yl xl + tallyAt (rvC true (px c) xs) (xs + 3) NC := by
  unfold owM; rw [owR_pop c true h]
  show _ + (_ + tallyAt (rvC true (px c) xs) (xs + 3) NC) + _ + _ + _ = _
  ac_rfl
theorem owM_popYl (c : Dev nD) {ys xs yl xl : ℕ} (h : yl < 12) :
    owM c ys xs yl xl = owM c ys xs (yl + 1) xl + tallyAt (crC false (py c)) (yl + 5) 1 := by
  unfold owM; rw [owL_pop c false h]
  show _ + _ + (_ + tallyAt (crC false (py c)) (yl + 5) 1) + _ + _ = _
  ac_rfl
theorem owM_popXl (c : Dev nD) {ys xs yl xl : ℕ} (h : xl < 12) :
    owM c ys xs yl xl = owM c ys xs yl (xl + 1) + tallyAt (crC true (px c)) (xl + 5) 1 := by
  unfold owM; rw [owL_pop c true h]
  show _ + _ + _ + (_ + tallyAt (crC true (px c)) (xl + 5) 1) + _ = _
  ac_rfl
theorem owM_end (c : Dev nD) : owM c 16 16 12 12 = owS c := by
  unfold owM; rw [owR_end, owR_end, owL_end, owL_end, zero_add, zero_add, zero_add, zero_add]

/-- All that is owed to a core and carries an index above `b`. -/
def Above (O : CellTallies nD τ sig ℕ) (b : ℕ) : Prop := ∀ g i, 0 < O g i → g.1.2 = .tc ∧ b < i ∧ i < 200

theorem Above_zero (b : ℕ) : Above 0 b := fun g i h => absurd h (Nat.lt_irrefl 0)
theorem Above_add {O₁ O₂ : CellTallies nD τ sig ℕ} {b : ℕ} (h₁ : Above O₁ b) (h₂ : Above O₂ b) : Above (O₁ + O₂) b := fun g i h => by
  rw [Pi.add_apply, Finsupp.add_apply] at h
  rcases Nat.eq_zero_or_pos (O₁ g i) with h0 | h0
  · rw [h0, Nat.zero_add] at h; exact h₂ g i h
  · exact h₁ g i h0
theorem Above_tally {c : Dev nD} {sm : SemLoc sig} {i n b : ℕ} (h : b < i) (h' : i < 200) : Above (tallyAt ((c : Thread nD τ), sm) i n) b := fun g j hj => by
  rw [tallyAt_apply] at hj
  by_cases e : g = ((c : Thread nD τ), sm) ∧ j = i
  · rw [e.1, e.2]; exact ⟨rfl, h, h'⟩
  · rw [if_neg e] at hj; exact absurd hj (Nat.lt_irrefl 0)
theorem Above_sum {s : Finset ℕ} {f : ℕ → CellTallies nD τ sig ℕ} {b : ℕ} (h : ∀ u ∈ s, Above (f u) b) : Above (∑ u ∈ s, f u) b := by
  classical
  induction s using Finset.induction_on with
  | empty => exact Above_zero b
  | insert u s hu ih =>
    rw [Finset.sum_insert hu]
    exact Above_add (h u (Finset.mem_insert_self _ _)) (ih fun v hv => h v (Finset.mem_insert_of_mem hv))

theorem Above_owR (c : Dev nD) (b : Bool) {s ι : ℕ} (h : 16 ≤ s ∨ ι < iR b s) : Above (owR c b s) ι :=
  Above_sum fun u hu => by
    have hu := Finset.mem_Ico.mp hu
    have h1 : ι < iR b u ∧ iR b u < 200 := by
      cases b <;> simp only [iR, if_true, if_false, Bool.false_eq_true] at h ⊢ <;> omega
    exact Above_tally h1.1 h1.2
theorem Above_owL (c : Dev nD) (b : Bool) {l ι : ℕ} (h : 12 ≤ l ∨ ι < l + 5) : Above (owL c b l) ι :=
  Above_sum fun u hu => by
    have hu := Finset.mem_Ico.mp hu
    exact Above_tally (by omega) (by omega)
theorem Above_owM (c : Dev nD) {ys xs yl xl ι : ℕ} (h1 : 16 ≤ ys ∨ ι < ys + 2) (h2 : 16 ≤ xs ∨ ι < xs + 3) (h3 : 12 ≤ yl ∨ ι < yl + 5)
    (h4 : 12 ≤ xl ∨ ι < xl + 5) (h5 : ι < 100) : Above (owM c ys xs yl xl) ι := by
  unfold owM
  exact Above_add (Above_add (Above_add (Above_add (Above_owR c false h1) (Above_owR c true h2)) (Above_owL c false h3)) (Above_owL c true h4))
    (Above_tally h5 (by decide))

theorem mayWait {c : Dev nD} {sm : SemLoc sig} {ι : ℕ} {O : CellTallies nD τ sig ℕ} (hι : ι < 200) (h : Above O ι) :
    (levAts L lv : sProp 𝕄) ⊢ MayWait (c : Thread nD τ) sm ι O :=
  MayOwe.of_cut (L := L) (lev := lv) ι
    (fun p hp => by rw [Finset.mem_singleton.mp hp, L_tc]; exact Finset.mem_range.mpr hι)
    (fun g i hg => by
      obtain ⟨h1, h2, h3⟩ := h g i hg
      unfold L; rw [if_pos h1]; exact Finset.mem_range.mpr h3)
    (fun p hp => by rw [Finset.mem_singleton.mp hp]; exact le_rfl)
    (fun g i hg => (h g i hg).2.1)

theorem mayM {c : Dev nD} {sm : SemLoc sig} {ys xs yl xl ι : ℕ} (h1 : 16 ≤ ys ∨ ι < ys + 2) (h2 : 16 ≤ xs ∨ ι < xs + 3) (h3 : 12 ≤ yl ∨ ι < yl + 5)
    (h4 : 12 ≤ xl ∨ ι < xl + 5) (h5 : ι < 100) : (levAts L lv : sProp 𝕄) ⊢ MayWait (c : Thread nD τ) sm ι (owM c ys xs yl xl) :=
  mayWait (Nat.lt_trans h5 (by omega)) (Above_owM c h1 h2 h3 h4 h5)

end Cert.Proof.Run

end
-- ==== Proof.State.lean ====
/-
# The state of a device between two steps

A device's resources are counted by positions: how many chunks have been asked for, awaited, computed, sent, landed,
stored, released. Each family is one resource per use over an interval of uses, and a step moves one use from one
interval to the next.
-/
module

public import proofs.«01_k».proof.Proof.Levels

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over intervals -/

omit [FloatOps F] in
theorem ico_pop {a b : ℕ} (h : a < b) (Φ : ℕ → sProp 𝕄) :
    bigSep (Finset.Ico a b) Φ ⊢ iprop(Φ a ∗ bigSep (Finset.Ico (a + 1) b) Φ) := by
  rw [ico_insert h, bigSep_insert (ico_not_left _ _)]; exact .rfl
omit [FloatOps F] in
theorem ico_unpop {a b : ℕ} (h : a < b) (Φ : ℕ → sProp 𝕄) :
    iprop(Φ a ∗ bigSep (Finset.Ico (a + 1) b) Φ) ⊢ bigSep (Finset.Ico a b) Φ := by
  rw [ico_insert h, bigSep_insert (ico_not_left _ _)]; exact .rfl
omit [FloatOps F] in
theorem ico_push {a b : ℕ} (h : a ≤ b) (Φ : ℕ → sProp 𝕄) :
    iprop(bigSep (Finset.Ico a b) Φ ∗ Φ b) ⊢ bigSep (Finset.Ico a (b + 1)) Φ := by
  rw [ico_insert_right h, bigSep_insert (ico_not_right _ _)]; exact sep_comm.1
omit [FloatOps F] in
theorem range_push {b : ℕ} (Φ : ℕ → sProp 𝕄) :
    iprop(bigSep (Finset.range b) Φ ∗ Φ b) ⊢ bigSep (Finset.range (b + 1)) Φ := by
  rw [Finset.range_add_one, bigSep_insert Finset.notMem_range_self]; exact sep_comm.1
omit [FloatOps F] in
/-- The first of an interval set aside and given back. -/
theorem ico_peek {a b : ℕ} (h : a < b) (Φ : ℕ → sProp 𝕄) :
    bigSep (Finset.Ico a b) Φ ⊢ iprop(Φ a ∗ (Φ a -∗ bigSep (Finset.Ico a b) Φ)) := by
  iintro H
  ihave H := (ico_pop h Φ) $$ H
  icases H with ⟨H, HR⟩
  isplitl [H]; · iexact H
  iintro H
  iapply (ico_unpop h Φ)
  isplitl [H] <;> iassumption
omit [FloatOps F] in
theorem ico_empty (a : ℕ) (Φ : ℕ → sProp 𝕄) : (emp : sProp 𝕄) ⊢ bigSep (Finset.Ico a a) Φ := by
  rw [Finset.Ico_self, bigSep_empty]; exact .rfl

/-! ## The names of the invariants -/

/-- A device's cells with rounds: the barrier; the two credits; the sends and landings of a channel's slots; the
    column's two. -/
abbrev Ky : Type := Unit ⊕ (Bool ⊕ ((Bool × (Bool × Fin 4)) ⊕ Bool))

instance Ky_dec : DecidableEq (Dev nD × Ky) := instDecidableEqProd

def kc : Ky → SemLoc sig
  | .inl _ => .reg barS
  | .inr (.inl b) => .reg (crS b)
  | .inr (.inr (.inl (true, b, k))) => .dma (sdS b k.val)
  | .inr (.inr (.inl (false, b, k))) => .dma (rvS b k.val)
  | .inr (.inr (.inr true)) => .dma ssS
  | .inr (.inr (.inr false)) => .dma srS

abbrev f4 (u : ℕ) : Fin 4 := ⟨u % 4, Nat.mod_lt _ (by decide)⟩
abbrev kBar : Ky := .inl ()
abbrev kCr (b : Bool) : Ky := .inr (.inl b)
abbrev kSd (b : Bool) (u : ℕ) : Ky := .inr (.inr (.inl (true, b, f4 u)))
abbrev kRv (b : Bool) (u : ℕ) : Ky := .inr (.inr (.inl (false, b, f4 u)))
abbrev kSs : Ky := .inr (.inr (.inr true))
abbrev kSr : Ky := .inr (.inr (.inr false))

theorem kc_sd (b : Bool) (u : ℕ) : kc (kSd b u) = .dma (sdS b u) :=
  congrArg SemLoc.dma (s4At_congr (sdA b) (Nat.mod_mod u 4) _ _)
theorem kc_rv (b : Bool) (u : ℕ) : kc (kRv b u) = .dma (rvS b u) :=
  congrArg SemLoc.dma (s4At_congr (rvA b) (Nat.mod_mod u 4) _ _)

section
variable (X : Dev nD → Vec F S1024x2048 .f32) (Wt : Dev nD → Vec F S2048x16384 .f32)
variable (K : Dev nD × Ky → ℕ) (J : Dev nD × (Bool × Fin 4) → ℕ)

/-- What every device may open: the level facts, the cells' invariants, the slots' invariants. -/
def Env : sProp 𝕄 :=
  iprop(levAts L lv
    ∗ bigSep Finset.univ (fun p : Dev nD × Ky => cellInv ER (Rd X Wt) (K p) ((p.1 : Thread nD τ), kc p.2))
    ∗ bigSep Finset.univ (fun p : Dev nD × (Bool × Fin 4) => slotInv ES (J p) (skey p.2.1 p.1 p.2.2.val) (raw p.1 (rS p.2.1 p.2.2.val))))

instance Env_persistent : BI.Persistent (Env X Wt K J) := by unfold Env; infer_instance

theorem Env_lev : Env X Wt K J ⊢ levAts L lv := by unfold Env; exact sep_elim_left
theorem Env_cell (d : Dev nD) (k : Ky) : Env X Wt K J ⊢ cellInv ER (Rd X Wt) (K (d, k)) ((d : Thread nD τ), kc k) := by
  unfold Env
  exact sep_elim_right.trans (sep_elim_left.trans (bigSep_elim (Finset.mem_univ (d, k))))
theorem Env_bar (d : Dev nD) : Env X Wt K J ⊢ cellInv ER (Rd X Wt) (K (d, kBar)) (barC d) := Env_cell X Wt K J d kBar
theorem Env_cr (b : Bool) (d : Dev nD) : Env X Wt K J ⊢ cellInv ER (Rd X Wt) (K (d, kCr b)) (crC b d) := Env_cell X Wt K J d (kCr b)
theorem Env_sd (b : Bool) (d : Dev nD) (u : ℕ) : Env X Wt K J ⊢ cellInv ER (Rd X Wt) (K (d, kSd b u)) (sdC b d u) := by
  have h := Env_cell X Wt K J d (kSd b u)
  rw [kc_sd] at h; exact h
theorem Env_rv (b : Bool) (d : Dev nD) (u : ℕ) : Env X Wt K J ⊢ cellInv ER (Rd X Wt) (K (d, kRv b u)) (rvC b d u) := by
  have h := Env_cell X Wt K J d (kRv b u)
  rw [kc_rv] at h; exact h
theorem Env_ss (d : Dev nD) : Env X Wt K J ⊢ cellInv ER (Rd X Wt) (K (d, kSs)) (ssC d) := Env_cell X Wt K J d kSs
theorem Env_sr (d : Dev nD) : Env X Wt K J ⊢ cellInv ER (Rd X Wt) (K (d, kSr)) (srC d) := Env_cell X Wt K J d kSr
theorem Env_slot (b : Bool) (d : Dev nD) (u : ℕ) : Env X Wt K J ⊢ slotInv ES (J (d, b, f4 u)) (skey b d u) (raw d (rS b u)) := by
  have h : Env X Wt K J ⊢ slotInv ES (J (d, b, f4 u)) (skey b d (u % 4)) (raw d (rS b (u % 4))) := by
    unfold Env
    exact sep_elim_right.trans (sep_elim_right.trans (bigSep_elim (Finset.mem_univ (d, b, f4 u))))
  rw [show rS b (u % 4) = rS b u from rAt_congr b (Nat.mod_mod u 4) _ _, show skey b d (u % 4) = skey b d u by unfold skey; rw [Nat.mod_mod]] at h
  exact h

/-! ## Positions -/

/-- Weight chunks: dropped, landed, asked for. -/
structure PW where
  (h b a : ℕ)
/-- Own blocks: stored, asked to be stored, computed. -/
structure PE where
  (h a f : ℕ)
/-- A channel: sent, sends awaited, credits awaited, landed, asked to be stored, stored, released. -/
structure PC where
  (s w k r a z l : ℕ)

variable (c : Dev nD)

/-! ## Weight chunks -/

abbrev wdV (t : ℕ) : sProp 𝕄 := semVal ((c : Thread nD τ), .dma (wdS t)) 0
abbrev wOwn (t : ℕ) : sProp 𝕄 := owns (c : Thread nD τ) (wbS t) fullShare (wch Wt c (jof c t))
abbrev wSrc (t : ℕ) : sProp 𝕄 := owns (c : Thread nD τ) (wC (jof c t)) fullShare (wch Wt c (jof c t))
abbrev wHeld (t : ℕ) : sProp 𝕄 := iprop(wOwn Wt c t ∗ wdV c t)
abbrev wFly (t : ℕ) : sProp 𝕄 := Transfers.Flight EC (c : Thread nD τ) (.dma (wdS t)) 0 NW iprop(wOwn Wt c t ∗ wSrc Wt c t)
abbrev wFree (t : ℕ) : sProp 𝕄 := iprop(raw c (wbS t) ∗ wdV c t)

def CW (p : PW) : sProp 𝕄 :=
  iprop(bigSep (Finset.Ico p.h p.b) (wHeld Wt c) ∗ bigSep (Finset.Ico p.b p.a) (wFly Wt c) ∗ bigSep (Finset.Ico p.a (p.h + 2)) (wFree c)
    ∗ bigSep (Finset.range p.b) (wSrc Wt c) ∗ bigSep (Finset.Ico p.a 32) (wSrc Wt c))

/-! ## Own blocks -/

abbrev esV (t : ℕ) : sProp 𝕄 := semVal ((c : Thread nD τ), .dma (esS t)) 0
abbrev eOwn (t : ℕ) : sProp 𝕄 := owns (c : Thread nD τ) (ebS t) fullShare (EV X Wt c (jof c t))
abbrev eFly (t : ℕ) : sProp 𝕄 := Transfers.Flight EC (c : Thread nD τ) (.dma (esS t)) 0 NO iprop(Oown X Wt c t ∗ eOwn X Wt c t)
abbrev eFull (t : ℕ) : sProp 𝕄 := iprop(eOwn X Wt c t ∗ esV c t)
abbrev eFree (t : ℕ) : sProp 𝕄 := iprop(raw c (ebS t) ∗ esV c t)
abbrev oRaw (t : ℕ) : sProp 𝕄 := raw c (oC (gof c t))

def CE (p : PE) : sProp 𝕄 :=
  iprop(bigSep (Finset.Ico p.h p.a) (eFly X Wt c) ∗ bigSep (Finset.Ico p.a p.f) (eFull X Wt c) ∗ bigSep (Finset.Ico p.f (p.h + 2)) (eFree c)
    ∗ bigSep (Finset.Ico p.a 32) (oRaw c))

/-- The own chunks stored and not being sent. -/
def COwn (e : PE) (y : PC) : sProp 𝕄 :=
  iprop(bigSep (Finset.range y.w) (Oown X Wt c) ∗ bigSep (Finset.Ico y.s e.h) (Oown X Wt c))

/-! ## A channel -/

abbrev sdPos (b : Bool) (u : ℕ) : sProp 𝕄 := iprop(atPos ER (sdC b c u) (u / 4) ∅ 0 ∗ reached ER (sdC b c u) (u / 4))
abbrev sdCred (b : Bool) (u : ℕ) : sProp 𝕄 := cred (tallyAt (sdC b c u) 0 NC)
abbrev sdTok (b : Bool) (u : ℕ) : sProp 𝕄 :=
  iprop(dutyTok ER (sdC b c u) (u / 4) 0 ∗ dutyTok ER (rvC b (pc b c) u) (u / 4) 0 ∗ writeTok ES (skey b (pc b c) u) (u / 4 + 1))

/-- Sends: the positions of the next four; the credit of those under way; the tokens of those to come. -/
def Snd (b : Bool) (s w : ℕ) : sProp 𝕄 :=
  iprop(bigSep (Finset.Ico w (w + 4)) (sdPos c b) ∗ bigSep (Finset.Ico w s) (sdCred c b) ∗ bigSep (Finset.Ico s 16) (sdTok c b))

abbrev crCred (b : Bool) (m : ℕ) : sProp 𝕄 := cred (tallyAt (crC b c) (m + 5) 1)
/-- Where the credit's round stands after `k` units of its twelve. -/
def crPos (b : Bool) (k : ℕ) : sProp 𝕄 :=
  if k < 12 then iprop(∃ T : Finset ℕ, ⌜T ⊆ Finset.range 12 ∧ k ≤ T.card⌝ ∗ atPos ER (crC b c) 0 T k ∗ bigSep T (fun d => Perm b (pc b c) (d + 5)))
  else atPos ER (crC b c) 1 ∅ 0
def Crd (b : Bool) (k : ℕ) : sProp 𝕄 :=
  iprop(bigSep (Finset.Ico k 12) (crCred c b) ∗ crPos c b k ∗ Perm b (pc b c) (k + 4))

abbrev rvPos (b : Bool) (u : ℕ) : sProp 𝕄 := atPos ER (rvC b c u) (u / 4) ∅ 0
abbrev rvOpen (b : Bool) (u : ℕ) : sProp 𝕄 := reached ER (rvC b c u) (u / 4)
abbrev rvCred (b : Bool) (u : ℕ) : sProp 𝕄 := cred (tallyAt (rvC b c u) (iR b u) NC)
def Rcv (b : Bool) (r : ℕ) : sProp 𝕄 :=
  iprop(bigSep (Finset.Ico r (r + 4)) (rvPos c b) ∗ bigSep (Finset.range (r + 4)) (rvOpen c b) ∗ bigSep (Finset.Ico r 16) (rvCred c b))

abbrev rdr (b : Bool) (u : ℕ) : sProp 𝕄 := readerAt ES (skey b c u) (u / 4 + 1)
abbrev rlsd (b : Bool) (u : ℕ) : sProp 𝕄 := released ES (skey b c u) (u / 4 + 1)
abbrev crTok (b : Bool) (m : ℕ) : sProp 𝕄 := dutyTok ER (crC b (pc b c)) 0 m
def Rel (b : Bool) (l : ℕ) : sProp 𝕄 :=
  iprop(bigSep (Finset.Ico l (l + 4)) (rdr c b) ∗ bigSep (Finset.range (l + 4)) (rlsd c b) ∗ bigSep (Finset.Ico l 12) (crTok c b)
    ∗ reached ER (crC b (pc b c)) 0)

abbrev stV (b : Bool) (u : ℕ) : sProp 𝕄 := semVal ((c : Thread nD τ), .dma (stS b u)) 0
abbrev oGot (b : Bool) (u : ℕ) : sProp 𝕄 := owns (c : Thread nD τ) (oC (gst b c u)) fullShare (RV X Wt b c u)
abbrev oGap (b : Bool) (u : ℕ) : sProp 𝕄 := raw c (oC (gst b c u))
abbrev stFly (b : Bool) (u : ℕ) : sProp 𝕄 :=
  Transfers.Flight EC (c : Thread nD τ) (.dma (stS b u)) 0 NO iprop(oGot X Wt c b u ∗ Rown X Wt b c qL u)
def Rst (b : Bool) (z a : ℕ) : sProp 𝕄 :=
  iprop(bigSep (Finset.Ico z a) (stFly X Wt c b) ∗ bigSep (Finset.Ico a (z + 4)) (stV c b) ∗ bigSep (Finset.Ico a 16) (oGap c b)
    ∗ bigSep (Finset.range z) (oGot X Wt c b))

def Ch (b : Bool) (p : PC) : sProp 𝕄 :=
  iprop(Snd c b p.s p.w ∗ Crd c b p.k ∗ Rcv c b p.r ∗ Rel c b p.l ∗ Rst X Wt c b p.z p.a)

/-- The landed chunks: the half the storing copy reads, and the half that is sent on. -/
def LandL (b : Bool) (p : PC) : sProp 𝕄 :=
  iprop(bigSep (Finset.Ico p.l p.z) (Rown X Wt b c qL) ∗ bigSep (Finset.Ico p.a p.r) (Rown X Wt b c qL))
def LandY (y x : PC) : sProp 𝕄 :=
  iprop(bigSep (Finset.Ico y.l x.w) (Rown X Wt false c qR) ∗ bigSep (Finset.Ico x.s y.r) (Rown X Wt false c qR))
def LandX (x : PC) : sProp 𝕄 := bigSep (Finset.Ico x.l x.r) (Rown X Wt true c qR)

/-! ## The rest -/

/-- The rows' block, the row sums so far, the reciprocals' buffer. -/
def CS (n : ℕ) : sProp 𝕄 :=
  iprop(owns (c : Thread nD τ) xM fullShare (X c) ∗ owns (c : Thread nD τ) sM fullShare (SV X Wt c n) ∗ raw c ivM)

/-- What the exchange of the row sums starts from. -/
def CX : sProp 𝕄 :=
  iprop(atPos ER (ssC c) 0 ∅ 0 ∗ atPos ER (srC c) 0 ∅ 0 ∗ dutyTok ER (ssC c) 0 0 ∗ dutyTok ER (srC (py c)) 0 0
    ∗ reached ER (ssC c) 0 ∗ reached ER (srC (py c)) 0 ∗ cred (tallyAt (srC c) 100 NS) ∗ raw (py c) soM)

def Ow (O : CellTallies nD τ sig ℕ) : sProp 𝕄 := iprop(∃ W, owes (c : Thread nD τ) O W)

def St (w : PW) (e : PE) (y x : PC) (n : ℕ) : sProp 𝕄 :=
  iprop(Env X Wt K J ∗ Ow c (owM c y.s x.s y.l x.l) ∗ CW Wt c w ∗ CE X Wt c e ∗ COwn X Wt c e y ∗ Ch X Wt c false y ∗ Ch X Wt c true x
    ∗ LandL X Wt c false y ∗ LandL X Wt c true x ∗ LandY X Wt c y x ∗ LandX X Wt c x ∗ CS X Wt c n)

end

end Cert.Proof.Run

end
-- ==== Proof.OpsW.lean ====
/-
# One step on the weight chunks and on the own blocks
-/
module

public import proofs.«01_k».proof.Proof.State

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}
variable {α : Type}
variable {h b a n : ℕ} {w : PW} {e : PE} {y x : PC}

set_option maxRecDepth 100000 in
/-- A device may always wait for what it started itself. -/
theorem may0 {ys xs yl xl : ℕ} {sm : SemLoc sig} : Env X Wt K J ⊢ MayWait (c : Thread nD τ) sm 0 (owM c ys xs yl xl) := by
  have h : (levAts L lv : sProp 𝕄) ⊢ MayWait (c : Thread nD τ) sm 0 (owM c ys xs yl xl) :=
    mayM (Or.inr (Nat.succ_pos _)) (Or.inr (Nat.succ_pos _)) (Or.inr (Nat.succ_pos _)) (Or.inr (Nat.succ_pos _)) (Nat.succ_pos _)
  iintro H
  iapply h
  iapply (Env_lev X Wt K J) $$ H

/-! ## Weight chunks -/

theorem w_start {off hin s hs hs' hsrc hdst hsem} {k : PUnit → Prog (TpuEff nD τ sig (Elt F) Λ₀ .tc) α} {Q : α → sProp 𝕄}
    (hoff : off = ![0, 512 * (jof c a % 32)]) (hs₀ : s = a % 2) (hb : b ≤ a) (h2 : a < h + 2) (h32 : a < 32)
    (hk : St X Wt K J c ⟨h, b, a + 1⟩ e y x n ⊢ WP c (k ⟨⟩) Q) :
    St X Wt K J c ⟨h, b, a⟩ e y x n
      ⊢ WP c (.op (.enqueueDma (wAt off hin) (.here (wbAt ![s, 0, 0] hs)) (.dma (s2At cc0_scratch7 ![s] hs')) hsrc hdst hsem) k) Q := by
  subst hoff hs₀
  unfold St CW at hk ⊢
  iintro ⟨#HE, HO, ⟨Hh, Hf, Hr, Hs1, Hs2⟩, HR⟩
  ihave Hr := (ico_pop h2 (wFree c)) $$ Hr
  icases Hr with ⟨⟨Hr, Hv⟩, Hr'⟩
  ihave Hs2 := (ico_pop h32 (wSrc Wt c)) $$ Hs2
  icases Hs2 with ⟨Hs, Hs2⟩
  iapply (own_start NW (wb_amount _ _ _) NW_pos (X := wch Wt c (jof c a))) $$ [Hs Hr Hv]
  · isplitl [Hs]; · iexact Hs
    isplitl [Hr] <;> iassumption
  iintro HF
  ihave Hf := (ico_push hb (wFly Wt c)) $$ [Hf HF]
  · isplitl [Hf] <;> iassumption
  iapply hk
  isplitr; · iexact HE
  isplitl [HO]; · iexact HO
  isplitr [HR]
  · isplitl [Hh]; · iexact Hh
    isplitl [Hf]; · iexact Hf
    isplitl [Hr']; · iexact Hr'
    isplitl [Hs1]; · iexact Hs1
    iexact Hs2
  · iexact HR

theorem w_wait {sp' : Space} {s' : Shape} {e' : EltTy} {srcw : Memref sig .tc sp' s' e'} {s hs hs' hsrc hdst} {k : PUnit → Prog (TpuEff nD τ sig (Elt F) Λ₀ .tc) α} {Q : α → sProp 𝕄}
    (hs₀ : s = b % 2) (hb : b < a) (hh : h ≤ b)
    (hk : St X Wt K J c ⟨h, b + 1, a⟩ e y x n ⊢ WP c (k ⟨⟩) Q) :
    St X Wt K J c ⟨h, b, a⟩ e y x n
      ⊢ WP c (.op (.waitDma2 (s2At cc0_scratch7 ![s] hs') srcw (wbAt ![s, 0, 0] hs) hsrc hdst) k) Q := by
  subst hs₀
  unfold St CW Ow at hk ⊢
  iintro ⟨#HE, ⟨%W, HO⟩, ⟨Hh, Hf, Hr, Hs1, Hs2⟩, HR⟩
  ihave Hf := (ico_pop hb (wFly Wt c)) $$ Hf
  icases Hf with ⟨HF, Hf⟩
  ihave HM := (may0 (c := c) (ys := y.s) (xs := x.s) (yl := y.l) (xl := x.l) (sm := .dma (wdS b))) $$ HE
  iapply (own_wait (wb_credit _ _)) $$ [HF HO HM]
  · isplitl [HF]; · iexact HF
    isplitl [HO] <;> iassumption
  iintro ⟨⟨Hb, Hs⟩, Hv, HO⟩
  ihave Hh := (ico_push hh (wHeld Wt c)) $$ [Hh Hb Hv]
  · isplitl [Hh]; · iexact Hh
    isplitl [Hb] <;> iassumption
  ihave Hs1 := (range_push (wSrc Wt c)) $$ [Hs1 Hs]
  · isplitl [Hs1] <;> iassumption
  iapply hk
  isplitr; · iexact HE
  isplitl [HO]; · iexact HO
  isplitr [HR]
  · isplitl [Hh]; · iexact Hh
    isplitl [Hf]; · iexact Hf
    isplitl [Hr]; · iexact Hr
    isplitl [Hs1]; · iexact Hs1
    iexact Hs2
  · iexact HR

theorem w_load {s hs hl} {k : Vec F S1x2048x512 .f32 → Prog (TpuEff nD τ sig (Elt F) Λ₀ .tc) α} {Q : α → sProp 𝕄}
    (hs₀ : s = h % 2) (hb : h < b)
    (hk : ∀ v, shapeCast S2048x512 v shapeCasts_S1x2048x512_S2048x512 = wch Wt c (jof c h) → St X Wt K J c ⟨h, b, a⟩ e y x n ⊢ WP c (k v) Q) :
    St X Wt K J c ⟨h, b, a⟩ e y x n
      ⊢ WP c (.op (.load wbM (Rect.unit (s := S2x2048x512) ![s, 0, 0] S1x2048x512.size hs).toLoadRect hl) k) Q := by
  subst hs₀
  unfold St CW at hk ⊢
  iintro ⟨#HE, HO, ⟨Hh, HW⟩, HR⟩
  ihave Hh := (ico_peek hb (wHeld Wt c)) $$ Hh
  icases Hh with ⟨⟨Hb, Hv⟩, Hh⟩
  iapply (own_load_slot (c := c) (M := wbM) (r := Rect.unit (s := S2x2048x512) ![h % 2, 0, 0] S1x2048x512.size hs) (hr := fun _ => rfl)
    (hq := squeezes_S1x2048x512_S2048x512) shapeCasts_S1x2048x512_S2048x512) $$ Hb
  iintro %v ⟨%hv, Hb⟩
  ihave Hh := Hh $$ [Hb Hv]
  · isplitl [Hb] <;> iassumption
  iapply (hk v hv)
  isplitr; · iexact HE
  isplitl [HO]; · iexact HO
  isplitr [HR]
  · isplitl [Hh] <;> iassumption
  · iexact HR

/-- The oldest chunk is done with: its slot is free for the next but one. -/
theorem w_drop (hb : h < b) (ha : a ≤ h + 2) : St X Wt K J c ⟨h, b, a⟩ e y x n ⊢ St X Wt K J c ⟨h + 1, b, a⟩ e y x n := by
  unfold St CW
  iintro ⟨#HE, HO, ⟨Hh, Hf, Hr, Hs1, Hs2⟩, HR⟩
  ihave Hh := (ico_pop hb (wHeld Wt c)) $$ Hh
  icases Hh with ⟨⟨Hb, Hv⟩, Hh⟩
  have hb2 : wbS h = wbS (h + 2) := wbAt_congr (add2 h).symm _ _
  have hv2 : wdS h = wdS (h + 2) := s2At_congr _ (add2 h).symm _ _
  have hfr : wFree (F := F) c h = wFree c (h + 2) := by show iprop(raw c (wbS h) ∗ _) = _; unfold wFree wdV; rw [hb2, hv2]
  ihave Hb := (raw_intro) $$ Hb
  ihave Hn := (Entails.of_eq hfr) $$ [Hb Hv]
  · isplitl [Hb] <;> iassumption
  ihave Hr := (ico_push ha (wFree c)) $$ [Hr Hn]
  · isplitl [Hr] <;> iassumption
  isplitr; · iexact HE
  isplitl [HO]; · iexact HO
  isplitr [HR]
  · isplitl [Hh]; · iexact Hh
    isplitl [Hf]; · iexact Hf
    isplitl [Hr]; · iexact Hr
    isplitl [Hs1]; · iexact Hs1
    iexact Hs2
  · iexact HR

/-! ## Own blocks -/

section
variable {f : ℕ}

theorem e_load {s hs hl} {k : Vec F S1x1024x512 .f32 → Prog (TpuEff nD τ sig (Elt F) Λ₀ .tc) α} {Q : α → sProp 𝕄}
    (hs₀ : s = f % 2) (hf : f < h + 2)
    (hk : ∀ v, St X Wt K J c w ⟨h, a, f⟩ y x n ⊢ WP c (k v) Q) :
    St X Wt K J c w ⟨h, a, f⟩ y x n
      ⊢ WP c (.op (.load ebM (Rect.unit (s := S2x1024x512) ![s, 0, 0] S1x1024x512.size hs).toLoadRect hl) k) Q := by
  subst hs₀
  unfold St CE at hk ⊢
  iintro ⟨#HE, HO, HW, ⟨Hf, Hu, Hr, Ho⟩, HR⟩
  ihave Hr := (ico_peek hf (eFree c)) $$ Hr
  icases Hr with ⟨⟨Hb, Hv⟩, Hr⟩
  iapply (raw_load_slot (c := c) (M := ebM) (r := Rect.unit (s := S2x1024x512) ![f % 2, 0, 0] S1x1024x512.size hs) (hr := fun _ => rfl)
    (hq := squeezes_S1x1024x512_S1024x512) shapeCasts_S1x1024x512_S1024x512) $$ Hb
  iintro %v Hb
  ihave Hr := Hr $$ [Hb Hv]
  · isplitl [Hb] <;> iassumption
  iapply (hk v)
  isplitr; · iexact HE
  isplitl [HO]; · iexact HO
  isplitl [HW]; · iexact HW
  isplitr [HR]
  · isplitl [Hf]; · iexact Hf
    isplitl [Hu]; · iexact Hu
    isplitl [Hr] <;> iassumption
  · iexact HR

theorem e_store {s hs} {v : Vec F S1x1024x512 .f32} {hx hm} {k : PUnit → Prog (TpuEff nD τ sig (Elt F) Λ₀ .tc) α} {Q : α → sProp 𝕄}
    (hs₀ : s = f % 2) (hf : f < h + 2) (ha : a ≤ f)
    (hv : shapeCast S1024x512 v shapeCasts_S1x1024x512_S1024x512 = EV X Wt c (jof c f))
    (hk : St X Wt K J c w ⟨h, a, f + 1⟩ y x n ⊢ WP c (k ⟨⟩) Q) :
    St X Wt K J c w ⟨h, a, f⟩ y x n
      ⊢ WP c (.op (.store ebM (Rect.unit (s := S2x1024x512) ![s, 0, 0] S1x1024x512.size hs) v Finset.univ hx hm) k) Q := by
  subst hs₀
  unfold St CE at hk ⊢
  iintro ⟨#HE, HO, HW, ⟨Hf, Hu, Hr, Ho⟩, HR⟩
  ihave Hr := (ico_pop hf (eFree c)) $$ Hr
  icases Hr with ⟨⟨Hb, Hv⟩, Hr⟩
  iapply (own_store_slot (c := c) (M := ebM) (r := Rect.unit (s := S2x1024x512) ![f % 2, 0, 0] S1x1024x512.size hs) (hr := fun _ => rfl)
    (hq := squeezes_S1x1024x512_S1024x512) (w := v) shapeCasts_S1x1024x512_S1024x512) $$ Hb
  rw [hv]
  iintro Hb
  ihave Hu := (ico_push ha (eFull X Wt c)) $$ [Hu Hb Hv]
  · isplitl [Hu]; · iexact Hu
    isplitl [Hb] <;> iassumption
  iapply hk
  isplitr; · iexact HE
  isplitl [HO]; · iexact HO
  isplitl [HW]; · iexact HW
  isplitr [HR]
  · isplitl [Hf]; · iexact Hf
    isplitl [Hu]; · iexact Hu
    isplitl [Hr] <;> iassumption
  · iexact HR

theorem e_start {off hin s hs hs' hsrc hdst hsem} {k : PUnit → Prog (TpuEff nD τ sig (Elt F) Λ₀ .tc) α} {Q : α → sProp 𝕄}
    (hoff : off = ![0, 512 * (gof c a % 64)]) (hs₀ : s = a % 2) (hh : h ≤ a) (hf : a < f) (h32 : a < 32)
    (hk : St X Wt K J c w ⟨h, a + 1, f⟩ y x n ⊢ WP c (k ⟨⟩) Q) :
    St X Wt K J c w ⟨h, a, f⟩ y x n
      ⊢ WP c (.op (.enqueueDma (ebAt ![s, 0, 0] hs) (.here (oAt off hin)) (.dma (s2At cc0_scratch8 ![s] hs')) hsrc hdst hsem) k) Q := by
  subst hoff hs₀
  unfold St CE at hk ⊢
  iintro ⟨#HE, HO, HW, ⟨Hf, Hu, Hr, Ho⟩, HR⟩
  ihave Hu := (ico_pop hf (eFull X Wt c)) $$ Hu
  icases Hu with ⟨⟨Hb, Hv⟩, Hu⟩
  ihave Ho := (ico_pop h32 (oRaw c)) $$ Ho
  icases Ho with ⟨Hd, Ho⟩
  iapply (own_start NO (oC_amount _ _ _) NO_pos (X := EV X Wt c (jof c a))) $$ [Hb Hd Hv]
  · isplitl [Hb]; · iexact Hb
    isplitl [Hd] <;> iassumption
  iintro HF
  ihave Hf := (ico_push hh (eFly X Wt c)) $$ [Hf HF]
  · isplitl [Hf] <;> iassumption
  iapply hk
  isplitr; · iexact HE
  isplitl [HO]; · iexact HO
  isplitl [HW]; · iexact HW
  isplitr [HR]
  · isplitl [Hf]; · iexact Hf
    isplitl [Hu]; · iexact Hu
    isplitl [Hr] <;> iassumption
  · iexact HR

theorem e_wait {sp' : Space} {s' : Shape} {e' : EltTy} {srcw : Memref sig .tc sp' s' e'} {off hin s hs' hsrc hdst} {k : PUnit → Prog (TpuEff nD τ sig (Elt F) Λ₀ .tc) α} {Q : α → sProp 𝕄}
    (hs₀ : s = h % 2) (ha : h < a) (hf : f ≤ h + 2) (hy : y.s ≤ h)
    (hk : St X Wt K J c w ⟨h + 1, a, f⟩ y x n ⊢ WP c (k ⟨⟩) Q) :
    St X Wt K J c w ⟨h, a, f⟩ y x n
      ⊢ WP c (.op (.waitDma2 (s2At cc0_scratch8 ![s] hs') srcw (oAt off hin) hsrc hdst) k) Q := by
  subst hs₀
  unfold St CE COwn Ow at hk ⊢
  iintro ⟨#HE, ⟨%W, HO⟩, HW, ⟨Hf, Hu, Hr, Ho⟩, ⟨Hn1, Hn2⟩, HR⟩
  ihave Hf := (ico_pop ha (eFly X Wt c)) $$ Hf
  icases Hf with ⟨HF, Hf⟩
  ihave HM := (may0 (c := c) (ys := y.s) (xs := x.s) (yl := y.l) (xl := x.l) (sm := .dma (esS h))) $$ HE
  iapply (own_wait (oC_credit _ _)) $$ [HF HO HM]
  · isplitl [HF]; · iexact HF
    isplitl [HO] <;> iassumption
  iintro ⟨⟨Hs, Hb⟩, Hv, HO⟩
  have hb2 : ebS h = ebS (h + 2) := ebAt_congr (add2 h).symm _ _
  have hv2 : esS h = esS (h + 2) := s2At_congr _ (add2 h).symm _ _
  have hfr : eFree (F := F) c h = eFree c (h + 2) := by show iprop(raw c (ebS h) ∗ _) = _; unfold eFree esV; rw [hb2, hv2]
  ihave Hb := (raw_intro) $$ Hb
  ihave Hn := (Entails.of_eq hfr) $$ [Hb Hv]
  · isplitl [Hb] <;> iassumption
  ihave Hr := (ico_push hf (eFree c)) $$ [Hr Hn]
  · isplitl [Hr] <;> iassumption
  ihave Hn2 := (ico_push hy (Oown X Wt c)) $$ [Hn2 Hs]
  · isplitl [Hn2] <;> iassumption
  iapply hk
  isplitr; · iexact HE
  isplitl [HO]; · iexact HO
  isplitl [HW]; · iexact HW
  isplitl [Hf Hu Hr Ho]
  · isplitl [Hf]; · iexact Hf
    isplitl [Hu]; · iexact Hu
    isplitl [Hr] <;> iassumption
  isplitl [Hn1 Hn2]
  · isplitl [Hn1] <;> iassumption
  · iexact HR

end

/-! ## The rows and the row sums -/

theorem x_load {off : Fin 2 → ℕ} {hin hl} {k : Vec F S1024x2048 .f32 → Prog (TpuEff nD τ sig (Elt F) Λ₀ .tc) α} {Q : α → sProp 𝕄}
    (h0 : ∀ a, off a = 0) (hk : St X Wt K J c w e y x n ⊢ WP c (k (X c)) Q) :
    St X Wt K J c w e y x n
      ⊢ WP c (.op (.load xM (Rect.unit (s := S1024x2048) off S1024x2048.size hin).toLoadRect hl) k) Q := by
  unfold St CS at hk ⊢
  iintro ⟨#HE, HO, H1, H2, H3, H4, H5, H6, H7, H8, H9, Hx, Hs, Hi⟩
  iapply (own_load_all (M := xM) (X := X c) (hin := hin) h0) $$ Hx
  iintro Hx
  iapply hk
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx]; · iexact Hx
  isplitl [Hs] <;> iassumption

theorem s_load {off : Fin 2 → ℕ} {hin hl} {k : Vec F S1024x1 .f32 → Prog (TpuEff nD τ sig (Elt F) Λ₀ .tc) α} {Q : α → sProp 𝕄}
    (h0 : ∀ a, off a = 0) (hk : St X Wt K J c w e y x n ⊢ WP c (k (SV X Wt c n)) Q) :
    St X Wt K J c w e y x n
      ⊢ WP c (.op (.load sM (Rect.unit (s := S1024x1) off S1024x1.size hin).toLoadRect hl) k) Q := by
  unfold St CS at hk ⊢
  iintro ⟨#HE, HO, H1, H2, H3, H4, H5, H6, H7, H8, H9, Hx, Hs, Hi⟩
  iapply (own_load_all (M := sM) (X := SV X Wt c n) (hin := hin) h0) $$ Hs
  iintro Hs
  iapply hk
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx]; · iexact Hx
  isplitl [Hs] <;> iassumption

theorem s_store {off : Fin 2 → ℕ} {v : Vec F S1024x1 .f32} {hin hx hm} {k : PUnit → Prog (TpuEff nD τ sig (Elt F) Λ₀ .tc) α} {Q : α → sProp 𝕄}
    (h0 : ∀ a, off a = 0) (hv : v = SV X Wt c (n + 1)) (hk : St X Wt K J c w e y x (n + 1) ⊢ WP c (k ⟨⟩) Q) :
    St X Wt K J c w e y x n
      ⊢ WP c (.op (.store sM (Rect.unit (s := S1024x1) off S1024x1.size hin) v Finset.univ hx hm) k) Q := by
  subst hv
  unfold St CS at hk ⊢
  iintro ⟨#HE, HO, H1, H2, H3, H4, H5, H6, H7, H8, H9, Hx, Hs, Hi⟩
  ihave Hs := (raw_intro) $$ Hs
  iapply (own_store_all (M := sM) (w := SV X Wt c (n + 1)) (hin := hin) h0) $$ Hs
  iintro Hs
  iapply hk
  isplitr; · iexact HE
  isplitl [HO]; · iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [Hx]; · iexact Hx
  isplitl [Hs] <;> iassumption

end Cert.Proof.Run

end
-- ==== Proof.OpsC.lean ====
/-
# One step on a channel

What a send, a wait, a store of a landed chunk and a release move, first for one channel alone.
-/
module

public import proofs.«01_k».proof.Proof.OpsW
public import Idealize.ShloMosaic.Lib.MemrefSat

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}
variable {α : Type}

set_option maxRecDepth 100000 in
/-- When a device may wait for what another brings. -/
theorem mayE {ys xs yl xl ι : ℕ} {sm : SemLoc sig} (h1 : 16 ≤ ys ∨ ι < ys + 2) (h2 : 16 ≤ xs ∨ ι < xs + 3) (h3 : 12 ≤ yl ∨ ι < yl + 5)
    (h4 : 12 ≤ xl ∨ ι < xl + 5) (h5 : ι < 100) : Env X Wt K J ⊢ MayWait (c : Thread nD τ) sm ι (owM c ys xs yl xl) := by
  have h : (levAts L lv : sProp 𝕄) ⊢ MayWait (c : Thread nD τ) sm ι (owM c ys xs yl xl) := mayM h1 h2 h3 h4 h5
  iintro H
  iapply h
  iapply (Env_lev X Wt K J) $$ H

/-- A wait for a round's one contribution. -/
theorem rest_wait {w : TpuEff nD τ sig (Elt F) Λ₀ .tc PUnit} {sm : SemLoc sig} {k' ι R κ : ℕ} {O : CellTallies nD τ sig ℕ}
    {k : PUnit → Prog (TpuEff nD τ sig (Elt F) Λ₀ .tc) α} {Q : α → sProp 𝕄}
    (hw : ∀ K' : PUnit → sProp 𝕄, wpE (defs₀ (F := F)) Variants.none (c : Thread nD τ) none Set.univ w K' = waitSpec (c : Thread nD τ) Set.univ sm k' K')
    (hk : k' = (Rd X Wt).expect ((c : Thread nD τ), sm) R) (hd : (Rd X Wt).duties ((c : Thread nD τ), sm) R = {0}) :
    iprop(cellInv ER (Rd X Wt) κ ((c : Thread nD τ), sm) ∗ cred (tallyAt ((c : Thread nD τ), sm) ι k') ∗ Ow c O ∗ MayWait (c : Thread nD τ) sm ι O
        ∗ atPos ER ((c : Thread nD τ), sm) R ∅ 0)
      ⊢ iprop((iprop(Ow c O ∗ atPos ER ((c : Thread nD τ), sm) (R + 1) ∅ 0 ∗ reached ER ((c : Thread nD τ), sm) (R + 1)
            ∗ (Rd X Wt).payload ((c : Thread nD τ), sm) R 0) -∗ WP c (k ⟨⟩) Q) -∗ WP c (.op w k) Q) := by
  unfold Ow
  iintro ⟨Hc, Hcr, ⟨%W, HO⟩, HM, Hat⟩ Hk
  iapply (Rounds.wp_wait_rest_token Variants.none ER (Rd X Wt) (c : Thread nD τ) none (κ := κ) hw (Set.mem_univ _) ι (O := O) (W := W) (R := R) (m := 0) (T := ∅)
      ((Nat.zero_add _).trans hk)) $$ [Hc Hcr HO HM Hat]
  · isplitl [Hc]; · iexact Hc
    isplitl [Hcr]; · iexact Hcr
    isplitl [HO]; · iexact HO
    isplitl [HM] <;> iassumption
  iintro ⟨HO, Hat, Hr, Hp⟩
  iapply Hk
  isplitl [HO]; · iexists _; iexact HO
  isplitl [Hat]; · iexact Hat
  isplitl [Hr]; · iexact Hr
  ihave Hp := (Entails.of_eq (show bigSep ((Rd X Wt).duties ((c : Thread nD τ), sm) R \ ∅) (fun d => (Rd X Wt).payload ((c : Thread nD τ), sm) R d)
    = (Rd X Wt).payload ((c : Thread nD τ), sm) R 0 by rw [hd, Finset.sdiff_empty, bigSep_singleton])) $$ Hp
  iexact Hp

/-- A transfer to another device, between windows. -/
theorem own_send {c' : Dev nD} {sp sp' : Space} {s : Shape} {e : EltTy} {src : Memref sig .tc sp s e} {dst : Memref sig .tc sp' s e}
    {hsc : dst.view.ref.isScScratch = false} {sS sem : SemLoc sig} {hsrc : src.view.WordExact} {hdst : dst.view.WordExact}
    {hsem : DmaTarget.Typed sp sem (.remote (c' : Thread nD τ) dst sS hsc)} {q : PosShare TreeShare} {Y : s.Idx → Elt F e} {r₁ r₂ κ₁ κ₂ ι N : ℕ}
    {O₀ O : CellTallies nD τ sig ℕ} {k : PUnit → Prog (TpuEff nD τ sig (Elt F) Λ₀ .tc) α} {Q : α → sProp 𝕄}
    (hd₁ : (Rd X Wt).duties ((c : Thread nD τ), sS) r₁ = {0}) (hd₂ : (Rd X Wt).duties ((c' : Thread nD τ), sem) r₂ = {0})
    (hN : dst.view.amount sem = N)
    (hk₁ : (Rd X Wt).amount ((c : Thread nD τ), sS) r₁ 0 = N) (hk₂ : (Rd X Wt).amount ((c' : Thread nD τ), sem) r₂ 0 = N)
    (hO : O₀ = O + tallyAt ((c' : Thread nD τ), sem) ι N)
    (hp₁ : owns (c : Thread nD τ) src q Y ⊢ (Rd X Wt).payload ((c : Thread nD τ), sS) r₁ 0)
    (hp₂ : owns (c' : Thread nD τ) dst fullShare Y ⊢ (Rd X Wt).payload ((c' : Thread nD τ), sem) r₂ 0) :
    iprop(cellInv ER (Rd X Wt) κ₁ ((c : Thread nD τ), sS) ∗ cellInv ER (Rd X Wt) κ₂ ((c' : Thread nD τ), sem)
        ∗ owns (c : Thread nD τ) src q Y ∗ raw c' dst ∗ Ow c O₀
        ∗ dutyTok ER ((c : Thread nD τ), sS) r₁ 0 ∗ reached ER ((c : Thread nD τ), sS) r₁
        ∗ dutyTok ER ((c' : Thread nD τ), sem) r₂ 0 ∗ reached ER ((c' : Thread nD τ), sem) r₂)
      ⊢ iprop((iprop(cred (tallyAt ((c : Thread nD τ), sS) 0 N) ∗ Ow c O) -∗ WP c (k ⟨⟩) Q)
          -∗ WP c (.op (.enqueueDma src (.remote (c' : Thread nD τ) dst sS hsc) sem hsrc hdst hsem) k) Q) := by
  unfold raw Ow owns
  iintro ⟨Hc1, Hc2, ⟨%fs, %hfs, Hs⟩, ⟨%Y', %fd, -, Hd⟩, ⟨%W, HO⟩, Ht1, Hr1, Ht2, Hr2⟩ Hk
  iapply (Rounds.wp_send_pointsTo Variants.none ER (Rd X Wt) (c : Thread nD τ) none (κ₁ := κ₁) (κ₂ := κ₂) (r₁ := r₁) (r₂ := r₂) (d₁ := 0) (d₂ := 0)
      (fs := fs) (fd := fd) (by rw [hd₁]; exact Finset.mem_singleton_self _) (by rw [hd₂]; exact Finset.mem_singleton_self _)
      ι 0 N hN hk₁ hk₂ O hO (W := W)
      (Entails.trans (by unfold owns; iintro H; iexists fs; isplitr; · ipureintro; exact hfs
                         iexact H) hp₁)
      (Entails.trans (by unfold owns; iintro H; iexists _; isplitr; rotate_left; · iexact H
                         ipureintro; rw [View.read_write_univ, hfs]) hp₂)) $$ [Hc1 Hc2 Hs Hd HO Ht1 Hr1 Ht2 Hr2]
  · isplitl [Hc1]; · iexact Hc1
    isplitl [Hc2]; · iexact Hc2
    isplitl [Hs]; · iexact Hs
    isplitl [Hd]; · iexact Hd
    isplitl [HO]; · iexact HO
    isplitl [Ht1]; · iexact Ht1
    isplitl [Hr1]; · iexact Hr1
    isplitl [Ht2] <;> iassumption
  iintro ⟨Hcr, HO⟩
  iapply Hk
  isplitl [Hcr]; · iexact Hcr
  iexists W; iexact HO

theorem sdPos_next (c : Dev nD) (b : Bool) (u : ℕ) :
    (iprop(atPos ER (sdC b c u) (u / 4 + 1) ∅ 0 ∗ reached ER (sdC b c u) (u / 4 + 1)) : sProp 𝕄) = sdPos c b (u + 4) := by
  have h : sdS b (u + 4) = sdS b u := s4At_congr (sdA b) (add4 u) _ _
  unfold sdPos
  rw [show (u + 4) / 4 = u / 4 + 1 by omega, show sdC b c (u + 4) = sdC b c u by unfold sdC; rw [h]]
theorem rvC_next (c : Dev nD) (b : Bool) (u : ℕ) : rvC b c (u + 4) = rvC b c u := by
  have h : rvS b (u + 4) = rvS b u := s4At_congr (rvA b) (add4 u) _ _
  unfold rvC; rw [h]

/-- The wait for the oldest send under way. -/
theorem snd_wait {b : Bool} {s w : ℕ} {O : CellTallies nD τ sig ℕ} {sp sp' : Space} {s₁ s₂ : Shape} {e₁ e₂ : EltTy}
    {srcw : Memref sig .tc sp s₁ e₁} {dstw : Memref sig .tc sp' s₂ e₂} {hsrc hdst} {k : PUnit → Prog (TpuEff nD τ sig (Elt F) Λ₀ .tc) α} {Q : α → sProp 𝕄}
    (hws : w < s) (hs : s ≤ 16) (hN : dstw.view.dmaCredit = NC) (hM : Env X Wt K J ⊢ MayWait (c : Thread nD τ) (.dma (sdS b w)) 0 O) :
    iprop(Env X Wt K J ∗ Ow c O ∗ Snd c b s w)
      ⊢ iprop((iprop(Ow c O ∗ Snd c b s (w + 1) ∗ (Rd X Wt).payload (sdC b c w) (w / 4) 0) -∗ WP c (k ⟨⟩) Q)
          -∗ WP c (.op (.waitDma2 (sdS b w) srcw dstw hsrc hdst) k) Q) := by
  unfold Snd
  iintro ⟨#HE, HO, Hp, Hc, Ht⟩ Hk
  ihave Hp := (ico_pop (show w < w + 4 by omega) (sdPos c b)) $$ Hp
  icases Hp with ⟨⟨Hat, -⟩, Hp⟩
  ihave Hc := (ico_pop hws (sdCred c b)) $$ Hc
  icases Hc with ⟨Hc1, Hc⟩
  ihave HI := (Env_sd X Wt K J b c w) $$ HE
  ihave HM := hM $$ HE
  iapply (rest_wait (c := c) (X := X) (Wt := Wt) (sm := .dma (sdS b w)) (ι := 0) (R := w / 4) (κ := K (c, kSd b w)) (k' := NC) (O := O)
    (fun K' => by rw [wpE_waitDma2_eq Variants.none (c : Thread nD τ) none Set.univ, hN]) (expect_sd X Wt c b w (by omega)).symm
    (duties_sd X Wt c b w (by omega))) $$ [HI Hc1 HO HM Hat]
  · isplitl [HI]; · iexact HI
    isplitl [Hc1]; · iexact Hc1
    isplitl [HO]; · iexact HO
    isplitl [HM] <;> iassumption
  iintro ⟨HO, Hat, Hr, Hpay⟩
  ihave Hn := (Entails.of_eq (sdPos_next c b w)) $$ [Hat Hr]
  · isplitl [Hat] <;> iassumption
  ihave Hp := (ico_push (show w + 1 ≤ w + 4 by omega) (sdPos c b)) $$ [Hp Hn]
  · isplitl [Hp] <;> iassumption
  iapply Hk
  isplitl [HO]; · iexact HO
  isplitr [Hpay]
  · isplitl [Hp]; · iexact Hp
    isplitl [Hc]; · iexact Hc
    iexact Ht
  · iexact Hpay

/-- The wait for the next chunk to land. -/
theorem rcv_wait {b : Bool} {r : ℕ} {O : CellTallies nD τ sig ℕ} {sp sp' : Space} {s₁ s₂ : Shape} {e₁ e₂ : EltTy}
    {srcw : Memref sig .tc sp s₁ e₁} {dstw : Memref sig .tc sp' s₂ e₂} {hsrc hdst} {k : PUnit → Prog (TpuEff nD τ sig (Elt F) Λ₀ .tc) α} {Q : α → sProp 𝕄}
    (hr : r < 16) (hN : dstw.view.dmaCredit = NC) (hM : Env X Wt K J ⊢ MayWait (c : Thread nD τ) (.dma (rvS b r)) (iR b r) O) :
    iprop(Env X Wt K J ∗ Ow c O ∗ Rcv c b r)
      ⊢ iprop((iprop(Ow c O ∗ Rcv c b (r + 1) ∗ Rown X Wt b c qL r ∗ Rown X Wt b c qR r) -∗ WP c (k ⟨⟩) Q)
          -∗ WP c (.op (.waitDma2 (rvS b r) srcw dstw hsrc hdst) k) Q) := by
  unfold Rcv
  iintro ⟨#HE, HO, Hp, Hopen, Hc⟩ Hk
  ihave Hp := (ico_pop (show r < r + 4 by omega) (rvPos c b)) $$ Hp
  icases Hp with ⟨Hat, Hp⟩
  ihave Hc := (ico_pop hr (rvCred c b)) $$ Hc
  icases Hc with ⟨Hc1, Hc⟩
  ihave HI := (Env_rv X Wt K J b c r) $$ HE
  ihave HM := hM $$ HE
  iapply (rest_wait (c := c) (X := X) (Wt := Wt) (sm := .dma (rvS b r)) (ι := iR b r) (R := r / 4) (κ := K (c, kRv b r)) (k' := NC) (O := O)
    (fun K' => by rw [wpE_waitDma2_eq Variants.none (c : Thread nD τ) none Set.univ, hN]) (expect_rv X Wt c b r hr).symm
    (duties_rv X Wt c b r hr)) $$ [HI Hc1 HO HM Hat]
  · isplitl [HI]; · iexact HI
    isplitl [Hc1]; · iexact Hc1
    isplitl [HO]; · iexact HO
    isplitl [HM] <;> iassumption
  iintro ⟨HO, Hat, Hr, Hpay⟩
  ihave Hn := (Entails.of_eq (show (atPos ER (rvC b c r) (r / 4 + 1) ∅ 0 : sProp 𝕄) = rvPos c b (r + 4) by
    unfold rvPos; rw [rvC_next, show (r + 4) / 4 = r / 4 + 1 by omega])) $$ Hat
  ihave Hr := (Entails.of_eq (show (reached ER (rvC b c r) (r / 4 + 1) : sProp 𝕄) = rvOpen c b (r + 4) by
    unfold rvOpen; rw [rvC_next, show (r + 4) / 4 = r / 4 + 1 by omega])) $$ Hr
  ihave Hp := (ico_push (show r + 1 ≤ r + 4 by omega) (rvPos c b)) $$ [Hp Hn]
  · isplitl [Hp] <;> iassumption
  ihave Hopen := (range_push (rvOpen c b)) $$ [Hopen Hr]
  · isplitl [Hopen] <;> iassumption
  ihave Hpay := (Entails.of_eq (payload_rv X Wt c b r 0)) $$ Hpay
  ihave Hpay := (owns_halves (c : Thread nD τ) (rS b r) fullShare (RV X Wt b c r)).1 $$ Hpay
  iapply Hk
  isplitl [HO]; · iexact HO
  isplitr [Hpay]
  · isplitl [Hp]; · iexact Hp
    isplitl [Hopen]; · iexact Hopen
    iexact Hc
  · iexact Hpay

/-- The `k`-th unit of credit lets the use after the next three go on. -/
theorem perm_of_card {b : Bool} {S : Finset ℕ} {k : ℕ} (h : k + 1 ≤ S.card) :
    (bigSep S fun d => Perm b (pc b c) (d + 5) : sProp 𝕄) ⊢ Perm b (pc b c) (k + 1 + 4) := by
  have hex : ∃ d ∈ S, k ≤ d := by
    by_contra hn
    push Not at hn
    have := Finset.card_le_card (show S ⊆ Finset.range k from fun d hd => Finset.mem_range.mpr (hn d hd))
    rw [Finset.card_range] at this
    omega
  obtain ⟨d, hd, hkd⟩ := hex
  refine (bigSep_elim hd).trans ?_
  unfold Perm
  exact bigSep_subset (fun u hu => Finset.mem_range.mpr (by have := Finset.mem_range.mp hu; omega))

/-- A wait for a unit of credit. -/
theorem crd_wait {b : Bool} {m n : ℕ} {O : CellTallies nD τ sig ℕ} {k : PUnit → Prog (TpuEff nD τ sig (Elt F) Λ₀ .tc) α} {Q : α → sProp 𝕄}
    (hn : n = 1) (hm : m < 12) (hM : Env X Wt K J ⊢ MayWait (c : Thread nD τ) (.reg (crS b)) (m + 5) O) :
    iprop(Env X Wt K J ∗ Ow c O ∗ Crd c b m)
      ⊢ iprop((iprop(Ow c O ∗ Crd c b (m + 1)) -∗ WP c (k ⟨⟩) Q) -∗ WP c (.op (.semWait (crS b) n) k) Q) := by
  subst hn
  unfold Crd Ow
  rw [show crPos (F := F) c b m = iprop(∃ T : Finset ℕ, ⌜T ⊆ Finset.range 12 ∧ m ≤ T.card⌝ ∗ atPos ER (crC b c) 0 T m ∗ bigSep T (fun d => Perm b (pc b c) (d + 5))) from if_pos hm]
  iintro ⟨#HE, ⟨%W, HO⟩, Hc, ⟨%T, %hT, Hat, #HP⟩, -⟩ Hk
  ihave Hc := (ico_pop hm (crCred c b)) $$ Hc
  icases Hc with ⟨Hc1, Hc⟩
  ihave HI := (Env_cr X Wt K J b c) $$ HE
  ihave HM := hM $$ HE
  by_cases h11 : m + 1 < 12
  · iapply (Rounds.wp_wait Variants.none ER (Rd X Wt) (c : Thread nD τ) none (κ := K (c, kCr b)) (sm := .reg (crS b))
      (wpE_semWait_eq Variants.none (c : Thread nD τ) none Set.univ) (Set.mem_univ _) {(.reg (crS b), m + 5)} (cr := Finsupp.single (m + 5) 1) (O := O) (W := W)
      (R := 0) (m := m) (T := T) (by rw [Util.total_single]) (image_single_subset (.reg (crS b)) (m + 5) 1)) $$ [HI Hc1 HO HM Hat]
    · isplitl [HI]; · iexact HI
      isplitl [Hc1]; · iexact Hc1
      isplitl [HO]; · iexact HO
      isplitl [HM] <;> iassumption
    iintro %S ⟨%hS, HO, Hat, Hpay⟩
    obtain ⟨hTS, hSd, hcard⟩ := hS
    rw [duties_cr] at hSd
    rw [duties_cr, expect_cr, Finset.card_sdiff_of_subset hSd, Finset.card_range] at hcard
    have hcS : m + 1 ≤ S.card := by
      have := Finset.card_le_card hSd
      rw [Finset.card_range] at this
      omega
    ihave Hpay := (Entails.of_eq (show bigSep (S \ T) (fun d => (Rd X Wt).payload (crC b c) 0 d) = bigSep (S \ T) (fun d => Perm b (pc b c) (d + 5)) from
      bigSep_congr fun d _ => payload_cr X Wt c b d)) $$ Hpay
    ihave HS := (Entails.of_eq (show iprop(bigSep T (fun d => Perm (F := F) b (pc b c) (d + 5)) ∗ bigSep (S \ T) (fun d => Perm b (pc b c) (d + 5))) = bigSep S (fun d => Perm b (pc b c) (d + 5)) from
      (bigSep_sdiff_split hTS).symm)) $$ [Hpay]
    · isplitr; · iexact HP
      iexact Hpay
    icases HS with #HS
    iapply Hk
    isplitl [HO]; · iexists _; iexact HO
    isplitl [Hc]; · iexact Hc
    isplitl [Hat]
    · rw [show crPos (F := F) c b (m + 1) = iprop(∃ T : Finset ℕ, ⌜T ⊆ Finset.range 12 ∧ m + 1 ≤ T.card⌝ ∗ atPos ER (crC b c) 0 T (m + 1) ∗ bigSep T (fun d => Perm b (pc b c) (d + 5))) from if_pos h11]
      iexists S
      isplitr; · ipureintro; exact ⟨hSd, hcS⟩
      isplitl [Hat]; · iexact Hat
      iexact HS
    · iapply (perm_of_card hcS) $$ HS
  · iapply (Rounds.wp_wait_rest_token Variants.none ER (Rd X Wt) (c : Thread nD τ) none (κ := K (c, kCr b)) (sm := .reg (crS b))
      (wpE_semWait_eq Variants.none (c : Thread nD τ) none Set.univ) (Set.mem_univ _) (m + 5) (O := O) (W := W)
      (R := 0) (m := m) (T := T) (by rw [expect_cr]; omega)) $$ [HI Hc1 HO HM Hat]
    · isplitl [HI]; · iexact HI
      isplitl [Hc1]; · iexact Hc1
      isplitl [HO]; · iexact HO
      isplitl [HM] <;> iassumption
    iintro ⟨HO, Hat, -, Hpay⟩
    ihave Hpay := (Entails.of_eq (show bigSep ((Rd X Wt).duties (crC b c) 0 \ T) (fun d => (Rd X Wt).payload (crC b c) 0 d) = bigSep (Finset.range 12 \ T) (fun d => Perm b (pc b c) (d + 5)) by
      rw [duties_cr]; exact bigSep_congr fun d _ => payload_cr X Wt c b d)) $$ Hpay
    ihave HS := (Entails.of_eq (show iprop(bigSep T (fun d => Perm (F := F) b (pc b c) (d + 5)) ∗ bigSep (Finset.range 12 \ T) (fun d => Perm b (pc b c) (d + 5))) = bigSep (Finset.range 12) (fun d => Perm b (pc b c) (d + 5)) from
      (bigSep_sdiff_split hT.1).symm)) $$ [Hpay]
    · isplitr; · iexact HP
      iexact Hpay
    iapply Hk
    isplitl [HO]; · iexists _; iexact HO
    isplitl [Hc]; · iexact Hc
    isplitl [Hat]
    · rw [show crPos (F := F) c b (m + 1) = atPos ER (crC b c) 1 ∅ 0 from if_neg h11]; iexact Hat
    · iapply (perm_of_card (S := Finset.range 12) (k := m) (by rw [Finset.card_range]; omega)) $$ HS

theorem rS_nonempty (b : Bool) (u : ℕ) : (rS b u).view.set.Nonempty := by
  have h : ∀ a, 0 < S1024x512.size a := by decide
  exact ⟨_, (rS b u).view.emb_mem_set (fun a => ⟨0, h a⟩)⟩
theorem raw_raw_false {d : Dev nD} {b : Bool} {u : ℕ} : iprop(raw d (rS b u) ∗ raw d (rS b u)) ⊢ (False : sProp 𝕄) := by
  iintro ⟨H₁, H₂⟩
  ihave H₁ := (slot_of_raw (c := d) (m := rS b u)) $$ H₁
  ihave H₂ := (slot_of_raw (c := d) (m := rS b u)) $$ H₂
  iapply (slot_slot_false (ℓ := (rS b u).view.loc (d : Thread nD τ)) (rS_nonempty b u))
  isplitl [H₁] <;> iassumption

/-- The writer of a released slot takes it. -/
theorem take_slot {b : Bool} {u : ℕ} :
    (iprop(slotInv ES (J (c, b, f4 u)) (skey b c u) (raw c (rS b u)) ∗ released ES (skey b c u) (u / 4 + 1) ∗ writeTok ES (skey b c u) (u / 4 + 1)) : sProp 𝕄)
      ⊢ |={Set.univ}=> raw c (rS b u) :=
  slot_take ES (Set.mem_univ _) _
/-- The reader of a slot gives it back. -/
theorem free_slot {b : Bool} {u n : ℕ} :
    (iprop(slotInv ES (J (c, b, f4 u)) (skey b c u) (raw c (rS b u)) ∗ readerAt ES (skey b c u) n ∗ raw c (rS b u)) : sProp 𝕄)
      ⊢ |={Set.univ}=> (readerAt ES (skey b c u) (n + 1) ∗ released ES (skey b c u) (n + 1)) :=
  slot_release ES (Set.mem_univ _) raw_raw_false _

/-- A send, of a window that holds what use `s` of the channel brings. -/
theorem snd_send {b : Bool} {s w m : ℕ} {d : Dev nD} {O₀ O : CellTallies nD τ sig ℕ} {sp : Space} {src : Memref sig .tc sp S1024x512 .f32}
    {hsc : (rS b s).view.ref.isScScratch = false} {hsrc : src.view.WordExact} {hdst : (rS b s).view.WordExact}
    {hsem : DmaTarget.Typed sp (.dma (rvS b s)) (.remote (d : Thread nD τ) (rS b s) (.dma (sdS b s)) hsc)} {q : PosShare TreeShare} {Y : S1024x512.Idx → Elt F .f32}
    {k : PUnit → Prog (TpuEff nD τ sig (Elt F) Λ₀ .tc) α} {Q : α → sProp 𝕄}
    (hd : d = pc b c) (h1 : w ≤ s) (h2 : s < w + 4) (h16 : s < 16) (hm : s < m + 4)
    (hO : O₀ = O + tallyAt (rvC b (pc b c) s) (iR b s) NC)
    (hp₁ : owns (c : Thread nD τ) src q Y ⊢ (Rd X Wt).payload (sdC b c s) (s / 4) 0) (hp₂ : Y = RV X Wt b (pc b c) s) :
    iprop(Env X Wt K J ∗ Ow c O₀ ∗ Snd c b s w ∗ Perm b (pc b c) (m + 4) ∗ owns (c : Thread nD τ) src q Y)
      ⊢ iprop((iprop(Ow c O ∗ Snd c b (s + 1) w) -∗ WP c (k ⟨⟩) Q)
          -∗ WP c (.op (.enqueueDma src (.remote (d : Thread nD τ) (rS b s) (.dma (sdS b s)) hsc) (.dma (rvS b s)) hsrc hdst hsem) k) Q) := by
  subst hd hp₂
  unfold Snd
  iintro ⟨#HE, HO, ⟨Hp, Hc, Ht⟩, HP, Hs⟩ Hk
  ihave #Hr1 := (show bigSep (Finset.Ico w (w + 4)) (sdPos (F := F) c b) ⊢ iprop(reached ER (sdC b c s) (s / 4)) from
    (bigSep_elim (Finset.mem_Ico.mpr ⟨h1, h2⟩)).trans (show sdPos (F := F) c b s ⊢ iprop(reached ER (sdC b c s) (s / 4)) by iintro ⟨-, H⟩; iexact H)) $$ [Hp]
  · iexact Hp
  ihave Ht := (ico_pop h16 (sdTok c b)) $$ Ht
  icases Ht with ⟨⟨Ht1, Ht2, Hwt⟩, Ht⟩
  ihave HP := (Perm_elim hm) $$ HP
  icases HP with ⟨Hrel, Hr2⟩
  ihave HJ := (Env_slot X Wt K J b (pc b c) s) $$ HE
  ihave HI1 := (Env_sd X Wt K J b c s) $$ HE
  ihave HI2 := (Env_rv X Wt K J b (pc b c) s) $$ HE
  imod (take_slot (J := J) (c := pc b c) (b := b) (u := s)) $$ [HJ Hrel Hwt] with Hraw
  · isplitl [HJ]; · iexact HJ
    isplitl [Hrel] <;> iassumption
  iapply (own_send (c := c) (c' := pc b c) (X := X) (Wt := Wt) (r₁ := s / 4) (r₂ := s / 4) (κ₁ := K (c, kSd b s)) (κ₂ := K (pc b c, kRv b s)) (ι := iR b s) (N := NC)
      (duties_sd X Wt c b s h16) (duties_rv X Wt (pc b c) b s h16) (rS_amount b _ _ _) (amount_sd X Wt c b s _ _) (amount_rv X Wt (pc b c) b s _ _) hO hp₁
      (Entails.of_eq (payload_rv X Wt (pc b c) b s 0).symm)) $$ [HI1 HI2 Hs Hraw HO Ht1 Ht2 Hr2]
  · isplitl [HI1]; · iexact HI1
    isplitl [HI2]; · iexact HI2
    isplitl [Hs]; · iexact Hs
    isplitl [Hraw]; · iexact Hraw
    isplitl [HO]; · iexact HO
    isplitl [Ht1]; · iexact Ht1
    isplitr; · iexact Hr1
    isplitl [Ht2] <;> iassumption
  iintro ⟨Hcr, HO⟩
  ihave Hc := (ico_push h1 (sdCred c b)) $$ [Hc Hcr]
  · isplitl [Hc] <;> iassumption
  iapply Hk
  isplitl [HO]; · iexact HO
  isplitl [Hp]; · iexact Hp
  isplitl [Hc]; · iexact Hc
  iexact Ht

/-- A landed chunk starts to be stored. -/
theorem rst_start {b : Bool} {z a r : ℕ} {off hin hsrc hdst hsem} {k : PUnit → Prog (TpuEff nD τ sig (Elt F) Λ₀ .tc) α} {Q : α → sProp 𝕄}
    (hoff : off = ![0, 512 * (gst b c a % 64)]) (hza : z ≤ a) (h4 : a < z + 4) (h16 : a < 16) (har : a < r) :
    iprop(Rst X Wt c b z a ∗ bigSep (Finset.Ico a r) (Rown X Wt b c qL))
      ⊢ iprop((iprop(Rst X Wt c b z (a + 1) ∗ bigSep (Finset.Ico (a + 1) r) (Rown X Wt b c qL)) -∗ WP c (k ⟨⟩) Q)
          -∗ WP c (.op (.enqueueDma (rS b a) (.here (oAt off hin)) (.dma (stS b a)) hsrc hdst hsem) k) Q) := by
  subst hoff
  unfold Rst
  iintro ⟨⟨Hf, Hv, Ho, Hg⟩, Hl⟩ Hk
  ihave Hv := (ico_pop h4 (stV c b)) $$ Hv
  icases Hv with ⟨Hv1, Hv⟩
  ihave Ho := (ico_pop h16 (oGap c b)) $$ Ho
  icases Ho with ⟨Ho1, Ho⟩
  ihave Hl := (ico_pop har (Rown X Wt b c qL)) $$ Hl
  icases Hl with ⟨Hl1, Hl⟩
  iapply (own_start NO (oC_amount _ _ _) NO_pos (X := RV X Wt b c a)) $$ [Hl1 Ho1 Hv1]
  · isplitl [Hl1]; · iexact Hl1
    isplitl [Ho1] <;> iassumption
  iintro HF
  ihave Hf := (ico_push hza (stFly X Wt c b)) $$ [Hf HF]
  · isplitl [Hf] <;> iassumption
  iapply Hk
  isplitr [Hl]
  · isplitl [Hf]; · iexact Hf
    isplitl [Hv]; · iexact Hv
    isplitl [Ho]; · iexact Ho
    iexact Hg
  · iexact Hl

/-- The wait for the oldest store of a landed chunk. -/
theorem rst_wait {b : Bool} {z a l : ℕ} {O : CellTallies nD τ sig ℕ} {sp' : Space} {s' : Shape} {e' : EltTy} {srcw : Memref sig .tc sp' s' e'}
    {off hin hsrc hdst} {k : PUnit → Prog (TpuEff nD τ sig (Elt F) Λ₀ .tc) α} {Q : α → sProp 𝕄}
    (hza : z < a) (h4 : a ≤ z + 4) (hlz : l ≤ z) (hM : Env X Wt K J ⊢ MayWait (c : Thread nD τ) (.dma (stS b z)) 0 O) :
    iprop(Env X Wt K J ∗ Ow c O ∗ Rst X Wt c b z a ∗ bigSep (Finset.Ico l z) (Rown X Wt b c qL))
      ⊢ iprop((iprop(Ow c O ∗ Rst X Wt c b (z + 1) a ∗ bigSep (Finset.Ico l (z + 1)) (Rown X Wt b c qL)) -∗ WP c (k ⟨⟩) Q)
          -∗ WP c (.op (.waitDma2 (stS b z) srcw (oAt off hin) hsrc hdst) k) Q) := by
  unfold Rst Ow
  iintro ⟨#HE, ⟨%W, HO⟩, ⟨Hf, Hv, Ho, Hg⟩, Hl⟩ Hk
  ihave Hf := (ico_pop hza (stFly X Wt c b)) $$ Hf
  icases Hf with ⟨HF, Hf⟩
  ihave HM := hM $$ HE
  iapply (own_wait (oC_credit _ _)) $$ [HF HO HM]
  · isplitl [HF]; · iexact HF
    isplitl [HO] <;> iassumption
  iintro ⟨⟨Hg1, Hl1⟩, Hv1, HO⟩
  ihave Hv1 := (Entails.of_eq (show stV (F := F) c b z = stV c b (z + 4) by
    have h : stS b (z + 4) = stS b z := s4At_congr (stA b) (add4 z) _ _
    unfold stV; rw [h])) $$ Hv1
  ihave Hv := (ico_push h4 (stV c b)) $$ [Hv Hv1]
  · isplitl [Hv] <;> iassumption
  ihave Hg := (range_push (oGot X Wt c b)) $$ [Hg Hg1]
  · isplitl [Hg] <;> iassumption
  ihave Hl := (ico_push hlz (Rown X Wt b c qL)) $$ [Hl Hl1]
  · isplitl [Hl] <;> iassumption
  iapply Hk
  isplitl [HO]; · iexact HO
  isplitr [Hl]
  · isplitl [Hf]; · iexact Hf
    isplitl [Hv]; · rw [show z + 1 + 4 = z + 4 + 1 by omega]; iexact Hv
    isplitl [Ho]; · iexact Ho
    iexact Hg
  · iexact Hl

/-- A slot is handed back to its writer. -/
theorem rel_signal {b : Bool} {l z x r n : ℕ} {d : Dev nD} {O₀ O : CellTallies nD τ sig ℕ} {k : PUnit → Prog (TpuEff nD τ sig (Elt F) Λ₀ .tc) α} {Q : α → sProp 𝕄}
    (hd : d = pc b c) (hn : n = 1) (hz : l < z) (hx : l < x) (hr : l + 1 ≤ r) (h12 : l < 12) (hO : O₀ = O + tallyAt (crC b (pc b c)) (l + 5) 1) :
    iprop(Env X Wt K J ∗ Ow c O₀ ∗ Rel c b l ∗ Rcv c b r ∗ bigSep (Finset.Ico l z) (Rown X Wt b c qL) ∗ bigSep (Finset.Ico l x) (Rown X Wt b c qR))
      ⊢ iprop((iprop(Ow c O ∗ Rel c b (l + 1) ∗ Rcv c b r ∗ bigSep (Finset.Ico (l + 1) z) (Rown X Wt b c qL) ∗ bigSep (Finset.Ico (l + 1) x) (Rown X Wt b c qR)) -∗ WP c (k ⟨⟩) Q)
          -∗ WP c (.op (.semSignal (d : Thread nD τ) (crS b) n) k) Q) := by
  subst hd hn
  unfold Rel Rcv Ow
  iintro ⟨#HE, ⟨%W, HO⟩, ⟨Hrd, #Hrl, Ht, #Hre⟩, ⟨Hrp, #Hop, Hrc⟩, Hl, Hx⟩ Hk
  ihave Hrd := (ico_pop (show l < l + 4 by omega) (rdr c b)) $$ Hrd
  icases Hrd with ⟨Hrd1, Hrd⟩
  ihave Ht := (ico_pop h12 (crTok c b)) $$ Ht
  icases Ht with ⟨Ht1, Ht⟩
  ihave Hl := (ico_pop hz (Rown X Wt b c qL)) $$ Hl
  icases Hl with ⟨Hl1, Hl⟩
  ihave Hx := (ico_pop hx (Rown X Wt b c qR)) $$ Hx
  icases Hx with ⟨Hx1, Hx⟩
  ihave Hw := (owns_halves (c : Thread nD τ) (rS b l) fullShare (RV X Wt b c l)).2 $$ [Hl1 Hx1]
  · isplitl [Hl1] <;> iassumption
  ihave Hw := (raw_intro (c := c) (m := rS b l) (X := RV X Wt b c l)) $$ Hw
  ihave HJ := (Env_slot X Wt K J b c l) $$ HE
  imod (free_slot (J := J) (c := c) (b := b) (u := l)) $$ [HJ Hrd1 Hw] with ⟨Hrd1, Hrl1⟩
  · isplitl [HJ]; · iexact HJ
    isplitl [Hrd1] <;> iassumption
  have hsk : skey b c (l + 4) = skey b c l := by unfold skey; rw [add4]
  ihave Hrd1 := (Entails.of_eq (show (readerAt ES (skey b c l) (l / 4 + 1 + 1) : sProp 𝕄) = rdr c b (l + 4) by
    unfold rdr; rw [hsk, show (l + 4) / 4 = l / 4 + 1 by omega])) $$ Hrd1
  ihave Hrl1 := (Entails.of_eq (show (released ES (skey b c l) (l / 4 + 1 + 1) : sProp 𝕄) = rlsd c b (l + 4) by
    unfold rlsd; rw [hsk, show (l + 4) / 4 = l / 4 + 1 by omega])) $$ Hrl1
  ihave Hrd := (ico_push (show l + 1 ≤ l + 4 by omega) (rdr c b)) $$ [Hrd Hrd1]
  · isplitl [Hrd] <;> iassumption
  ihave #Hrl2 := (range_push (rlsd c b)) $$ [Hrl1]
  · isplitr; · iexact Hrl
    iexact Hrl1
  ihave HI := (Env_cr X Wt K J b (pc b c)) $$ HE
  iapply (Rounds.wp_signal Variants.none ER (Rd X Wt) (c : Thread nD τ) none (dst := (pc b c : Thread nD τ)) (κ := K (pc b c, kCr b)) (r := 0)
      (d := l) (by rw [duties_cr]; exact Finset.mem_range.mpr h12) (amount_cr X Wt (pc b c) b l) (l + 5) O hO) $$ [HI HO Ht1]
  · isplitl [HI]; · iexact HI
    isplitl [HO]; · iexact HO
    isplitl [Ht1]; · iexact Ht1
    isplitr
    · rw [payload_cr, pc_pc]
      unfold Perm
      iapply (Entails.of_eq (show iprop(bigSep (Finset.range (l + 5)) (rlsd (F := F) c b) ∗ bigSep (Finset.range (l + 5)) (rvOpen c b))
        = bigSep (Finset.range (l + 5)) (fun u => iprop(rlsd c b u ∗ rvOpen c b u)) from (bigSep_sep _ _ _).symm))
      isplitr
      · iexact Hrl2
      · iapply (show (bigSep (Finset.range (r + 4)) (rvOpen (F := F) c b)) ⊢ bigSep (Finset.range (l + 5)) (rvOpen c b) from
          bigSep_subset (fun u hu => Finset.mem_range.mpr (by have := Finset.mem_range.mp hu; omega))) $$ Hop
    · iexact Hre
  iintro HO
  iapply Hk
  isplitl [HO]; · iexists _; iexact HO
  isplitl [Hrd Ht]
  · isplitl [Hrd]; · rw [show l + 1 + 4 = l + 4 + 1 by omega]; iexact Hrd
    isplitr; · rw [show l + 1 + 4 = l + 4 + 1 by omega]; iexact Hrl2
    isplitl [Ht]; · iexact Ht
    iexact Hre
  isplitl [Hrp Hrc]
  · isplitl [Hrp]; · iexact Hrp
    isplitr; · iexact Hop
    iexact Hrc
  isplitl [Hl]; · iexact Hl
  iexact Hx

end Cert.Proof.Run

end
-- ==== Proof.OpsS.lean ====
/-
# One step on a channel, of the whole state

The two channels' steps on a device's state: `y` first, then `x`.
-/
module

public import proofs.«01_k».proof.Proof.OpsC

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}
variable {α : Type}
variable {s w m r a z l n : ℕ} {p : PW} {e : PE} {y x : PC}

theorem NO_eq : NO = NC := by unfold NO NC; decide
theorem dC_o (off : Fin 2 → ℕ) (h) : (oAt off h).view.dmaCredit = NC := (oC_credit off h).trans NO_eq

/-- The channel's parts put together again. -/
theorem ch_close {b : Bool} {q : PC} :
    (iprop(Snd c b q.s q.w ∗ Crd c b q.k ∗ Rcv c b q.r ∗ Rel c b q.l ∗ Rst X Wt c b q.z q.a) : sProp 𝕄) ⊢ Ch X Wt c b q := by
  unfold Ch; exact .rfl

/-- The state's parts put together again. -/
theorem st_close :
    (iprop(Env X Wt K J ∗ Ow c (owM c y.s x.s y.l x.l) ∗ (CW Wt c p ∗ CE X Wt c e ∗ CS X Wt c n) ∗ COwn X Wt c e y ∗ Ch X Wt c false y ∗ Ch X Wt c true x
    ∗ LandL X Wt c false y ∗ LandL X Wt c true x ∗ LandY X Wt c y x ∗ LandX X Wt c x) : sProp 𝕄) ⊢ St X Wt K J c p e y x n := by
  unfold St
  iintro ⟨HE, HO, ⟨HW, HC, HS⟩, Hw, Hy, Hx, Hl, Hm, HY, HX⟩
  isplitl [HE]; · iexact HE
  isplitl [HO]; · iexact HO
  isplitl [HW]; · iexact HW
  isplitl [HC]; · iexact HC
  isplitl [Hw]; · iexact Hw
  isplitl [Hy]; · iexact Hy
  isplitl [Hx]; · iexact Hx
  isplitl [Hl]; · iexact Hl
  isplitl [Hm]; · iexact Hm
  isplitl [HY]; · iexact HY
  isplitl [HX]; · iexact HX
  iexact HS
theorem st_open :
    (St X Wt K J c p e y x n : sProp 𝕄) ⊢ iprop(Env X Wt K J ∗ Ow c (owM c y.s x.s y.l x.l) ∗ (CW Wt c p ∗ CE X Wt c e ∗ CS X Wt c n) ∗ COwn X Wt c e y ∗ Ch X Wt c false y ∗ Ch X Wt c true x
    ∗ LandL X Wt c false y ∗ LandL X Wt c true x ∗ LandY X Wt c y x ∗ LandX X Wt c x) := by
  unfold St
  iintro ⟨HE, HO, HW, HC, Hw, Hy, Hx, Hl, Hm, HY, HX, HS⟩
  isplitl [HE]; · iexact HE
  isplitl [HO]; · iexact HO
  isplitl [HW HC HS]
  · isplitl [HW]; · iexact HW
    isplitl [HC] <;> iassumption
  isplitl [Hw]; · iexact Hw
  isplitl [Hy]; · iexact Hy
  isplitl [Hx]; · iexact Hx
  isplitl [Hl]; · iexact Hl
  isplitl [Hm]; · iexact Hm
  isplitl [HY]; · iexact HY
  iexact HX

/-- A step of a program from a step of one part: what the state is made of goes in, the next state comes out. -/
theorem st_step {t : Prog (TpuEff nD τ sig (Elt F) Λ₀ .tc) α} {k : Prog (TpuEff nD τ sig (Elt F) Λ₀ .tc) α} {Q : α → sProp 𝕄}
    {p' : PW} {e' : PE} {y' x' : PC} {n' : ℕ}
    (h : iprop(Env X Wt K J ∗ Ow c (owM c y.s x.s y.l x.l) ∗ (CW Wt c p ∗ CE X Wt c e ∗ CS X Wt c n) ∗ COwn X Wt c e y ∗ Ch X Wt c false y ∗ Ch X Wt c true x
        ∗ LandL X Wt c false y ∗ LandL X Wt c true x ∗ LandY X Wt c y x ∗ LandX X Wt c x)
      ⊢ iprop((iprop(Env X Wt K J ∗ Ow c (owM c y'.s x'.s y'.l x'.l) ∗ (CW Wt c p' ∗ CE X Wt c e' ∗ CS X Wt c n') ∗ COwn X Wt c e' y' ∗ Ch X Wt c false y' ∗ Ch X Wt c true x'
        ∗ LandL X Wt c false y' ∗ LandL X Wt c true x' ∗ LandY X Wt c y' x' ∗ LandX X Wt c x') -∗ WP c k Q) -∗ WP c t Q))
    (hk : St X Wt K J c p' e' y' x' n' ⊢ WP c k Q) : St X Wt K J c p e y x n ⊢ WP c t Q := by
  iintro H
  ihave H := st_open $$ H
  iapply h $$ H
  iintro H
  iapply hk
  iapply st_close $$ H

theorem y_send {s' off hin hs h1 h2} {d : Dev nD} {hsc : (rAt false ![s', 0, 0] hs).view.ref.isScScratch = false}
    {hsrc : (oAt off hin).view.WordExact} {hdst : (rAt false ![s', 0, 0] hs).view.WordExact}
    {hsem : DmaTarget.Typed .hbm (.dma (s4At cc0_scratch10 ![s'] h2)) (.remote (d : Thread nD τ) (rAt false ![s', 0, 0] hs) (.dma (s4At cc0_scratch9 ![s'] h1)) hsc)}
    {k : PUnit → Prog (TpuEff nD τ sig (Elt F) Λ₀ .tc) α} {Q : α → sProp 𝕄}
    (hd : d = py c) (hs₀ : s' = s % 4) (hoff : off = ![0, 512 * (gof c s % 64)]) (hw : w ≤ s) (hw4 : s < w + 4) (h16 : s < 16) (hm : s < m + 4) (he : s < e.h)
    (hk : St X Wt K J c p e ⟨s + 1, w, m, r, a, z, l⟩ x n ⊢ WP c (k ⟨⟩) Q) :
    St X Wt K J c p e ⟨s, w, m, r, a, z, l⟩ x n
      ⊢ WP c (.op (.enqueueDma (oAt off hin) (.remote (d : Thread nD τ) (rAt false ![s', 0, 0] hs) (.dma (s4At cc0_scratch9 ![s'] h1)) hsc)
          (.dma (s4At cc0_scratch10 ![s'] h2)) hsrc hdst hsem) k) Q := by
  subst hs₀ hoff
  refine st_step ?_ hk
  unfold Ch COwn LandL LandY Crd
  iintro ⟨#HE, HO, HW, ⟨Hw1, Hw2⟩, ⟨Hs, ⟨Hc1, Hc2, #HP⟩, Hr⟩, HR⟩ Hk
  ihave Hw2 := (ico_pop he (Oown X Wt c)) $$ Hw2
  icases Hw2 with ⟨Hw3, Hw2⟩
  iapply (snd_send (b := false) (X := X) (Wt := Wt) (K := K) (J := J) (m := m) (Y := EV X Wt c (jof c s)) hd hw hw4 h16 hm (owM_popY c h16)
    (Entails.of_eq (payload_sdy X Wt c s 0).symm)
    (by show EV X Wt c (jof c s) = EV X Wt (py (py c)) (jof (py c) s); unfold jof; rw [py_py, cx_py])) $$ [HO Hs Hw3]
  · isplitr; · iexact HE
    isplitl [HO]; · iexact HO
    isplitl [Hs]; · iexact Hs
    isplitr; · iexact HP
    iexact Hw3
  iintro ⟨HO, Hs⟩
  iapply Hk
  isplitr; · iexact HE
  isplitl [HO]; · iexact HO
  isplitl [HW]; · iexact HW
  isplitl [Hw1 Hw2]
  · isplitl [Hw1] <;> iassumption
  isplitr [HR]
  · isplitl [Hs]; · iexact Hs
    isplitl [Hc1 Hc2]
    · isplitl [Hc1]; · iexact Hc1
      isplitl [Hc2]; · iexact Hc2
      iexact HP
    iexact Hr
  iexact HR

theorem x_send {s' hr hs h1 h2} {d : Dev nD} {hsc : (rAt true ![s', 0, 0] hs).view.ref.isScScratch = false}
    {hsrc : (rAt false ![s', 0, 0] hr).view.WordExact} {hdst : (rAt true ![s', 0, 0] hs).view.WordExact}
    {hsem : DmaTarget.Typed .vmem (.dma (s4At cc0_scratch12 ![s'] h2)) (.remote (d : Thread nD τ) (rAt true ![s', 0, 0] hs) (.dma (s4At cc0_scratch11 ![s'] h1)) hsc)}
    {k : PUnit → Prog (TpuEff nD τ sig (Elt F) Λ₀ .tc) α} {Q : α → sProp 𝕄}
    (hd : d = px c) (hs₀ : s' = s % 4) (hw : w ≤ s) (hw4 : s < w + 4) (h16 : s < 16) (hm : s < m + 4) (hy : s < y.r)
    (hk : St X Wt K J c p e y ⟨s + 1, w, m, r, a, z, l⟩ n ⊢ WP c (k ⟨⟩) Q) :
    St X Wt K J c p e y ⟨s, w, m, r, a, z, l⟩ n
      ⊢ WP c (.op (.enqueueDma (rAt false ![s', 0, 0] hr) (.remote (d : Thread nD τ) (rAt true ![s', 0, 0] hs) (.dma (s4At cc0_scratch11 ![s'] h1)) hsc)
          (.dma (s4At cc0_scratch12 ![s'] h2)) hsrc hdst hsem) k) Q := by
  subst hs₀
  refine st_step ?_ hk
  unfold Ch LandY Crd
  iintro ⟨#HE, HO, HW, HC, HY, ⟨Hs, ⟨Hc1, Hc2, #HP⟩, Hr⟩, HL1, HL2, ⟨Hy1, Hy2⟩, HX⟩ Hk
  ihave Hy2 := (ico_pop hy (Rown X Wt false c qR)) $$ Hy2
  icases Hy2 with ⟨Hy3, Hy2⟩
  iapply (snd_send (b := true) (X := X) (Wt := Wt) (K := K) (J := J) (m := m) (q := qR) (Y := RV X Wt false c s) hd hw hw4 h16 hm (owM_popX c h16)
    (Entails.of_eq (payload_sdx X Wt c s 0).symm) (RV_true_px X Wt c s).symm) $$ [HO Hs Hy3]
  · isplitr; · iexact HE
    isplitl [HO]; · iexact HO
    isplitl [Hs]; · iexact Hs
    isplitr; · iexact HP
    iexact Hy3
  iintro ⟨HO, Hs⟩
  iapply Hk
  isplitr; · iexact HE
  isplitl [HO]; · iexact HO
  isplitl [HW]; · iexact HW
  isplitl [HC]; · iexact HC
  isplitl [HY]; · iexact HY
  isplitl [Hs Hc1 Hc2 Hr]
  · isplitl [Hs]; · iexact Hs
    isplitl [Hc1 Hc2]
    · isplitl [Hc1]; · iexact Hc1
      isplitl [Hc2]; · iexact Hc2
      iexact HP
    iexact Hr
  isplitl [HL1]; · iexact HL1
  isplitl [HL2]; · iexact HL2
  isplitl [Hy1 Hy2]
  · isplitl [Hy1] <;> iassumption
  iexact HX

/-! ## Waits for sends -/

theorem y_sent {s' hs off hin} {sp : Space} {s₁ : Shape} {e₁ : EltTy} {srcw : Memref sig .tc sp s₁ e₁} {hsrc : srcw.view.WordExact} {hdst : (oAt off hin).view.WordExact}
    {k : PUnit → Prog (TpuEff nD τ sig (Elt F) Λ₀ .tc) α} {Q : α → sProp 𝕄}
    (hs₀ : s' = w % 4) (hw : w < s) (h16 : s ≤ 16)
    (hk : St X Wt K J c p e ⟨s, w + 1, m, r, a, z, l⟩ x n ⊢ WP c (k ⟨⟩) Q) :
    St X Wt K J c p e ⟨s, w, m, r, a, z, l⟩ x n ⊢ WP c (.op (.waitDma2 (s4At cc0_scratch9 ![s'] hs) srcw (oAt off hin) hsrc hdst) k) Q := by
  subst hs₀
  refine st_step ?_ hk
  unfold Ch COwn LandY
  iintro ⟨#HE, HO, HW, ⟨Hw1, Hw2⟩, ⟨Hs, Hr⟩, HR⟩ Hk
  iapply (snd_wait (b := false) (X := X) (Wt := Wt) (K := K) (J := J) hw h16 (dC_o _ _) may0) $$ [HO Hs]
  · isplitr; · iexact HE
    isplitl [HO] <;> iassumption
  iintro ⟨HO, Hs, Hp⟩
  ihave Hp := (Entails.of_eq (payload_sdy X Wt c w 0)) $$ Hp
  ihave Hw1 := (range_push (Oown X Wt c)) $$ [Hw1 Hp]
  · isplitl [Hw1] <;> iassumption
  iapply Hk
  isplitr; · iexact HE
  isplitl [HO]; · iexact HO
  isplitl [HW]; · iexact HW
  isplitl [Hw1 Hw2]
  · isplitl [Hw1] <;> iassumption
  isplitr [HR]
  · isplitl [Hs] <;> iassumption
  iexact HR

theorem x_sent {s' hs hr hi} {sp : Space} {s₁ : Shape} {e₁ : EltTy} {srcw : Memref sig .tc sp s₁ e₁} {hsrc : srcw.view.WordExact} {hdst : (rAt false hr hi).view.WordExact}
    {k : PUnit → Prog (TpuEff nD τ sig (Elt F) Λ₀ .tc) α} {Q : α → sProp 𝕄}
    (hs₀ : s' = w % 4) (hw : w < s) (h16 : s ≤ 16) (hl : y.l ≤ w)
    (hk : St X Wt K J c p e y ⟨s, w + 1, m, r, a, z, l⟩ n ⊢ WP c (k ⟨⟩) Q) :
    St X Wt K J c p e y ⟨s, w, m, r, a, z, l⟩ n ⊢ WP c (.op (.waitDma2 (s4At cc0_scratch11 ![s'] hs) srcw (rAt false hr hi) hsrc hdst) k) Q := by
  subst hs₀
  refine st_step ?_ hk
  unfold Ch LandY
  iintro ⟨#HE, HO, HW, HC, HY, ⟨Hs, Hr⟩, HL1, HL2, ⟨Hy1, Hy2⟩, HX⟩ Hk
  iapply (snd_wait (b := true) (X := X) (Wt := Wt) (K := K) (J := J) hw h16 (rS_credit false _ _) may0) $$ [HO Hs]
  · isplitr; · iexact HE
    isplitl [HO] <;> iassumption
  iintro ⟨HO, Hs, Hp⟩
  ihave Hp := (Entails.of_eq (payload_sdx X Wt c w 0)) $$ Hp
  ihave Hy1 := (ico_push hl (Rown X Wt false c qR)) $$ [Hy1 Hp]
  · isplitl [Hy1] <;> iassumption
  iapply Hk
  isplitr; · iexact HE
  isplitl [HO]; · iexact HO
  isplitl [HW]; · iexact HW
  isplitl [HC]; · iexact HC
  isplitl [HY]; · iexact HY
  isplitl [Hs Hr]
  · isplitl [Hs] <;> iassumption
  isplitl [HL1]; · iexact HL1
  isplitl [HL2]; · iexact HL2
  isplitl [Hy1 Hy2]
  · isplitl [Hy1] <;> iassumption
  iexact HX

/-! ## Waits for credit -/

theorem y_credit {i : ℕ} {k : PUnit → Prog (TpuEff nD τ sig (Elt F) Λ₀ .tc) α} {Q : α → sProp 𝕄}
    (hi : i = 1) (hm : m < 12) (h1 : 16 ≤ s ∨ m + 5 < s + 2) (h2 : 16 ≤ x.s ∨ m + 5 < x.s + 3) (h3 : 12 ≤ l ∨ m < l) (h4 : 12 ≤ x.l ∨ m < x.l)
    (hk : St X Wt K J c p e ⟨s, w, m + 1, r, a, z, l⟩ x n ⊢ WP c (k ⟨⟩) Q) :
    St X Wt K J c p e ⟨s, w, m, r, a, z, l⟩ x n ⊢ WP c (.op (.semWait (cc0_scratch17 : Sems sig S_).sem i) k) Q := by
  refine st_step ?_ hk
  unfold Ch
  iintro ⟨#HE, HO, HW, HC, ⟨Hs, Hc, Hr⟩, HR⟩ Hk
  iapply (crd_wait (b := false) (X := X) (Wt := Wt) (K := K) (J := J) hi hm (mayE h1 h2 (h3.imp_right fun h => by omega) (h4.imp_right fun h => by omega) (by omega))) $$ [HO Hc]
  · isplitr; · iexact HE
    isplitl [HO] <;> iassumption
  iintro ⟨HO, Hc⟩
  iapply Hk
  isplitr; · iexact HE
  isplitl [HO]; · iexact HO
  isplitl [HW]; · iexact HW
  isplitl [HC]; · iexact HC
  isplitr [HR]
  · isplitl [Hs]; · iexact Hs
    isplitl [Hc] <;> iassumption
  iexact HR

theorem x_credit {i : ℕ} {k : PUnit → Prog (TpuEff nD τ sig (Elt F) Λ₀ .tc) α} {Q : α → sProp 𝕄}
    (hi : i = 1) (hm : m < 12) (h1 : 16 ≤ y.s ∨ m + 5 < y.s + 2) (h2 : 16 ≤ s ∨ m + 5 < s + 3) (h3 : 12 ≤ y.l ∨ m < y.l) (h4 : 12 ≤ l ∨ m < l)
    (hk : St X Wt K J c p e y ⟨s, w, m + 1, r, a, z, l⟩ n ⊢ WP c (k ⟨⟩) Q) :
    St X Wt K J c p e y ⟨s, w, m, r, a, z, l⟩ n ⊢ WP c (.op (.semWait (cc0_scratch18 : Sems sig S_).sem i) k) Q := by
  refine st_step ?_ hk
  unfold Ch
  iintro ⟨#HE, HO, HW, HC, HY, ⟨Hs, Hc, Hr⟩, HR⟩ Hk
  iapply (crd_wait (b := true) (X := X) (Wt := Wt) (K := K) (J := J) hi hm (mayE h1 h2 (h3.imp_right fun h => by omega) (h4.imp_right fun h => by omega) (by omega))) $$ [HO Hc]
  · isplitr; · iexact HE
    isplitl [HO] <;> iassumption
  iintro ⟨HO, Hc⟩
  iapply Hk
  isplitr; · iexact HE
  isplitl [HO]; · iexact HO
  isplitl [HW]; · iexact HW
  isplitl [HC]; · iexact HC
  isplitl [HY]; · iexact HY
  isplitr [HR]
  · isplitl [Hs]; · iexact Hs
    isplitl [Hc] <;> iassumption
  iexact HR

/-! ## Waits for landings -/

theorem y_recv {s' hs hr hi} {sp : Space} {s₁ : Shape} {e₁ : EltTy} {srcw : Memref sig .tc sp s₁ e₁} {hsrc : srcw.view.WordExact} {hdst : (rAt false hr hi).view.WordExact}
    {k : PUnit → Prog (TpuEff nD τ sig (Elt F) Λ₀ .tc) α} {Q : α → sProp 𝕄}
    (hs₀ : s' = r % 4) (h16 : r < 16) (ha : a ≤ r) (hx : x.s ≤ r) (h1 : 16 ≤ s ∨ r < s) (h2 : 16 ≤ x.s ∨ r ≤ x.s) (h3 : 12 ≤ l ∨ r < l + 3) (h4 : 12 ≤ x.l ∨ r < x.l + 3)
    (hk : St X Wt K J c p e ⟨s, w, m, r + 1, a, z, l⟩ x n ⊢ WP c (k ⟨⟩) Q) :
    St X Wt K J c p e ⟨s, w, m, r, a, z, l⟩ x n ⊢ WP c (.op (.waitDma2 (s4At cc0_scratch10 ![s'] hs) srcw (rAt false hr hi) hsrc hdst) k) Q := by
  subst hs₀
  refine st_step ?_ hk
  unfold Ch LandL LandY
  iintro ⟨#HE, HO, HW, HC, ⟨Hs, Hc, Hr, HZ⟩, HX, ⟨HL1, HL2⟩, HM, ⟨HY1, HY2⟩, HR⟩ Hk
  iapply (rcv_wait (b := false) (X := X) (Wt := Wt) (K := K) (J := J) h16 (rS_credit false _ _)
    (mayE (ys := s) (xs := x.s) (yl := l) (xl := x.l) (ι := iR false r) (by unfold iR; simp only [Bool.false_eq_true, if_false]; omega) (by unfold iR; simp only [Bool.false_eq_true, if_false]; omega)
      (by unfold iR; simp only [Bool.false_eq_true, if_false]; omega) (by unfold iR; simp only [Bool.false_eq_true, if_false]; omega)
      (by unfold iR; simp only [Bool.false_eq_true, if_false]; omega))) $$ [HO Hr]
  · isplitr; · iexact HE
    isplitl [HO] <;> iassumption
  iintro ⟨HO, Hr, HA, HB⟩
  ihave HL2 := (ico_push ha (Rown X Wt false c qL)) $$ [HL2 HA]
  · isplitl [HL2] <;> iassumption
  ihave HY2 := (ico_push hx (Rown X Wt false c qR)) $$ [HY2 HB]
  · isplitl [HY2] <;> iassumption
  iapply Hk
  isplitr; · iexact HE
  isplitl [HO]; · iexact HO
  isplitl [HW]; · iexact HW
  isplitl [HC]; · iexact HC
  isplitl [Hs Hc Hr HZ]
  · isplitl [Hs]; · iexact Hs
    isplitl [Hc]; · iexact Hc
    isplitl [Hr] <;> iassumption
  isplitl [HX]; · iexact HX
  isplitl [HL1 HL2]
  · isplitl [HL1] <;> iassumption
  isplitl [HM]; · iexact HM
  isplitl [HY1 HY2]
  · isplitl [HY1] <;> iassumption
  iexact HR

theorem x_recv {s' hs hr hi} {sp : Space} {s₁ : Shape} {e₁ : EltTy} {srcw : Memref sig .tc sp s₁ e₁} {hsrc : srcw.view.WordExact} {hdst : (rAt true hr hi).view.WordExact}
    {k : PUnit → Prog (TpuEff nD τ sig (Elt F) Λ₀ .tc) α} {Q : α → sProp 𝕄}
    (hs₀ : s' = r % 4) (h16 : r < 16) (ha : a ≤ r) (hl : l ≤ r) (h1 : 16 ≤ y.s ∨ r + 1 < y.s) (h2 : 16 ≤ s ∨ r < s) (h3 : 12 ≤ y.l ∨ r < y.l + 2) (h4 : 12 ≤ l ∨ r < l + 2)
    (hk : St X Wt K J c p e y ⟨s, w, m, r + 1, a, z, l⟩ n ⊢ WP c (k ⟨⟩) Q) :
    St X Wt K J c p e y ⟨s, w, m, r, a, z, l⟩ n ⊢ WP c (.op (.waitDma2 (s4At cc0_scratch12 ![s'] hs) srcw (rAt true hr hi) hsrc hdst) k) Q := by
  subst hs₀
  refine st_step ?_ hk
  unfold Ch LandL LandX
  iintro ⟨#HE, HO, HW, HC, HY, ⟨Hs, Hc, Hr, HZ⟩, HM, ⟨HL1, HL2⟩, HR, HX⟩ Hk
  iapply (rcv_wait (b := true) (X := X) (Wt := Wt) (K := K) (J := J) h16 (rS_credit true _ _)
    (mayE (ys := y.s) (xs := s) (yl := y.l) (xl := l) (ι := iR true r) (by unfold iR; simp only [if_true]; omega) (by unfold iR; simp only [if_true]; omega)
      (by unfold iR; simp only [if_true]; omega) (by unfold iR; simp only [if_true]; omega)
      (by unfold iR; simp only [if_true]; omega))) $$ [HO Hr]
  · isplitr; · iexact HE
    isplitl [HO] <;> iassumption
  iintro ⟨HO, Hr, HA, HB⟩
  ihave HL2 := (ico_push ha (Rown X Wt true c qL)) $$ [HL2 HA]
  · isplitl [HL2] <;> iassumption
  ihave HX := (ico_push hl (Rown X Wt true c qR)) $$ [HX HB]
  · isplitl [HX] <;> iassumption
  iapply Hk
  isplitr; · iexact HE
  isplitl [HO]; · iexact HO
  isplitl [HW]; · iexact HW
  isplitl [HC]; · iexact HC
  isplitl [HY]; · iexact HY
  isplitl [Hs Hc Hr HZ]
  · isplitl [Hs]; · iexact Hs
    isplitl [Hc]; · iexact Hc
    isplitl [Hr] <;> iassumption
  isplitl [HM]; · iexact HM
  isplitl [HL1 HL2]
  · isplitl [HL1] <;> iassumption
  isplitl [HR]; · iexact HR
  iexact HX

/-! ## The landed chunks' stores -/

theorem y_start {s' off hin hs hs' hsrc hdst hsem} {k : PUnit → Prog (TpuEff nD τ sig (Elt F) Λ₀ .tc) α} {Q : α → sProp 𝕄}
    (hoff : off = ![0, 512 * (gst false c a % 64)]) (hs₀ : s' = a % 4) (hza : z ≤ a) (h4 : a < z + 4) (h16 : a < 16) (har : a < r)
    (hk : St X Wt K J c p e ⟨s, w, m, r, a + 1, z, l⟩ x n ⊢ WP c (k ⟨⟩) Q) :
    St X Wt K J c p e ⟨s, w, m, r, a, z, l⟩ x n
      ⊢ WP c (.op (.enqueueDma (rAt false ![s', 0, 0] hs) (.here (oAt off hin)) (.dma (s4At cc0_scratch13 ![s'] hs')) hsrc hdst hsem) k) Q := by
  subst hs₀
  refine st_step ?_ hk
  unfold Ch LandL
  iintro ⟨HE, HO, HW, HC, ⟨Hs, Hc, Hr, Hl, HZ⟩, HX, ⟨HL1, HL2⟩, HR⟩ Hk
  iapply (rst_start (b := false) (X := X) (Wt := Wt) (c := c) hoff hza h4 h16 har) $$ [HZ HL2]
  · isplitl [HZ] <;> iassumption
  iintro ⟨HZ, HL2⟩
  iapply Hk
  isplitl [HE]; · iexact HE
  isplitl [HO]; · iexact HO
  isplitl [HW]; · iexact HW
  isplitl [HC]; · iexact HC
  isplitl [Hs Hc Hr Hl HZ]
  · isplitl [Hs]; · iexact Hs
    isplitl [Hc]; · iexact Hc
    isplitl [Hr]; · iexact Hr
    isplitl [Hl] <;> iassumption
  isplitl [HX]; · iexact HX
  isplitl [HL1 HL2]
  · isplitl [HL1] <;> iassumption
  iexact HR

theorem x_start {s' off hin hs hs' hsrc hdst hsem} {k : PUnit → Prog (TpuEff nD τ sig (Elt F) Λ₀ .tc) α} {Q : α → sProp 𝕄}
    (hoff : off = ![0, 512 * (gst true c a % 64)]) (hs₀ : s' = a % 4) (hza : z ≤ a) (h4 : a < z + 4) (h16 : a < 16) (har : a < r)
    (hk : St X Wt K J c p e y ⟨s, w, m, r, a + 1, z, l⟩ n ⊢ WP c (k ⟨⟩) Q) :
    St X Wt K J c p e y ⟨s, w, m, r, a, z, l⟩ n
      ⊢ WP c (.op (.enqueueDma (rAt true ![s', 0, 0] hs) (.here (oAt off hin)) (.dma (s4At cc0_scratch14 ![s'] hs')) hsrc hdst hsem) k) Q := by
  subst hs₀
  refine st_step ?_ hk
  unfold Ch LandL
  iintro ⟨HE, HO, HW, HC, HY, ⟨Hs, Hc, Hr, Hl, HZ⟩, HM, ⟨HL1, HL2⟩, HR⟩ Hk
  iapply (rst_start (b := true) (X := X) (Wt := Wt) (c := c) hoff hza h4 h16 har) $$ [HZ HL2]
  · isplitl [HZ] <;> iassumption
  iintro ⟨HZ, HL2⟩
  iapply Hk
  isplitl [HE]; · iexact HE
  isplitl [HO]; · iexact HO
  isplitl [HW]; · iexact HW
  isplitl [HC]; · iexact HC
  isplitl [HY]; · iexact HY
  isplitl [Hs Hc Hr Hl HZ]
  · isplitl [Hs]; · iexact Hs
    isplitl [Hc]; · iexact Hc
    isplitl [Hr]; · iexact Hr
    isplitl [Hl] <;> iassumption
  isplitl [HM]; · iexact HM
  isplitl [HL1 HL2]
  · isplitl [HL1] <;> iassumption
  iexact HR

theorem y_stored {s' off hin hs'} {sp' : Space} {t' : Shape} {e' : EltTy} {srcw : Memref sig .tc sp' t' e'} {hsrc : srcw.view.WordExact} {hdst : (oAt off hin).view.WordExact}
    {k : PUnit → Prog (TpuEff nD τ sig (Elt F) Λ₀ .tc) α} {Q : α → sProp 𝕄}
    (hs₀ : s' = z % 4) (hza : z < a) (h4 : a ≤ z + 4) (hlz : l ≤ z)
    (hk : St X Wt K J c p e ⟨s, w, m, r, a, z + 1, l⟩ x n ⊢ WP c (k ⟨⟩) Q) :
    St X Wt K J c p e ⟨s, w, m, r, a, z, l⟩ x n ⊢ WP c (.op (.waitDma2 (s4At cc0_scratch13 ![s'] hs') srcw (oAt off hin) hsrc hdst) k) Q := by
  subst hs₀
  refine st_step ?_ hk
  unfold Ch LandL
  iintro ⟨#HE, HO, HW, HC, ⟨Hs, Hc, Hr, Hl, HZ⟩, HX, ⟨HL1, HL2⟩, HR⟩ Hk
  iapply (rst_wait (b := false) (X := X) (Wt := Wt) (K := K) (J := J) (c := c) hza h4 hlz may0) $$ [HO HZ HL1]
  · isplitr; · iexact HE
    isplitl [HO]; · iexact HO
    isplitl [HZ] <;> iassumption
  iintro ⟨HO, HZ, HL1⟩
  iapply Hk
  isplitr; · iexact HE
  isplitl [HO]; · iexact HO
  isplitl [HW]; · iexact HW
  isplitl [HC]; · iexact HC
  isplitl [Hs Hc Hr Hl HZ]
  · isplitl [Hs]; · iexact Hs
    isplitl [Hc]; · iexact Hc
    isplitl [Hr]; · iexact Hr
    isplitl [Hl] <;> iassumption
  isplitl [HX]; · iexact HX
  isplitl [HL1 HL2]
  · isplitl [HL1] <;> iassumption
  iexact HR

theorem x_stored {s' off hin hs'} {sp' : Space} {t' : Shape} {e' : EltTy} {srcw : Memref sig .tc sp' t' e'} {hsrc : srcw.view.WordExact} {hdst : (oAt off hin).view.WordExact}
    {k : PUnit → Prog (TpuEff nD τ sig (Elt F) Λ₀ .tc) α} {Q : α → sProp 𝕄}
    (hs₀ : s' = z % 4) (hza : z < a) (h4 : a ≤ z + 4) (hlz : l ≤ z)
    (hk : St X Wt K J c p e y ⟨s, w, m, r, a, z + 1, l⟩ n ⊢ WP c (k ⟨⟩) Q) :
    St X Wt K J c p e y ⟨s, w, m, r, a, z, l⟩ n ⊢ WP c (.op (.waitDma2 (s4At cc0_scratch14 ![s'] hs') srcw (oAt off hin) hsrc hdst) k) Q := by
  subst hs₀
  refine st_step ?_ hk
  unfold Ch LandL
  iintro ⟨#HE, HO, HW, HC, HY, ⟨Hs, Hc, Hr, Hl, HZ⟩, HM, ⟨HL1, HL2⟩, HR⟩ Hk
  iapply (rst_wait (b := true) (X := X) (Wt := Wt) (K := K) (J := J) (c := c) hza h4 hlz may0) $$ [HO HZ HL1]
  · isplitr; · iexact HE
    isplitl [HO]; · iexact HO
    isplitl [HZ] <;> iassumption
  iintro ⟨HO, HZ, HL1⟩
  iapply Hk
  isplitr; · iexact HE
  isplitl [HO]; · iexact HO
  isplitl [HW]; · iexact HW
  isplitl [HC]; · iexact HC
  isplitl [HY]; · iexact HY
  isplitl [Hs Hc Hr Hl HZ]
  · isplitl [Hs]; · iexact Hs
    isplitl [Hc]; · iexact Hc
    isplitl [Hr]; · iexact Hr
    isplitl [Hl] <;> iassumption
  isplitl [HM]; · iexact HM
  isplitl [HL1 HL2]
  · isplitl [HL1] <;> iassumption
  iexact HR

/-! ## Releases -/

theorem y_free {i : ℕ} {d : Dev nD} {k : PUnit → Prog (TpuEff nD τ sig (Elt F) Λ₀ .tc) α} {Q : α → sProp 𝕄}
    (hd : d = py c) (hi : i = 1) (hz : l < z) (hx : l < x.w) (hr : l + 1 ≤ r) (h12 : l < 12)
    (hk : St X Wt K J c p e ⟨s, w, m, r, a, z, l + 1⟩ x n ⊢ WP c (k ⟨⟩) Q) :
    St X Wt K J c p e ⟨s, w, m, r, a, z, l⟩ x n ⊢ WP c (.op (.semSignal (d : Thread nD τ) (cc0_scratch17 : Sems sig S_).sem i) k) Q := by
  refine st_step ?_ hk
  unfold Ch LandL LandY
  iintro ⟨#HE, HO, HW, HC, ⟨Hs, Hc, Hr, Hl, HZ⟩, HX, ⟨HL1, HL2⟩, HM, ⟨HY1, HY2⟩, HR⟩ Hk
  iapply (rel_signal (b := false) (X := X) (Wt := Wt) (K := K) (J := J) hd hi hz hx hr h12 (owM_popYl c h12)) $$ [HO Hl Hr HL1 HY1]
  · isplitr; · iexact HE
    isplitl [HO]; · iexact HO
    isplitl [Hl]; · iexact Hl
    isplitl [Hr]; · iexact Hr
    isplitl [HL1] <;> iassumption
  iintro ⟨HO, Hl, Hr, HL1, HY1⟩
  iapply Hk
  isplitr; · iexact HE
  isplitl [HO]; · iexact HO
  isplitl [HW]; · iexact HW
  isplitl [HC]; · iexact HC
  isplitl [Hs Hc Hr Hl HZ]
  · isplitl [Hs]; · iexact Hs
    isplitl [Hc]; · iexact Hc
    isplitl [Hr]; · iexact Hr
    isplitl [Hl] <;> iassumption
  isplitl [HX]; · iexact HX
  isplitl [HL1 HL2]
  · isplitl [HL1] <;> iassumption
  isplitl [HM]; · iexact HM
  isplitl [HY1 HY2]
  · isplitl [HY1] <;> iassumption
  iexact HR

theorem x_free {i : ℕ} {d : Dev nD} {k : PUnit → Prog (TpuEff nD τ sig (Elt F) Λ₀ .tc) α} {Q : α → sProp 𝕄}
    (hd : d = px c) (hi : i = 1) (hz : l < z) (hr : l + 1 ≤ r) (h12 : l < 12)
    (hk : St X Wt K J c p e y ⟨s, w, m, r, a, z, l + 1⟩ n ⊢ WP c (k ⟨⟩) Q) :
    St X Wt K J c p e y ⟨s, w, m, r, a, z, l⟩ n ⊢ WP c (.op (.semSignal (d : Thread nD τ) (cc0_scratch18 : Sems sig S_).sem i) k) Q := by
  refine st_step ?_ hk
  unfold Ch LandL LandX
  iintro ⟨#HE, HO, HW, HC, HY, ⟨Hs, Hc, Hr, Hl, HZ⟩, HM, ⟨HL1, HL2⟩, HR, HX⟩ Hk
  iapply (rel_signal (b := true) (X := X) (Wt := Wt) (K := K) (J := J) hd hi hz (show l < r by omega) hr h12 (owM_popXl c h12)) $$ [HO Hl Hr HL1 HX]
  · isplitr; · iexact HE
    isplitl [HO]; · iexact HO
    isplitl [Hl]; · iexact Hl
    isplitl [Hr]; · iexact Hr
    isplitl [HL1] <;> iassumption
  iintro ⟨HO, Hl, Hr, HL1, HX⟩
  iapply Hk
  isplitr; · iexact HE
  isplitl [HO]; · iexact HO
  isplitl [HW]; · iexact HW
  isplitl [HC]; · iexact HC
  isplitl [HY]; · iexact HY
  isplitl [Hs Hc Hr Hl HZ]
  · isplitl [Hs]; · iexact Hs
    isplitl [Hc]; · iexact Hc
    isplitl [Hr]; · iexact Hr
    isplitl [Hl] <;> iassumption
  isplitl [HM]; · iexact HM
  isplitl [HL1 HL2]
  · isplitl [HL1] <;> iassumption
  isplitl [HR]; · iexact HR
  iexact HX

end Cert.Proof.Run

end
-- ==== Proof.Trip.lean ====
/-
# A trip's words

The first loop's trips, four rounds each: where the windows lie, which conditions hold.
-/
module

public import proofs.«01_k».proof.Proof.OpsS

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-- A printed function at the kernel's own buffers and semaphores. -/
abbrev onBufs {β : Sort*}
    (f : (arg0 : Memref sig .tc .vmem S1024x2048 .f32) → arg0.IsWhole → (arg1 : Memref sig .tc .hbm S2048x16384 .f32) → arg1.IsWhole →
      (arg2 : Memref sig .tc .hbm S1024x32768 .f32) → arg2.IsWhole → (arg3 : Memref sig .tc .vmem S2x2048x512 .f32) → arg3.IsWhole →
      (arg4 : Memref sig .tc .vmem S2x1024x512 .f32) → arg4.IsWhole → (arg5 : Memref sig .tc .vmem S4x1024x512 .f32) → arg5.IsWhole →
      (arg6 : Memref sig .tc .vmem S4x1024x512 .f32) → arg6.IsWhole → (arg7 : Memref sig .tc .vmem S1024x1 .f32) → arg7.IsWhole →
      (arg8 : Memref sig .tc .vmem S1024x1 .f32) → arg8.IsWhole → (arg9 : Memref sig .tc .vmem S1024x1 .f32) → arg9.IsWhole →
      (arg10 : DmaSems sig S2) → (arg11 : DmaSems sig S2) → (arg12 : DmaSems sig S4) → (arg13 : DmaSems sig S4) → (arg14 : DmaSems sig S4) →
      (arg15 : DmaSems sig S4) → (arg16 : DmaSems sig S4) → (arg17 : DmaSems sig S4) → (arg18 : DmaSems sig S_) → (arg19 : DmaSems sig S_) →
      (arg20 : Sems sig S_) → (arg21 : Sems sig S_) → (arg22 : DmaSems sig S4) → (arg23 : DmaSems sig S4) → β) : β :=
  f xM (Memref.isWhole_whole _) wM (Memref.isWhole_whole _) oM (Memref.isWhole_whole _) wbM (Memref.isWhole_whole _) ebM (Memref.isWhole_whole _)
    yrM (Memref.isWhole_whole _) xrM (Memref.isWhole_whole _) sM (Memref.isWhole_whole _) soM (Memref.isWhole_whole _) ivM (Memref.isWhole_whole _)
    cc0_scratch7 cc0_scratch8 cc0_scratch9 cc0_scratch10 cc0_scratch11 cc0_scratch12 cc0_scratch13 cc0_scratch14 cc0_scratch15 cc0_scratch16
    cc0_scratch17 cc0_scratch18 cc0_scratch19 cc0_scratch20

/-- A state at equal positions. -/
theorem st_at {h b a h' b' a' f g j f' g' j' s w k r u z l s' w' k' r' u' z' l' s₁ w₁ k₁ r₁ u₁ z₁ l₁ s₂ w₂ k₂ r₂ u₂ z₂ l₂ n n' : ℕ} {R : sProp 𝕄}
    (hR : St X Wt K J c ⟨h', b', a'⟩ ⟨f', g', j'⟩ ⟨s', w', k', r', u', z', l'⟩ ⟨s₂, w₂, k₂, r₂, u₂, z₂, l₂⟩ n' ⊢ R)
    (he : (h = h' ∧ b = b' ∧ a = a') ∧ (f = f' ∧ g = g' ∧ j = j') ∧ (s = s' ∧ w = w' ∧ k = k' ∧ r = r' ∧ u = u' ∧ z = z' ∧ l = l')
      ∧ (s₁ = s₂ ∧ w₁ = w₂ ∧ k₁ = k₂ ∧ r₁ = r₂ ∧ u₁ = u₂ ∧ z₁ = z₂ ∧ l₁ = l₂) ∧ n = n') :
    St X Wt K J c ⟨h, b, a⟩ ⟨f, g, j⟩ ⟨s, w, k, r, u, z, l⟩ ⟨s₁, w₁, k₁, r₁, u₁, z₁, l₁⟩ n ⊢ R := by
  obtain ⟨⟨h1, h2, h3⟩, ⟨h4, h5, h6⟩, ⟨h7, h8, h9, h10, h11, h12, h13⟩, ⟨h14, h15, h16, h17, h18, h19, h20⟩, h21⟩ := he
  subst h1 h2 h3 h4 h5 h6 h7 h8 h9 h10 h11 h12 h13 h14 h15 h16 h17 h18 h19 h20 h21
  exact hR

/-- Statements under a condition, then the rest: the two ways meet in one state. -/
theorem wp_cond {α : Type} {cnd : Prop} [Decidable cnd] {P : sProp 𝕄} (R : sProp 𝕄)
    {t : cnd → Prog (TpuEff nD τ sig (Elt F) Λ₀ .tc) α} {k : Prog (TpuEff nD τ sig (Elt F) Λ₀ .tc) α} {Q : α → sProp 𝕄}
    (hk : R ⊢ WP c k Q) (h1 : ∀ h, (R ⊢ WP c k Q) → P ⊢ WP c (t h) Q) (h0 : ¬cnd → P ⊢ R) :
    P ⊢ WP c (if h : cnd then t h else k) Q := by
  by_cases h : cnd
  · rw [dif_pos h]; exact h1 h hk
  · rw [dif_neg h]; exact (h0 h).trans hk

/-- One piece, then the next. -/
theorem wp_seq {α β : Type} {P : sProp 𝕄} {t : Prog (TpuEff nD τ sig (Elt F) Λ₀ .tc) α} {k : α → Prog (TpuEff nD τ sig (Elt F) Λ₀ .tc) β} {Q : β → sProp 𝕄}
    (h : P ⊢ WP c t (fun v => WP c (k v) Q)) : P ⊢ WP c (t >>= k) Q := by
  unfold WP; rw [wp_bind]; exact h

/-- The end of a piece. -/
theorem wp_end {α : Type} {P : sProp 𝕄} {v : α} {Q : α → sProp 𝕄} (h : P ⊢ Q v) : P ⊢ WP c (Prog.ret v) Q := by
  unfold WP; rw [wp_ret]
  iintro H
  imodintro
  iapply h $$ H

/-! ## Where a channel stands after so many rounds -/

abbrev yAt (u : ℕ) : PC := ⟨u, u - 4, u - 4, u - 1, u - 1, min (u - 3) 12, min (u - 3) 12⟩
abbrev xAt (u : ℕ) : PC := ⟨u - 1, min (u - 3) 12, u - 5, u - 2, u - 2, min (u - 3) 12, min (u - 3) 12⟩

/-! ## What a trip's printed words come to -/

theorem trip_lt (i : Fin k0_t1_loop.trips) : i.val < 4 := by revert i; decide

theorem off2_at : ∀ (c : Dev nD) (i : Fin k0_t1_loop.trips) (r : Fin 7),
    k0_off2 c i (BitVec.ofNat 32 r.val) = ![0, 512 * (jof c (8 * i.val + r.val + 1) % 32)] := by decide +kernel
theorem off4_at : ∀ (c : Dev nD) (i : Fin k0_t1_loop.trips) (r : Fin 8),
    k0_off4 c i (BitVec.ofNat 32 r.val) = ![0, 512 * (gof c (8 * i.val + r.val) % 64)] := by decide +kernel
theorem off8_at : ∀ (c : Dev nD) (i : Fin k0_t1_loop.trips) (r : Fin 4),
    k0_off8 c i (BitVec.ofNat 32 r.val) = ![0, 512 * (gof c (4 * i.val + r.val) % 64)] := by decide +kernel
theorem off10_at : ∀ (c : Dev nD) (i : Fin k0_t1_loop.trips), 1 ≤ i.val →
    k0_off10 c i = ![0, 512 * (gst false c (4 * i.val - 1) % 64)] := by decide +kernel
theorem off11_at : ∀ (c : Dev nD) (i : Fin k0_t1_loop.trips), 1 ≤ i.val →
    k0_off11 c i = ![0, 512 * (gst true c (4 * i.val - 2) % 64)] := by decide +kernel
theorem off16_at : ∀ (c : Dev nD) (i : Fin k0_t1_loop.trips) (r : Fin 3),
    k0_off16 c i (BitVec.ofNat 32 (1 + r.val)) = ![0, 512 * (gst false c (4 * i.val + r.val) % 64)] := by decide +kernel
theorem off17_at : ∀ (c : Dev nD) (i : Fin k0_t1_loop.trips), 1 ≤ i.val →
    k0_off17 c i = ![0, 512 * (gst true c (4 * i.val - 1) % 64)] := by decide +kernel
theorem off21_at : ∀ (c : Dev nD) (i : Fin k0_t1_loop.trips) (r : Fin 2),
    k0_off21 c i (BitVec.ofNat 32 (2 + r.val)) = ![0, 512 * (gst true c (4 * i.val + r.val) % 64)] := by decide +kernel
theorem off24_at : ∀ (c : Dev nD) (i : Fin k0_t1_loop.trips), i.val < 3 →
    k0_off24 c i = ![0, 512 * (jof c (8 * i.val + 8) % 32)] := by decide +kernel

theorem cond1_iff : ∀ i, k0_cond1 i = 1#1 ↔ 1 ≤ i.val := by decide +kernel
theorem cond2_iff : ∀ i, k0_cond2 i = 1#1 ↔ 1 ≤ i.val := by decide +kernel
theorem cond3_iff : ∀ i, k0_cond3 i = 1#1 ↔ 1 ≤ i.val := by decide +kernel
theorem cond5_iff : ∀ i, k0_cond5 i = 1#1 ↔ 1 ≤ i.val := by decide +kernel
theorem cond6_iff : ∀ i, k0_cond6 i = 1#1 ↔ 1 ≤ i.val := by decide +kernel
theorem cond7_iff : ∀ i, k0_cond7 i = 1#1 ↔ 1 ≤ i.val := by decide +kernel
theorem cond9_iff : ∀ i, k0_cond9 i = 1#1 ↔ 1 ≤ i.val := by decide +kernel
theorem cond10_iff : ∀ i, k0_cond10 i = 1#1 ↔ 1 ≤ i.val := by decide +kernel
theorem cond11_iff : ∀ i, k0_cond11 i = 1#1 ↔ 1 ≤ i.val := by decide +kernel
theorem cond13_iff : ∀ i, k0_cond13 i = 1#1 ↔ 1 ≤ i.val := by decide +kernel
theorem cond14_iff : ∀ i, k0_cond14 i = 1#1 ↔ i.val < 3 := by decide +kernel
theorem cond15_iff : ∀ i, k0_cond15 i = 1#1 ↔ 1 ≤ i.val := by decide +kernel
theorem cond17_iff : ∀ i, k0_cond17 i = 1#1 ↔ i.val < 3 := by decide +kernel
/-- A credit is awaited from the second trip on, or from the third. -/
theorem ge1_iff : ∀ i : Fin k0_t1_loop.trips,
    (Scalar.cmpi .ne (Scalar.extui (Scalar.cmpi .sge (Scf.iv 0#32 1#32 i) 1#32) : BitVec 32) 0#32 = 1#1) ↔ 1 ≤ i.val := by decide +kernel
theorem ge2_iff : ∀ i : Fin k0_t1_loop.trips,
    (Scalar.cmpi .ne (Scalar.extui (Scalar.cmpi .sge (Scf.iv 0#32 1#32 i) 2#32) : BitVec 32) 0#32 = 1#1) ↔ 2 ≤ i.val := by decide +kernel

end Cert.Proof.Run

end
-- ==== Proof.Parts1.lean ====
/-
# The first two steps and the first send of a trip
-/
module

public import proofs.«01_k».proof.Proof.Trip

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD} {i : Fin k0_t1_loop.trips}
variable {p : PW} {e : PE} {y x : PC} {n : ℕ}

/-- A step's block as its printed value. -/
abbrev isBlock (X : Dev nD → Vec F S1024x2048 .f32) (Wt : Dev nD → Vec F S2048x16384 .f32) (c : Dev nD) (t : ℕ) (v : FVec F S1024x512 .f32) : Prop :=
  v = EV X Wt c (jof c t)

theorem part6_run {v2 : BitVec 32} {Q : _ → sProp 𝕄}
    (hk : ∀ v297 v300 v, isBlock X Wt c (8 * i.val) v →
      St X Wt K J c ⟨8 * i.val + 1, 8 * i.val + 1, 8 * i.val + 2⟩ ⟨8 * i.val - 1, 8 * i.val, 8 * i.val⟩ y x n ⊢ Q ⟨Scf.iv 0#32 1#32 i, v297, v300, v⟩) :
    St X Wt K J c ⟨8 * i.val, 8 * i.val, 8 * i.val + 1⟩ ⟨8 * i.val - 1, 8 * i.val, 8 * i.val⟩ y x n
      ⊢ WP c (onBufs (k0_part6 (F := F)) c v2 0#32 1#32 i) Q := by
  have hi := trip_lt i
  unfold onBufs
  rw [k0_part6_eq_skeleton]; unfold k0_part6_skel
  simp only [Prog.lift, Prog.bind_op, Prog.bind_ret, Prog.pure_eq_ret]
  refine w_start (off2_at c i 0) (by omega) (by omega) (by omega) (by omega) ?_
  refine w_wait (by omega) (by omega) (by omega) ?_
  refine x_load (by decide) ?_
  refine w_load (by omega) (by omega) (fun v hv => ?_)
  refine e_load (by omega) (by omega) (fun _ => ?_)
  refine (w_drop (by omega) (by omega)).trans (wp_end (hk _ _ _ (pay1_eq _ _ _ hv)))

theorem part7_run {v2 v11 v297 v300 : BitVec 32} {v : FVec F S1024x512 .f32} {Q : _ → sProp 𝕄} (hv : isBlock X Wt c (8 * i.val) v) (hy : y.s ≤ 4 * i.val)
    (hk : ∀ q, St X Wt K J c p ⟨8 * i.val, 8 * i.val + 1, 8 * i.val + 1⟩ y x (8 * i.val + 1) ⊢ Q q) :
    St X Wt K J c p ⟨8 * i.val - 1, 8 * i.val, 8 * i.val⟩ y x (8 * i.val)
      ⊢ WP c (onBufs (k0_part7 (F := F)) c v2 v11 i (Scf.iv 0#32 1#32 i) v297 v300 v) Q := by
  have hi := trip_lt i
  unfold onBufs
  rw [k0_part7_eq_skeleton]; unfold k0_part7_skel
  simp only [Prog.lift, Prog.bind_op, Prog.bind_ret, Prog.pure_eq_ret]
  subst hv
  refine e_store (by omega) (by omega) (by omega) (cast_uncast _) ?_
  refine s_load (by decide) ?_
  refine s_load (by decide) ?_
  refine s_store (by decide) rfl ?_
  refine e_start (off4_at c i 0) (by omega) (by omega) (by omega) (by omega) ?_
  refine wp_cond (St X Wt K J c p ⟨8 * i.val, 8 * i.val + 1, 8 * i.val + 1⟩ y x (8 * i.val + 1)) (wp_end (hk _)) (fun h hR => ?_) (fun h => ?_)
  · have h := (cond1_iff i).mp h
    exact e_wait (by omega) (by omega) (by omega) (by omega) (st_at hR (by omega))
  · have h := mt (cond1_iff i).mpr h
    exact st_at .rfl (by omega)

theorem part8_run {v11 v347 : BitVec 32} {Q : _ → sProp 𝕄}
    (hk : ∀ q, St X Wt K J c ⟨8 * i.val + 2, 8 * i.val + 2, 8 * i.val + 3⟩ ⟨8 * i.val, 8 * i.val + 1, 8 * i.val + 2⟩ y x (8 * i.val + 2) ⊢ Q q) :
    St X Wt K J c ⟨8 * i.val + 1, 8 * i.val + 1, 8 * i.val + 2⟩ ⟨8 * i.val, 8 * i.val + 1, 8 * i.val + 1⟩ y x (8 * i.val + 1)
      ⊢ WP c (onBufs (k0_part8 (F := F)) c v11 i v347) Q := by
  have hi := trip_lt i
  unfold onBufs
  rw [k0_part8_eq_skeleton]; unfold k0_part8_skel
  simp only [Prog.lift, Prog.bind_op, Prog.bind_ret, Prog.pure_eq_ret]
  refine w_start (off2_at c i 1) (by omega) (by omega) (by omega) (by omega) ?_
  refine w_wait (by omega) (by omega) (by omega) ?_
  refine x_load (by decide) ?_
  refine w_load (by omega) (by omega) (fun v hv => ?_)
  refine e_load (by omega) (by omega) (fun _ => ?_)
  refine e_store (by omega) (by omega) (by omega) ((cast_uncast _).trans (pay1_eq _ _ _ hv)) ?_
  refine s_load (by decide) ?_
  refine s_load (by decide) ?_
  refine s_store (by decide) (congrArg (fun e => k0_pay3 e _) (pay1_eq _ _ _ hv)) ?_
  exact (w_drop (by omega) (by omega)).trans (wp_end (hk _))

theorem part9_run {v2 v8 v9 v11 v14 v344 : BitVec 32} {Q : _ → sProp 𝕄} {r a z l : ℕ} (hl : l = min (4 * i.val - 3) 12) (hx : x.s = 4 * i.val - 1) (hxl : x.l = l)
    (hk : ∀ q, St X Wt K J c p ⟨8 * i.val + 1, 8 * i.val + 2, 8 * i.val + 2⟩ ⟨4 * i.val, 4 * i.val - 3, 4 * i.val - 3, r, a, z, l⟩ x n ⊢ Q q) :
    St X Wt K J c p ⟨8 * i.val, 8 * i.val + 1, 8 * i.val + 2⟩ ⟨4 * i.val, 4 * i.val - 4, 4 * i.val - 4, r, a, z, l⟩ x n
      ⊢ WP c (onBufs (k0_part9 (F := F)) c v2 v8 v9 v11 v14 i (Scf.iv 0#32 1#32 i) v344) Q := by
  have hi := trip_lt i
  unfold onBufs
  rw [k0_part9_eq_skeleton]; unfold k0_part9_skel
  simp only [Prog.lift, Prog.bind_op, Prog.bind_ret, Prog.pure_eq_ret]
  refine e_start (off4_at c i 1) (by omega) (by omega) (by omega) (by omega) ?_
  refine e_wait (by omega) (by omega) (by omega) (by show 4 * i.val ≤ _; omega) ?_
  refine wp_cond (St X Wt K J c p ⟨8 * i.val + 1, 8 * i.val + 2, 8 * i.val + 2⟩ ⟨4 * i.val, 4 * i.val - 3, 4 * i.val - 3, r, a, z, l⟩ x n) (wp_end (hk _)) (fun h hR => ?_) (fun h => ?_)
  · have h := (cond2_iff i).mp h
    simp only [semWaitWord, Prog.lift, Prog.bind_op, Prog.bind_ret]
    refine y_sent (by omega) (by omega) (by omega) ?_
    refine y_credit (by decide) (by omega) (by omega) (by omega) (by omega) (by omega) ?_
    exact st_at hR (by omega)
  · have h := mt (cond2_iff i).mpr h
    exact st_at .rfl (by omega)

end Cert.Proof.Run

end
-- ==== Proof.Parts2.lean ====
/-
# The first round of a trip: what arrives, what is passed on, what is released
-/
module

public import proofs.«01_k».proof.Proof.Parts1

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD} {i : Fin k0_t1_loop.trips}
variable {p : PW} {e : PE} {y x : PC} {n : ℕ}

/-! ## Releases: the first half of each -/

theorem part2_run {v2 v8 v9 v13 v14 v16 v : BitVec 32} {h : k0_cond6 i = 1#1} {Q : _ → sProp 𝕄} {s w k r a l s' k' r' a' z' l' : ℕ}
    (hs : 1 = l % 4) (ha : l < a) (ha4 : a ≤ l + 4) (hs' : l < s') (h16 : s' ≤ 16) (hr : l + 1 ≤ r) (hl : l < 12)
    (hk : ∀ q, St X Wt K J c p e ⟨s, w, k, r, a, l + 1, l + 1⟩ ⟨s', l + 1, k', r', a', z', l'⟩ n ⊢ Q q) :
    St X Wt K J c p e ⟨s, w, k, r, a, l, l⟩ ⟨s', l, k', r', a', z', l'⟩ n
      ⊢ WP c (onBufs (k0_part2 (F := F)) c v2 v8 v9 v13 v14 v16 i v h) Q := by
  unfold onBufs
  rw [k0_part2_eq_skeleton]; unfold k0_part2_skel
  simp only [Prog.lift, Prog.bind_op, Prog.bind_ret, Prog.pure_eq_ret, semSignalWord]
  refine y_stored hs ha ha4 le_rfl ?_
  refine x_sent hs hs' h16 le_rfl ?_
  exact y_free (Fin.ext (k0_dev5_eq c)) (by decide) (Nat.lt_succ_self l) (Nat.lt_succ_self l) hr hl (wp_end (hk _))

theorem part3_run {v2 v8 v9 v13 v14 v16 v : BitVec 32} {h : k0_cond10 i = 1#1} {Q : _ → sProp 𝕄} {s w k r a l s' k' r' a' z' l' : ℕ}
    (hs : 2 = l % 4) (ha : l < a) (ha4 : a ≤ l + 4) (hs' : l < s') (h16 : s' ≤ 16) (hr : l + 1 ≤ r) (hl : l < 12)
    (hk : ∀ q, St X Wt K J c p e ⟨s, w, k, r, a, l + 1, l + 1⟩ ⟨s', l + 1, k', r', a', z', l'⟩ n ⊢ Q q) :
    St X Wt K J c p e ⟨s, w, k, r, a, l, l⟩ ⟨s', l, k', r', a', z', l'⟩ n
      ⊢ WP c (onBufs (k0_part3 (F := F)) c v2 v8 v9 v13 v14 v16 i v h) Q := by
  unfold onBufs
  rw [k0_part3_eq_skeleton]; unfold k0_part3_skel
  simp only [Prog.lift, Prog.bind_op, Prog.bind_ret, Prog.pure_eq_ret, semSignalWord]
  refine y_stored hs ha ha4 le_rfl ?_
  refine x_sent hs hs' h16 le_rfl ?_
  exact y_free (Fin.ext (k0_dev9_eq c)) (by decide) (Nat.lt_succ_self l) (Nat.lt_succ_self l) hr hl (wp_end (hk _))

theorem part4_run {v2 v8 v9 v13 v14 v16 v : BitVec 32} {h : k0_cond13 i = 1#1} {Q : _ → sProp 𝕄} {s w k r a l s' k' r' a' z' l' : ℕ}
    (hs : 3 = l % 4) (ha : l < a) (ha4 : a ≤ l + 4) (hs' : l < s') (h16 : s' ≤ 16) (hr : l + 1 ≤ r) (hl : l < 12)
    (hk : ∀ q, St X Wt K J c p e ⟨s, w, k, r, a, l + 1, l + 1⟩ ⟨s', l + 1, k', r', a', z', l'⟩ n ⊢ Q q) :
    St X Wt K J c p e ⟨s, w, k, r, a, l, l⟩ ⟨s', l, k', r', a', z', l'⟩ n
      ⊢ WP c (onBufs (k0_part4 (F := F)) c v2 v8 v9 v13 v14 v16 i v h) Q := by
  unfold onBufs
  rw [k0_part4_eq_skeleton]; unfold k0_part4_skel
  simp only [Prog.lift, Prog.bind_op, Prog.bind_ret, Prog.pure_eq_ret, semSignalWord]
  refine y_stored hs ha ha4 le_rfl ?_
  refine x_sent hs hs' h16 le_rfl ?_
  exact y_free (Fin.ext (k0_dev13_eq c)) (by decide) (Nat.lt_succ_self l) (Nat.lt_succ_self l) hr hl (wp_end (hk _))

theorem part5_run {v2 v8 v9 v13 v14 v16 v : BitVec 32} {h : k0_cond17 i = 1#1} {Q : _ → sProp 𝕄} {s w k r a l s' k' r' a' z' l' : ℕ}
    (hs : 0 = l % 4) (ha : l < a) (ha4 : a ≤ l + 4) (hs' : l < s') (h16 : s' ≤ 16) (hr : l + 1 ≤ r) (hl : l < 12)
    (hk : ∀ q, St X Wt K J c p e ⟨s, w, k, r, a, l + 1, l + 1⟩ ⟨s', l + 1, k', r', a', z', l'⟩ n ⊢ Q q) :
    St X Wt K J c p e ⟨s, w, k, r, a, l, l⟩ ⟨s', l, k', r', a', z', l'⟩ n
      ⊢ WP c (onBufs (k0_part5 (F := F)) c v2 v8 v9 v13 v14 v16 i v h) Q := by
  unfold onBufs
  rw [k0_part5_eq_skeleton]; unfold k0_part5_skel
  simp only [Prog.lift, Prog.bind_op, Prog.bind_ret, Prog.pure_eq_ret, semSignalWord]
  refine y_stored hs ha ha4 le_rfl ?_
  refine x_sent hs hs' h16 le_rfl ?_
  exact y_free (Fin.ext (k0_dev17_eq c)) (by decide) (Nat.lt_succ_self l) (Nat.lt_succ_self l) hr hl (wp_end (hk _))

/-! ## The first round -/

theorem part1_run {v2 v8 v9 v10 v11 v13 v14 v399 : BitVec 32} {Q : _ → sProp 𝕄} {h : k0_cond3 i = 1#1} {s w k w₂ r₂ a₂ z₂ : ℕ} (hs : s = 4 * i.val + 1)
    (hk : ∀ q, St X Wt K J c p e ⟨s, w, k, 4 * i.val, 4 * i.val, min (4 * i.val - 3) 12, min (4 * i.val - 3) 12⟩ ⟨4 * i.val - 1, w₂, 4 * i.val - 4, r₂, a₂, z₂, min (4 * i.val - 3) 12⟩ n ⊢ Q q) :
    St X Wt K J c p e ⟨s, w, k, 4 * i.val - 1, 4 * i.val - 1, min (4 * i.val - 3) 12, min (4 * i.val - 3) 12⟩ ⟨4 * i.val - 1, w₂, 4 * i.val - 5, r₂, a₂, z₂, min (4 * i.val - 3) 12⟩ n
      ⊢ WP c (onBufs (k0_part1 (F := F)) c v2 v8 v9 v10 v11 v13 v14 i (Scf.iv 0#32 1#32 i) v399 h) Q := by
  have hi := trip_lt i
  unfold onBufs
  rw [k0_part1_eq_skeleton]; unfold k0_part1_skel
  simp only [Prog.lift, Prog.bind_op, Prog.bind_ret, Prog.pure_eq_ret, semWaitWord, semSignalWord]
  have h3 := (cond3_iff i).mp h
  refine y_recv (by omega) (by omega) (by omega) (by dsimp only; omega) (by omega) (by dsimp only; omega) (by omega) (by dsimp only; omega) ?_
  refine y_start (off10_at c i h3) (by omega) (by omega) (by omega) (by omega) (by omega) ?_
  refine wp_cond (St X Wt K J c p e ⟨s, w, k, 4 * i.val, 4 * i.val, min (4 * i.val - 3) 12, min (4 * i.val - 3) 12⟩ ⟨4 * i.val - 1, w₂, 4 * i.val - 4, r₂, a₂, z₂, min (4 * i.val - 3) 12⟩ n) (wp_end (hk _)) (fun h hR => ?_) (fun h => ?_)
  · have h := (ge2_iff i).mp h
    exact x_credit (by decide) (by omega) (by dsimp only; omega) (by omega) (by dsimp only; omega) (by omega) (st_at hR (by omega))
  · have h := mt (ge2_iff i).mpr h
    exact st_at .rfl (by omega)

theorem part10_run {v2 v5 v8 v9 v10 v11 v13 v14 v16 v399 : BitVec 32} {Q : _ → sProp 𝕄}
    (hk : ∀ q, St X Wt K J c ⟨8 * i.val + 2, 8 * i.val + 2, 8 * i.val + 4⟩ ⟨8 * i.val + 1, 8 * i.val + 2, 8 * i.val + 2⟩ (yAt (4 * i.val + 1)) (xAt (4 * i.val + 1)) n ⊢ Q q) :
    St X Wt K J c ⟨8 * i.val + 2, 8 * i.val + 2, 8 * i.val + 3⟩ ⟨8 * i.val + 1, 8 * i.val + 2, 8 * i.val + 2⟩ ⟨4 * i.val, 4 * i.val - 3, 4 * i.val - 3, 4 * i.val - 1, 4 * i.val - 1, min (4 * i.val - 3) 12, min (4 * i.val - 3) 12⟩ (xAt (4 * i.val)) n
      ⊢ WP c (onBufs (k0_part10 (F := F)) c v2 v5 v8 v9 v10 v11 v13 v14 v16 i (Scf.iv 0#32 1#32 i) v399) Q := by
  have hi := trip_lt i
  unfold onBufs
  rw [k0_part10_eq_skeleton]; unfold k0_part10_skel
  simp only [Prog.lift, Prog.bind_op, Prog.bind_ret, Prog.pure_eq_ret, semWaitWord, semSignalWord]
  refine y_send (Fin.ext (k0_dev3_eq c)) (by omega) (off8_at c i 0) (by omega) (by omega) (by omega) (by omega) (by show _ < 8 * i.val + 1; omega) ?_
  refine wp_cond (St X Wt K J c ⟨8 * i.val + 2, 8 * i.val + 2, 8 * i.val + 3⟩ ⟨8 * i.val + 1, 8 * i.val + 2, 8 * i.val + 2⟩ ⟨4 * i.val + 1, 4 * i.val - 3, 4 * i.val - 3, 4 * i.val, 4 * i.val, min (4 * i.val - 3) 12, min (4 * i.val - 3) 12⟩
    ⟨4 * i.val, min (4 * i.val - 3) 12, 4 * i.val - 4, 4 * i.val - 2, 4 * i.val - 2, min (4 * i.val - 3) 12, min (4 * i.val - 3) 12⟩ n) ?_ (fun h hR => ?_) (fun h => ?_)
  rotate_left
  · have h3 := (cond3_iff i).mp h
    refine wp_seq (part1_run rfl fun q => ?_)
    exact x_send (Fin.ext (k0_dev4_eq c)) (by omega) (by omega) (by omega) (by omega) (by omega) (by show _ < 4 * i.val; omega) (st_at hR (by omega))
  · have h := mt (cond3_iff i).mpr h
    exact st_at .rfl (by omega)
  refine wp_cond (St X Wt K J c ⟨8 * i.val + 2, 8 * i.val + 2, 8 * i.val + 3⟩ ⟨8 * i.val + 1, 8 * i.val + 2, 8 * i.val + 2⟩ ⟨4 * i.val + 1, 4 * i.val - 3, 4 * i.val - 3, 4 * i.val, 4 * i.val, min (4 * i.val - 3) 12, min (4 * i.val - 3) 12⟩
    ⟨4 * i.val, min (4 * i.val - 3) 12, 4 * i.val - 4, 4 * i.val - 1, 4 * i.val - 1, min (4 * i.val - 3) 12, min (4 * i.val - 3) 12⟩ n) ?_ (fun h hR => ?_) (fun h => ?_)
  rotate_left
  · have h5 := (cond5_iff i).mp h
    refine x_recv (by omega) (by omega) (by omega) (by omega) (by dsimp only; omega) (by omega) (by dsimp only; omega) (by omega) ?_
    exact x_start (off11_at c i h5) (by omega) (by omega) (by omega) (by omega) (by omega) (st_at hR (by omega))
  · have h := mt (cond5_iff i).mpr h
    exact st_at .rfl (by omega)
  refine wp_cond (St X Wt K J c ⟨8 * i.val + 2, 8 * i.val + 2, 8 * i.val + 3⟩ ⟨8 * i.val + 1, 8 * i.val + 2, 8 * i.val + 2⟩ (yAt (4 * i.val + 1)) (xAt (4 * i.val + 1)) n) ?_ (fun h hR => ?_) (fun h => ?_)
  rotate_left
  · have h6 := (cond6_iff i).mp h
    refine wp_seq (part2_run (by omega) (by omega) (by omega) (by omega) (by omega) (by omega) (by omega) fun q => ?_)
    refine x_stored (by omega) (by omega) (by omega) (by omega) ?_
    exact x_free (Fin.ext (k0_dev6_eq c)) (by decide) (by omega) (by omega) (by omega) (st_at hR (by omega))
  · have h := mt (cond6_iff i).mpr h
    exact st_at .rfl (by omega)
  exact w_start (off2_at c i 2) (by omega) (by omega) (by omega) (by omega) (wp_end (hk _))

end Cert.Proof.Run

end
-- ==== Proof.Parts3.lean ====
/-
# The rest of a trip, piece by piece
-/
module

public import proofs.«01_k».proof.Proof.Parts2

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD} {i : Fin k0_t1_loop.trips}
variable {p : PW} {e : PE} {y x : PC} {n : ℕ}

/-! ## Steps two and three -/

theorem part11_run {v2 v11 v429 v432 : BitVec 32} {Q : _ → sProp 𝕄}
    (hk : ∀ q, St X Wt K J c ⟨8 * i.val + 3, 8 * i.val + 3, 8 * i.val + 4⟩ ⟨8 * i.val + 1, 8 * i.val + 3, 8 * i.val + 3⟩ y x (8 * i.val + 3) ⊢ Q q) :
    St X Wt K J c ⟨8 * i.val + 2, 8 * i.val + 2, 8 * i.val + 4⟩ ⟨8 * i.val + 1, 8 * i.val + 2, 8 * i.val + 2⟩ y x (8 * i.val + 2)
      ⊢ WP c (onBufs (k0_part11 (F := F)) c v2 v11 i v429 v432) Q := by
  have hi := trip_lt i
  unfold onBufs
  rw [k0_part11_eq_skeleton]; unfold k0_part11_skel
  simp only [Prog.lift, Prog.bind_op, Prog.bind_ret, Prog.pure_eq_ret, semWaitWord, semSignalWord]
  refine w_wait (by omega) (by omega) (by omega) ?_
  refine x_load (by decide) ?_
  refine w_load (by omega) (by omega) (fun v hv => ?_)
  refine e_load (by omega) (by omega) (fun _ => ?_)
  refine e_store (by omega) (by omega) (by omega) ((cast_uncast _).trans (pay1_eq _ _ _ hv)) ?_
  refine s_load (by decide) ?_
  refine s_load (by decide) ?_
  refine s_store (by decide) (congrArg (fun e => k0_pay3 e _) (pay1_eq _ _ _ hv)) ?_
  refine e_start (off4_at c i 2) (by omega) (by omega) (by omega) (by omega) ?_
  exact (w_drop (by omega) (by omega)).trans (wp_end (hk _))

theorem part12_run {v2 : BitVec 32} {Q : _ → sProp 𝕄} (hy : y.s ≤ 4 * i.val + 1)
    (hk : ∀ a b v w, isBlock X Wt c (8 * i.val + 3) (k0_pay12 v w) →
      St X Wt K J c ⟨8 * i.val + 4, 8 * i.val + 4, 8 * i.val + 5⟩ ⟨8 * i.val + 2, 8 * i.val + 3, 8 * i.val + 3⟩ y x n ⊢ Q ⟨a, b, v, w⟩) :
    St X Wt K J c ⟨8 * i.val + 3, 8 * i.val + 3, 8 * i.val + 4⟩ ⟨8 * i.val + 1, 8 * i.val + 3, 8 * i.val + 3⟩ y x n
      ⊢ WP c (onBufs (k0_part12 (F := F)) c v2 i (Scf.iv 0#32 1#32 i)) Q := by
  have hi := trip_lt i
  unfold onBufs
  rw [k0_part12_eq_skeleton]; unfold k0_part12_skel
  simp only [Prog.lift, Prog.bind_op, Prog.bind_ret, Prog.pure_eq_ret, semWaitWord, semSignalWord]
  refine e_wait (by omega) (by omega) (by omega) (by omega) ?_
  refine w_start (off2_at c i 3) (by omega) (by omega) (by omega) (by omega) ?_
  refine w_wait (by omega) (by omega) (by omega) ?_
  refine x_load (by decide) ?_
  refine w_load (by omega) (by omega) (fun v hv => ?_)
  exact (w_drop (by omega) (by omega)).trans (wp_end (hk _ _ _ _ (pay12_eq _ _ _ hv)))

theorem part13_run {v2 v11 v484 v487 : BitVec 32} {Q : _ → sProp 𝕄} {v : FVec F S1024x2048 .f32} {w : FVec F S2048x512 .f32} (hv : isBlock X Wt c (8 * i.val + 3) (k0_pay12 v w)) (hy : y.s ≤ 4 * i.val + 1)
    (hk : ∀ q, St X Wt K J c p ⟨8 * i.val + 3, 8 * i.val + 4, 8 * i.val + 4⟩ y x (8 * i.val + 4) ⊢ Q q) :
    St X Wt K J c p ⟨8 * i.val + 2, 8 * i.val + 3, 8 * i.val + 3⟩ y x (8 * i.val + 3)
      ⊢ WP c (onBufs (k0_part13 (F := F)) c v2 v11 i (Scf.iv 0#32 1#32 i) v484 v487 v w) Q := by
  have hi := trip_lt i
  unfold onBufs
  rw [k0_part13_eq_skeleton]; unfold k0_part13_skel
  simp only [Prog.lift, Prog.bind_op, Prog.bind_ret, Prog.pure_eq_ret, semWaitWord, semSignalWord]
  refine e_load (by omega) (by omega) (fun _ => ?_)
  refine e_store (by omega) (by omega) (by omega) ((cast_uncast _).trans hv) ?_
  refine s_load (by decide) ?_
  refine s_load (by decide) ?_
  refine s_store (by decide) (congrArg (fun e => k0_pay3 e _) hv) ?_
  refine e_start (off4_at c i 3) (by omega) (by omega) (by omega) (by omega) ?_
  exact e_wait (by omega) (by omega) (by omega) (by omega) (wp_end (hk _))

/-! ## The second round -/

theorem part14_run {v2 v8 v9 v11 v14 v538 : BitVec 32} {Q : _ → sProp 𝕄} (he : 4 * i.val + 1 < e.h)
    (hk : ∀ q, St X Wt K J c p e ⟨4 * i.val + 2, 4 * i.val - 2, 4 * i.val - 2, 4 * i.val, 4 * i.val, min (4 * i.val + 1 - 3) 12, min (4 * i.val + 1 - 3) 12⟩ ⟨4 * i.val, min (4 * i.val + 1 - 3) 12, 4 * i.val - 4, 4 * i.val - 1, 4 * i.val - 1, min (4 * i.val + 1 - 3) 12, min (4 * i.val + 1 - 3) 12⟩ n ⊢ Q q) :
    St X Wt K J c p e ⟨4 * i.val + 1, 4 * i.val - 3, 4 * i.val - 3, 4 * i.val, 4 * i.val, min (4 * i.val + 1 - 3) 12, min (4 * i.val + 1 - 3) 12⟩ ⟨4 * i.val, min (4 * i.val + 1 - 3) 12, 4 * i.val - 4, 4 * i.val - 1, 4 * i.val - 1, min (4 * i.val + 1 - 3) 12, min (4 * i.val + 1 - 3) 12⟩ n
      ⊢ WP c (onBufs (k0_part14 (F := F)) c v2 v8 v9 v11 v14 i (Scf.iv 0#32 1#32 i) v538) Q := by
  have hi := trip_lt i
  unfold onBufs
  rw [k0_part14_eq_skeleton]; unfold k0_part14_skel
  simp only [Prog.lift, Prog.bind_op, Prog.bind_ret, Prog.pure_eq_ret, semWaitWord, semSignalWord]
  refine wp_cond (St X Wt K J c p e ⟨4 * i.val + 1, 4 * i.val - 2, 4 * i.val - 2, 4 * i.val, 4 * i.val, min (4 * i.val + 1 - 3) 12, min (4 * i.val + 1 - 3) 12⟩ ⟨4 * i.val, min (4 * i.val + 1 - 3) 12, 4 * i.val - 4, 4 * i.val - 1, 4 * i.val - 1, min (4 * i.val + 1 - 3) 12, min (4 * i.val + 1 - 3) 12⟩ n) ?_ (fun h hR => ?_) (fun h => ?_)
  rotate_left
  · have hc := (cond7_iff i).mp h
    refine y_sent (by omega) (by omega) (by omega) ?_
    exact y_credit (by decide) (by omega) (by omega) (by dsimp only; omega) (by omega) (by dsimp only; omega) (st_at hR (by omega))
  · have h := mt (cond7_iff i).mpr h
    exact st_at .rfl (by omega)
  exact y_send (Fin.ext (k0_dev7_eq c)) (by omega) (off8_at c i 1) (by omega) (by omega) (by omega) (by omega) (by omega) (wp_end (hk _))

theorem part15_run {v5 v8 v10 v13 v14 v16 v539 : BitVec 32} {Q : _ → sProp 𝕄}
    (hk : ∀ q, St X Wt K J c p e ⟨4 * i.val + 2, 4 * i.val - 2, 4 * i.val - 2, 4 * i.val + 1, 4 * i.val + 1, min (4 * i.val + 1 - 3) 12, min (4 * i.val + 1 - 3) 12⟩ ⟨4 * i.val + 1, min (4 * i.val + 1 - 3) 12, 4 * i.val - 3, 4 * i.val, 4 * i.val, min (4 * i.val + 1 - 3) 12, min (4 * i.val + 1 - 3) 12⟩ n ⊢ Q q) :
    St X Wt K J c p e ⟨4 * i.val + 2, 4 * i.val - 2, 4 * i.val - 2, 4 * i.val, 4 * i.val, min (4 * i.val + 1 - 3) 12, min (4 * i.val + 1 - 3) 12⟩ ⟨4 * i.val, min (4 * i.val + 1 - 3) 12, 4 * i.val - 4, 4 * i.val - 1, 4 * i.val - 1, min (4 * i.val + 1 - 3) 12, min (4 * i.val + 1 - 3) 12⟩ n
      ⊢ WP c (onBufs (k0_part15 (F := F)) c v5 v8 v10 v13 v14 v16 i (Scf.iv 0#32 1#32 i) v539) Q := by
  have hi := trip_lt i
  unfold onBufs
  rw [k0_part15_eq_skeleton]; unfold k0_part15_skel
  simp only [Prog.lift, Prog.bind_op, Prog.bind_ret, Prog.pure_eq_ret, semWaitWord, semSignalWord]
  refine y_recv (by omega) (by omega) (by omega) (by dsimp only; omega) (by omega) (by dsimp only; omega) (by omega) (by dsimp only; omega) ?_
  refine y_start (off16_at c i 0) (by omega) (by omega) (by omega) (by omega) (by omega) ?_
  refine wp_cond (St X Wt K J c p e ⟨4 * i.val + 2, 4 * i.val - 2, 4 * i.val - 2, 4 * i.val + 1, 4 * i.val + 1, min (4 * i.val + 1 - 3) 12, min (4 * i.val + 1 - 3) 12⟩ ⟨4 * i.val, min (4 * i.val + 1 - 3) 12, 4 * i.val - 3, 4 * i.val - 1, 4 * i.val - 1, min (4 * i.val + 1 - 3) 12, min (4 * i.val + 1 - 3) 12⟩ n) ?_ (fun h hR => ?_) (fun h => ?_)
  rotate_left
  · have hc := (ge1_iff i).mp h
    exact x_credit (by decide) (by omega) (by dsimp only; omega) (by omega) (by dsimp only; omega) (by omega) (st_at hR (by omega))
  · have h := mt (ge1_iff i).mpr h
    exact st_at .rfl (by omega)
  refine x_send (Fin.ext (k0_dev8_eq c)) (by omega) (by omega) (by omega) (by omega) (by omega) (by dsimp only; omega) ?_
  refine wp_cond (St X Wt K J c p e ⟨4 * i.val + 2, 4 * i.val - 2, 4 * i.val - 2, 4 * i.val + 1, 4 * i.val + 1, min (4 * i.val + 1 - 3) 12, min (4 * i.val + 1 - 3) 12⟩ ⟨4 * i.val + 1, min (4 * i.val + 1 - 3) 12, 4 * i.val - 3, 4 * i.val, 4 * i.val, min (4 * i.val + 1 - 3) 12, min (4 * i.val + 1 - 3) 12⟩ n) ?_ (fun h hR => ?_) (fun h => ?_)
  rotate_left
  · have hc := (cond9_iff i).mp h
    refine x_recv (by omega) (by omega) (by omega) (by omega) (by dsimp only; omega) (by omega) (by dsimp only; omega) (by omega) ?_
    exact x_start (off17_at c i hc) (by omega) (by omega) (by omega) (by omega) (by omega) (st_at hR (by omega))
  · have h := mt (cond9_iff i).mpr h
    exact st_at .rfl (by omega)
  exact wp_end (hk _)

theorem part16_run {v2 v5 v8 v9 v10 v13 v14 v16 v539 : BitVec 32} {Q : _ → sProp 𝕄}
    (hk : ∀ a b v, isBlock X Wt c (8 * i.val + 4) v →
      St X Wt K J c ⟨8 * i.val + 5, 8 * i.val + 5, 8 * i.val + 6⟩ e (yAt (4 * i.val + 2)) (xAt (4 * i.val + 2)) n ⊢ Q ⟨a, b, v⟩) :
    St X Wt K J c ⟨8 * i.val + 4, 8 * i.val + 4, 8 * i.val + 5⟩ e ⟨4 * i.val + 2, 4 * i.val - 2, 4 * i.val - 2, 4 * i.val + 1, 4 * i.val + 1, min (4 * i.val + 1 - 3) 12, min (4 * i.val + 1 - 3) 12⟩ ⟨4 * i.val + 1, min (4 * i.val + 1 - 3) 12, 4 * i.val - 3, 4 * i.val, 4 * i.val, min (4 * i.val + 1 - 3) 12, min (4 * i.val + 1 - 3) 12⟩ n
      ⊢ WP c (onBufs (k0_part16 (F := F)) c v2 v5 v8 v9 v10 v13 v14 v16 i (Scf.iv 0#32 1#32 i) v539) Q := by
  have hi := trip_lt i
  unfold onBufs
  rw [k0_part16_eq_skeleton]; unfold k0_part16_skel
  simp only [Prog.lift, Prog.bind_op, Prog.bind_ret, Prog.pure_eq_ret, semWaitWord, semSignalWord]
  refine wp_cond (St X Wt K J c ⟨8 * i.val + 4, 8 * i.val + 4, 8 * i.val + 5⟩ e (yAt (4 * i.val + 2)) (xAt (4 * i.val + 2)) n) ?_ (fun h hR => ?_) (fun h => ?_)
  rotate_left
  · have hc := (cond10_iff i).mp h
    refine wp_seq (part3_run (by omega) (by omega) (by omega) (by omega) (by omega) (by omega) (by omega) fun q => ?_)
    refine x_stored (by omega) (by omega) (by omega) (by omega) ?_
    exact x_free (Fin.ext (k0_dev10_eq c)) (by decide) (by omega) (by omega) (by omega) (st_at hR (by omega))
  · have h := mt (cond10_iff i).mpr h
    exact st_at .rfl (by omega)
  refine w_start (off2_at c i 4) (by omega) (by omega) (by omega) (by omega) ?_
  refine w_wait (by omega) (by omega) (by omega) ?_
  refine x_load (by decide) ?_
  refine w_load (by omega) (by omega) (fun v hv => ?_)
  exact (w_drop (by omega) (by omega)).trans (wp_end (hk _ _ _ (pay1_eq _ _ _ hv)))

/-! ## Steps four and five -/

theorem part17_run {v2 v11 v607 v610 : BitVec 32} {Q : _ → sProp 𝕄} {v : FVec F S1024x512 .f32} (hv : isBlock X Wt c (8 * i.val + 4) v) (hy : y.s ≤ 4 * i.val + 2)
    (hk : ∀ q, St X Wt K J c p ⟨8 * i.val + 4, 8 * i.val + 5, 8 * i.val + 5⟩ y x (8 * i.val + 5) ⊢ Q q) :
    St X Wt K J c p ⟨8 * i.val + 3, 8 * i.val + 4, 8 * i.val + 4⟩ y x (8 * i.val + 4)
      ⊢ WP c (onBufs (k0_part17 (F := F)) c v2 v11 i (Scf.iv 0#32 1#32 i) v607 v610 v) Q := by
  have hi := trip_lt i
  unfold onBufs
  rw [k0_part17_eq_skeleton]; unfold k0_part17_skel
  simp only [Prog.lift, Prog.bind_op, Prog.bind_ret, Prog.pure_eq_ret, semWaitWord, semSignalWord]
  subst hv
  refine e_load (by omega) (by omega) (fun _ => ?_)
  refine e_store (by omega) (by omega) (by omega) (cast_uncast _) ?_
  refine s_load (by decide) ?_
  refine s_load (by decide) ?_
  refine s_store (by decide) rfl ?_
  refine e_start (off4_at c i 4) (by omega) (by omega) (by omega) (by omega) ?_
  exact e_wait (by omega) (by omega) (by omega) (by omega) (wp_end (hk _))

theorem part18_run {v2 v662 c16 : BitVec 32} {Q : _ → sProp 𝕄}
    (hk : ∀ a v s, isBlock X Wt c (8 * i.val + 5) v → s = SV X Wt c (8 * i.val + 5) →
      St X Wt K J c ⟨8 * i.val + 6, 8 * i.val + 6, 8 * i.val + 7⟩ ⟨8 * i.val + 4, 8 * i.val + 5, 8 * i.val + 6⟩ y x (8 * i.val + 5) ⊢ Q ⟨a, v, s⟩) :
    St X Wt K J c ⟨8 * i.val + 5, 8 * i.val + 5, 8 * i.val + 6⟩ ⟨8 * i.val + 4, 8 * i.val + 5, 8 * i.val + 5⟩ y x (8 * i.val + 5)
      ⊢ WP c (onBufs (k0_part18 (F := F)) c v2 i v662 c16) Q := by
  have hi := trip_lt i
  unfold onBufs
  rw [k0_part18_eq_skeleton]; unfold k0_part18_skel
  simp only [Prog.lift, Prog.bind_op, Prog.bind_ret, Prog.pure_eq_ret, semWaitWord, semSignalWord]
  refine w_start (off2_at c i 5) (by omega) (by omega) (by omega) (by omega) ?_
  refine w_wait (by omega) (by omega) (by omega) ?_
  refine x_load (by decide) ?_
  refine w_load (by omega) (by omega) (fun v hv => ?_)
  refine e_load (by omega) (by omega) (fun _ => ?_)
  refine e_store (by omega) (by omega) (by omega) ((cast_uncast _).trans (pay1_eq _ _ _ hv)) ?_
  refine s_load (by decide) ?_
  exact (w_drop (by omega) (by omega)).trans (wp_end (hk _ _ _ (pay1_eq _ _ _ hv) rfl))

theorem part19_run {v2 v11 v14 v662 v665 : BitVec 32} {Q : _ → sProp 𝕄} {v : FVec F S1024x512 .f32} {s : Vec F S1024x1 .f32} (hv : isBlock X Wt c (8 * i.val + 5) v) (hs : s = SV X Wt c (8 * i.val + 5))
    (hk : ∀ q, St X Wt K J c p ⟨8 * i.val + 5, 8 * i.val + 6, 8 * i.val + 6⟩ ⟨4 * i.val + 2, 4 * i.val - 1, 4 * i.val - 1, 4 * i.val + 1, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ (8 * i.val + 6) ⊢ Q q) :
    St X Wt K J c p ⟨8 * i.val + 4, 8 * i.val + 5, 8 * i.val + 6⟩ ⟨4 * i.val + 2, 4 * i.val - 2, 4 * i.val - 2, 4 * i.val + 1, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ (8 * i.val + 5)
      ⊢ WP c (onBufs (k0_part19 (F := F)) c v2 v11 v14 i (Scf.iv 0#32 1#32 i) v662 v665 v s) Q := by
  have hi := trip_lt i
  unfold onBufs
  rw [k0_part19_eq_skeleton]; unfold k0_part19_skel
  simp only [Prog.lift, Prog.bind_op, Prog.bind_ret, Prog.pure_eq_ret, semWaitWord, semSignalWord]
  subst hv hs
  refine s_load (by decide) ?_
  refine s_store (by decide) rfl ?_
  refine e_start (off4_at c i 5) (by omega) (by omega) (by omega) (by omega) ?_
  refine e_wait (by omega) (by omega) (by omega) (by dsimp only; omega) ?_
  refine wp_cond (St X Wt K J c p ⟨8 * i.val + 5, 8 * i.val + 6, 8 * i.val + 6⟩ ⟨4 * i.val + 2, 4 * i.val - 1, 4 * i.val - 1, 4 * i.val + 1, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ (8 * i.val + 6)) ?_ (fun h hR => ?_) (fun h => ?_)
  rotate_left
  · have hc := (cond11_iff i).mp h
    refine y_sent (by omega) (by omega) (by omega) ?_
    exact y_credit (by decide) (by omega) (by omega) (by dsimp only; omega) (by omega) (by dsimp only; omega) (st_at hR (by omega))
  · have h := mt (cond11_iff i).mpr h
    exact st_at .rfl (by omega)
  exact wp_end (hk _)

/-! ## The third round -/

theorem part20_run {v2 v8 v9 v11 v13 v14 v717 : BitVec 32} {Q : _ → sProp 𝕄} (he : 4 * i.val + 2 < e.h)
    (hk : ∀ q, St X Wt K J c p e ⟨4 * i.val + 3, 4 * i.val - 1, 4 * i.val - 1, 4 * i.val + 2, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ n ⊢ Q q) :
    St X Wt K J c p e ⟨4 * i.val + 2, 4 * i.val - 1, 4 * i.val - 1, 4 * i.val + 1, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ n
      ⊢ WP c (onBufs (k0_part20 (F := F)) c v2 v8 v9 v11 v13 v14 i v717) Q := by
  have hi := trip_lt i
  unfold onBufs
  rw [k0_part20_eq_skeleton]; unfold k0_part20_skel
  simp only [Prog.lift, Prog.bind_op, Prog.bind_ret, Prog.pure_eq_ret, semWaitWord, semSignalWord]
  refine y_send (Fin.ext (k0_dev11_eq c)) (by omega) (off8_at c i 2) (by omega) (by omega) (by omega) (by omega) (by omega) ?_
  exact y_recv (by omega) (by omega) (by omega) (by dsimp only; omega) (by omega) (by dsimp only; omega) (by omega) (by dsimp only; omega) (wp_end (hk _))

theorem part21_run {v5 v8 v10 : BitVec 32} {Q : _ → sProp 𝕄}
    (hk : ∀ q, St X Wt K J c p e ⟨4 * i.val + 3, 4 * i.val - 1, 4 * i.val - 1, 4 * i.val + 2, 4 * i.val + 2, min (4 * i.val + 2 - 3) 12, min (4 * i.val + 2 - 3) 12⟩ ⟨4 * i.val + 2, min (4 * i.val + 2 - 3) 12, 4 * i.val - 2, 4 * i.val, 4 * i.val, min (4 * i.val + 2 - 3) 12, min (4 * i.val + 2 - 3) 12⟩ n ⊢ Q q) :
    St X Wt K J c p e ⟨4 * i.val + 3, 4 * i.val - 1, 4 * i.val - 1, 4 * i.val + 2, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ n
      ⊢ WP c (onBufs (k0_part21 (F := F)) c v5 v8 v10 i (Scf.iv 0#32 1#32 i)) Q := by
  have hi := trip_lt i
  unfold onBufs
  rw [k0_part21_eq_skeleton]; unfold k0_part21_skel
  simp only [Prog.lift, Prog.bind_op, Prog.bind_ret, Prog.pure_eq_ret, semWaitWord, semSignalWord]
  refine y_start (off16_at c i 1) (by omega) (by omega) (by omega) (by omega) (by omega) ?_
  refine wp_cond (St X Wt K J c p e ⟨4 * i.val + 3, 4 * i.val - 1, 4 * i.val - 1, 4 * i.val + 2, 4 * i.val + 2, min (4 * i.val + 2 - 3) 12, min (4 * i.val + 2 - 3) 12⟩ ⟨4 * i.val + 1, min (4 * i.val + 2 - 3) 12, 4 * i.val - 2, 4 * i.val, 4 * i.val, min (4 * i.val + 2 - 3) 12, min (4 * i.val + 2 - 3) 12⟩ n) ?_ (fun h hR => ?_) (fun h => ?_)
  rotate_left
  · have hc := (ge1_iff i).mp h
    exact x_credit (by decide) (by omega) (by dsimp only; omega) (by omega) (by dsimp only; omega) (by omega) (st_at hR (by omega))
  · have h := mt (ge1_iff i).mpr h
    exact st_at .rfl (by omega)
  exact x_send (Fin.ext (k0_dev12_eq c)) (by omega) (by omega) (by omega) (by omega) (by omega) (by dsimp only; omega) (wp_end (hk _))

theorem part22_run {v2 v5 v8 v9 v10 v13 v14 v16 v717 : BitVec 32} {Q : _ → sProp 𝕄}
    (hk : ∀ q, St X Wt K J c ⟨8 * i.val + 6, 8 * i.val + 6, 8 * i.val + 8⟩ e (yAt (4 * i.val + 3)) (xAt (4 * i.val + 3)) n ⊢ Q q) :
    St X Wt K J c ⟨8 * i.val + 6, 8 * i.val + 6, 8 * i.val + 7⟩ e ⟨4 * i.val + 3, 4 * i.val - 1, 4 * i.val - 1, 4 * i.val + 2, 4 * i.val + 2, min (4 * i.val + 2 - 3) 12, min (4 * i.val + 2 - 3) 12⟩ ⟨4 * i.val + 2, min (4 * i.val + 2 - 3) 12, 4 * i.val - 2, 4 * i.val, 4 * i.val, min (4 * i.val + 2 - 3) 12, min (4 * i.val + 2 - 3) 12⟩ n
      ⊢ WP c (onBufs (k0_part22 (F := F)) c v2 v5 v8 v9 v10 v13 v14 v16 i (Scf.iv 0#32 1#32 i) v717) Q := by
  have hi := trip_lt i
  unfold onBufs
  rw [k0_part22_eq_skeleton]; unfold k0_part22_skel
  simp only [Prog.lift, Prog.bind_op, Prog.bind_ret, Prog.pure_eq_ret, semWaitWord, semSignalWord]
  refine x_recv (by omega) (by omega) (by omega) (by omega) (by dsimp only; omega) (by omega) (by dsimp only; omega) (by omega) ?_
  refine x_start (off21_at c i 0) (by omega) (by omega) (by omega) (by omega) (by omega) ?_
  refine wp_cond (St X Wt K J c ⟨8 * i.val + 6, 8 * i.val + 6, 8 * i.val + 7⟩ e (yAt (4 * i.val + 3)) (xAt (4 * i.val + 3)) n) ?_ (fun h hR => ?_) (fun h => ?_)
  rotate_left
  · have hc := (cond13_iff i).mp h
    refine wp_seq (part4_run (by omega) (by omega) (by omega) (by omega) (by omega) (by omega) (by omega) fun q => ?_)
    refine x_stored (by omega) (by omega) (by omega) (by omega) ?_
    exact x_free (Fin.ext (k0_dev14_eq c)) (by decide) (by omega) (by omega) (by omega) (st_at hR (by omega))
  · have h := mt (cond13_iff i).mpr h
    exact st_at .rfl (by omega)
  exact w_start (off2_at c i 6) (by omega) (by omega) (by omega) (by omega) (wp_end (hk _))

/-! ## Steps six and seven -/

theorem part23_run {v2 v11 v803 v806 : BitVec 32} {Q : _ → sProp 𝕄}
    (hk : ∀ q, St X Wt K J c ⟨8 * i.val + 7, 8 * i.val + 7, 8 * i.val + 8⟩ ⟨8 * i.val + 5, 8 * i.val + 7, 8 * i.val + 7⟩ y x (8 * i.val + 7) ⊢ Q q) :
    St X Wt K J c ⟨8 * i.val + 6, 8 * i.val + 6, 8 * i.val + 8⟩ ⟨8 * i.val + 5, 8 * i.val + 6, 8 * i.val + 6⟩ y x (8 * i.val + 6)
      ⊢ WP c (onBufs (k0_part23 (F := F)) c v2 v11 i v803 v806) Q := by
  have hi := trip_lt i
  unfold onBufs
  rw [k0_part23_eq_skeleton]; unfold k0_part23_skel
  simp only [Prog.lift, Prog.bind_op, Prog.bind_ret, Prog.pure_eq_ret, semWaitWord, semSignalWord]
  refine w_wait (by omega) (by omega) (by omega) ?_
  refine x_load (by decide) ?_
  refine w_load (by omega) (by omega) (fun v hv => ?_)
  refine e_load (by omega) (by omega) (fun _ => ?_)
  refine e_store (by omega) (by omega) (by omega) ((cast_uncast _).trans (pay1_eq _ _ _ hv)) ?_
  refine s_load (by decide) ?_
  refine s_load (by decide) ?_
  refine s_store (by decide) (congrArg (fun e => k0_pay3 e _) (pay1_eq _ _ _ hv)) ?_
  refine e_start (off4_at c i 6) (by omega) (by omega) (by omega) (by omega) ?_
  exact (w_drop (by omega) (by omega)).trans (wp_end (hk _))

theorem part24_run {v2 v11 v846 v847 : BitVec 32} {Q : _ → sProp 𝕄} (hy : y.s ≤ 4 * i.val + 3)
    (hk : ∀ a b v, isBlock X Wt c (8 * i.val + 7) v →
      St X Wt K J c ⟨8 * i.val + 8, 8 * i.val + 8, min (8 * i.val + 9) 32⟩ ⟨8 * i.val + 6, 8 * i.val + 7, 8 * i.val + 7⟩ y x n ⊢ Q ⟨a, b, v⟩) :
    St X Wt K J c ⟨8 * i.val + 7, 8 * i.val + 7, 8 * i.val + 8⟩ ⟨8 * i.val + 5, 8 * i.val + 7, 8 * i.val + 7⟩ y x n
      ⊢ WP c (onBufs (k0_part24 (F := F)) c v2 v11 i (Scf.iv 0#32 1#32 i) v846 v847) Q := by
  have hi := trip_lt i
  unfold onBufs
  rw [k0_part24_eq_skeleton]; unfold k0_part24_skel
  simp only [Prog.lift, Prog.bind_op, Prog.bind_ret, Prog.pure_eq_ret, semWaitWord, semSignalWord]
  refine e_wait (by omega) (by omega) (by omega) (by omega) ?_
  refine wp_cond (St X Wt K J c ⟨8 * i.val + 7, 8 * i.val + 7, min (8 * i.val + 9) 32⟩ ⟨8 * i.val + 6, 8 * i.val + 7, 8 * i.val + 7⟩ y x n) ?_ (fun h hR => ?_) (fun h => ?_)
  rotate_left
  · have hc := (cond14_iff i).mp h
    exact w_start (off24_at c i hc) (by omega) (by omega) (by omega) (by omega) (st_at hR (by omega))
  · have h := mt (cond14_iff i).mpr h
    exact st_at .rfl (by omega)
  refine w_wait (by omega) (by omega) (by omega) ?_
  refine x_load (by decide) ?_
  refine w_load (by omega) (by omega) (fun v hv => ?_)
  exact (w_drop (by omega) (by omega)).trans (wp_end (hk _ _ _ (pay1_eq _ _ _ hv)))

theorem part25_run {v2 v11 v858 v861 : BitVec 32} {Q : _ → sProp 𝕄} {v : FVec F S1024x512 .f32} (hv : isBlock X Wt c (8 * i.val + 7) v) (hy : y.s ≤ 4 * i.val + 3)
    (hk : ∀ q, St X Wt K J c p ⟨8 * i.val + 7, 8 * i.val + 8, 8 * i.val + 8⟩ y x (8 * i.val + 8) ⊢ Q q) :
    St X Wt K J c p ⟨8 * i.val + 6, 8 * i.val + 7, 8 * i.val + 7⟩ y x (8 * i.val + 7)
      ⊢ WP c (onBufs (k0_part25 (F := F)) c v2 v11 i (Scf.iv 0#32 1#32 i) v858 v861 v) Q := by
  have hi := trip_lt i
  unfold onBufs
  rw [k0_part25_eq_skeleton]; unfold k0_part25_skel
  simp only [Prog.lift, Prog.bind_op, Prog.bind_ret, Prog.pure_eq_ret, semWaitWord, semSignalWord]
  subst hv
  refine e_load (by omega) (by omega) (fun _ => ?_)
  refine e_store (by omega) (by omega) (by omega) (cast_uncast _) ?_
  refine s_load (by decide) ?_
  refine s_load (by decide) ?_
  refine s_store (by decide) rfl ?_
  refine e_start (off4_at c i 7) (by omega) (by omega) (by omega) (by omega) ?_
  exact e_wait (by omega) (by omega) (by omega) (by omega) (wp_end (hk _))

/-! ## The fourth round -/

theorem part26_run {v2 v8 v9 v11 v14 v907 : BitVec 32} {Q : _ → sProp 𝕄} {b : BitVec 1} (he : 4 * i.val + 3 < e.h)
    (hk : ∀ q, St X Wt K J c p e ⟨4 * i.val + 4, 4 * i.val, 4 * i.val, 4 * i.val + 3, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ n ⊢ Q q) :
    St X Wt K J c p e ⟨4 * i.val + 3, 4 * i.val - 1, 4 * i.val - 1, 4 * i.val + 2, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ n
      ⊢ WP c (onBufs (k0_part26 (F := F)) c v2 v8 v9 v11 v14 i v907 b) Q := by
  have hi := trip_lt i
  unfold onBufs
  rw [k0_part26_eq_skeleton]; unfold k0_part26_skel
  simp only [Prog.lift, Prog.bind_op, Prog.bind_ret, Prog.pure_eq_ret, semWaitWord, semSignalWord]
  refine wp_cond (St X Wt K J c p e ⟨4 * i.val + 3, 4 * i.val, 4 * i.val, 4 * i.val + 2, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ n) ?_ (fun h hR => ?_) (fun h => ?_)
  rotate_left
  · have hc := (cond15_iff i).mp h
    refine y_sent (by omega) (by omega) (by omega) ?_
    exact y_credit (by decide) (by omega) (by omega) (by dsimp only; omega) (by omega) (by dsimp only; omega) (st_at hR (by omega))
  · have h := mt (cond15_iff i).mpr h
    exact st_at .rfl (by omega)
  refine y_send (Fin.ext (k0_dev15_eq c)) (by omega) (off8_at c i 3) (by omega) (by omega) (by omega) (by omega) (by omega) ?_
  exact y_recv (by omega) (by omega) (by omega) (by dsimp only; omega) (by omega) (by dsimp only; omega) (by omega) (by dsimp only; omega) (wp_end (hk _))

theorem part27_run {v5 v8 v10 v13 v14 v907 : BitVec 32} {Q : _ → sProp 𝕄}
    (hk : ∀ q, St X Wt K J c p e ⟨4 * i.val + 4, 4 * i.val, 4 * i.val, 4 * i.val + 3, 4 * i.val + 3, min (4 * i.val + 3 - 3) 12, min (4 * i.val + 3 - 3) 12⟩ ⟨4 * i.val + 3, min (4 * i.val + 3 - 3) 12, 4 * i.val - 1, 4 * i.val + 1, 4 * i.val + 1, min (4 * i.val + 3 - 3) 12, min (4 * i.val + 3 - 3) 12⟩ n ⊢ Q q) :
    St X Wt K J c p e ⟨4 * i.val + 4, 4 * i.val, 4 * i.val, 4 * i.val + 3, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ n
      ⊢ WP c (onBufs (k0_part27 (F := F)) c v5 v8 v10 v13 v14 i (Scf.iv 0#32 1#32 i) v907) Q := by
  have hi := trip_lt i
  unfold onBufs
  rw [k0_part27_eq_skeleton]; unfold k0_part27_skel
  simp only [Prog.lift, Prog.bind_op, Prog.bind_ret, Prog.pure_eq_ret, semWaitWord, semSignalWord]
  refine y_start (off16_at c i 2) (by omega) (by omega) (by omega) (by omega) (by omega) ?_
  refine wp_cond (St X Wt K J c p e ⟨4 * i.val + 4, 4 * i.val, 4 * i.val, 4 * i.val + 3, 4 * i.val + 3, min (4 * i.val + 3 - 3) 12, min (4 * i.val + 3 - 3) 12⟩ ⟨4 * i.val + 2, min (4 * i.val + 3 - 3) 12, 4 * i.val - 1, 4 * i.val + 1, 4 * i.val + 1, min (4 * i.val + 3 - 3) 12, min (4 * i.val + 3 - 3) 12⟩ n) ?_ (fun h hR => ?_) (fun h => ?_)
  rotate_left
  · have hc := (ge1_iff i).mp h
    exact x_credit (by decide) (by omega) (by dsimp only; omega) (by omega) (by dsimp only; omega) (by omega) (st_at hR (by omega))
  · have h := mt (ge1_iff i).mpr h
    exact st_at .rfl (by omega)
  exact x_send (Fin.ext (k0_dev16_eq c)) (by omega) (by omega) (by omega) (by omega) (by omega) (by dsimp only; omega) (wp_end (hk _))

end Cert.Proof.Run

end
-- ==== Proof.Trip28.lean ====
/-
# One trip of the main loop
-/
module

public import proofs.«01_k».proof.Proof.Parts3

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD} {i : Fin k0_t1_loop.trips}
variable {p : PW} {e : PE} {y x : PC} {n : ℕ}

/-- The invariant at the start of trip `i`. -/
abbrev atTrip (X : Dev nD → Vec F S1024x2048 .f32) (Wt : Dev nD → Vec F S2048x16384 .f32) (K : Dev nD × Ky → ℕ) (J : Dev nD × (Bool × Fin 4) → ℕ) (c : Dev nD) (i : ℕ) : sProp 𝕄 :=
  St X Wt K J c ⟨8 * i, 8 * i, min (8 * i + 1) 32⟩ ⟨8 * i - 1, 8 * i, 8 * i⟩ (yAt (4 * i)) (xAt (4 * i)) (8 * i)

set_option maxHeartbeats 2000000 in
/-- One trip of the main loop. -/
theorem trip_run {v2 v5 v8 v9 v10 v11 v13 v14 v16 : BitVec 32} {Q : _ → sProp 𝕄} (hk : ∀ q, atTrip X Wt K J c (i.val + 1) ⊢ Q q) :
    atTrip X Wt K J c i.val ⊢ WP c (onBufs (k0_part28 (F := F)) c v2 v5 v8 v9 v10 v11 v13 v14 v16 0#32 1#32 i) Q := by
  have hi := trip_lt i
  unfold onBufs
  rw [k0_part28_eq_skeleton]; unfold k0_part28_skel
  simp only [Prog.lift, Prog.bind_op, Prog.bind_ret, Prog.pure_eq_ret, semWaitWord, semSignalWord]
  refine .trans (show _ ⊢ St X Wt K J c ⟨8 * i.val, 8 * i.val, 8 * i.val + 1⟩ ⟨8 * i.val - 1, 8 * i.val, 8 * i.val⟩ (yAt (4 * i.val)) (xAt (4 * i.val)) (8 * i.val) from st_at .rfl (by omega)) ?_
  refine wp_seq (part6_run fun a b v hv => ?_)
  refine wp_seq (part7_run hv (by dsimp only; omega) fun q => ?_)
  refine wp_seq (part8_run fun _ => ?_)
  refine wp_seq (part9_run rfl rfl rfl fun _ => ?_)
  refine wp_seq (part10_run fun q => ?_)
  refine wp_seq (part11_run fun _ => ?_)
  refine wp_seq (part12_run (by dsimp only; omega) fun a b v w hv => ?_)
  refine wp_seq (part13_run hv (by dsimp only; omega) fun _ => ?_)
  refine .trans (show _ ⊢ St X Wt K J c ⟨8 * i.val + 4, 8 * i.val + 4, 8 * i.val + 5⟩ ⟨8 * i.val + 3, 8 * i.val + 4, 8 * i.val + 4⟩ ⟨4 * i.val + 1, 4 * i.val - 3, 4 * i.val - 3, 4 * i.val, 4 * i.val, min (4 * i.val + 1 - 3) 12, min (4 * i.val + 1 - 3) 12⟩ ⟨4 * i.val, min (4 * i.val + 1 - 3) 12, 4 * i.val - 4, 4 * i.val - 1, 4 * i.val - 1, min (4 * i.val + 1 - 3) 12, min (4 * i.val + 1 - 3) 12⟩ (8 * i.val + 4) from st_at .rfl (by omega)) ?_
  refine wp_seq (part14_run (by dsimp only; omega) fun _ => ?_)
  refine wp_seq (part15_run fun _ => ?_)
  refine wp_seq (part16_run fun a b v hv => ?_)
  refine wp_seq (part17_run hv (by dsimp only; omega) fun q => ?_)
  refine wp_seq (part18_run fun a v s hv hs => ?_)
  refine .trans (show _ ⊢ St X Wt K J c ⟨8 * i.val + 6, 8 * i.val + 6, 8 * i.val + 7⟩ ⟨8 * i.val + 4, 8 * i.val + 5, 8 * i.val + 6⟩ ⟨4 * i.val + 2, 4 * i.val - 2, 4 * i.val - 2, 4 * i.val + 1, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ (8 * i.val + 5) from st_at .rfl (by omega)) ?_
  refine wp_seq (part19_run hv hs fun _ => ?_)
  refine wp_seq (part20_run (by dsimp only; omega) fun _ => ?_)
  refine .trans (show _ ⊢ St X Wt K J c ⟨8 * i.val + 6, 8 * i.val + 6, 8 * i.val + 7⟩ ⟨8 * i.val + 5, 8 * i.val + 6, 8 * i.val + 6⟩ ⟨4 * i.val + 3, 4 * i.val - 1, 4 * i.val - 1, 4 * i.val + 2, 4 * i.val + 1, min (4 * i.val + 2 - 3) 12, min (4 * i.val + 2 - 3) 12⟩ ⟨4 * i.val + 1, min (4 * i.val + 2 - 3) 12, 4 * i.val - 3, 4 * i.val, 4 * i.val, min (4 * i.val + 2 - 3) 12, min (4 * i.val + 2 - 3) 12⟩ (8 * i.val + 6) from st_at .rfl (by omega)) ?_
  refine wp_seq (part21_run fun _ => ?_)
  refine .trans (show _ ⊢ St X Wt K J c ⟨8 * i.val + 6, 8 * i.val + 6, 8 * i.val + 7⟩ ⟨8 * i.val + 5, 8 * i.val + 6, 8 * i.val + 6⟩ ⟨4 * i.val + 3, 4 * i.val - 1, 4 * i.val - 1, 4 * i.val + 2, 4 * i.val + 2, min (4 * i.val + 2 - 3) 12, min (4 * i.val + 2 - 3) 12⟩ ⟨4 * i.val + 2, min (4 * i.val + 2 - 3) 12, 4 * i.val - 2, 4 * i.val, 4 * i.val, min (4 * i.val + 2 - 3) 12, min (4 * i.val + 2 - 3) 12⟩ (8 * i.val + 6) from st_at .rfl (by omega)) ?_
  refine wp_seq (part22_run fun q => ?_)
  refine wp_seq (part23_run fun q => ?_)
  refine wp_seq (part24_run (by dsimp only; omega) fun a b v hv => ?_)
  refine wp_seq (part25_run hv (by dsimp only; omega) fun q => ?_)
  refine .trans (show _ ⊢ St X Wt K J c ⟨8 * i.val + 8, 8 * i.val + 8, min (8 * i.val + 9) 32⟩ ⟨8 * i.val + 7, 8 * i.val + 8, 8 * i.val + 8⟩ ⟨4 * i.val + 3, 4 * i.val - 1, 4 * i.val - 1, 4 * i.val + 2, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ (8 * i.val + 8) from st_at .rfl (by omega)) ?_
  refine wp_seq (part26_run (by dsimp only; omega) fun _ => ?_)
  refine .trans (show _ ⊢ St X Wt K J c ⟨8 * i.val + 8, 8 * i.val + 8, min (8 * i.val + 9) 32⟩ ⟨8 * i.val + 7, 8 * i.val + 8, 8 * i.val + 8⟩ ⟨4 * i.val + 4, 4 * i.val, 4 * i.val, 4 * i.val + 3, 4 * i.val + 2, min (4 * i.val + 3 - 3) 12, min (4 * i.val + 3 - 3) 12⟩ ⟨4 * i.val + 2, min (4 * i.val + 3 - 3) 12, 4 * i.val - 2, 4 * i.val + 1, 4 * i.val + 1, min (4 * i.val + 3 - 3) 12, min (4 * i.val + 3 - 3) 12⟩ (8 * i.val + 8) from st_at .rfl (by omega)) ?_
  refine wp_seq (part27_run fun q => ?_)
  refine x_recv (by omega) (by omega) (by omega) (by omega) (by dsimp only; omega) (by omega) (by dsimp only; omega) (by omega) ?_
  refine x_start (off21_at c i 1) (by omega) (by omega) (by omega) (by omega) (by omega) ?_
  refine wp_cond (atTrip X Wt K J c (i.val + 1)) (wp_end (hk _)) (fun h hR => ?_) (fun h => ?_)
  · have hc := (cond17_iff i).mp h
    refine wp_seq (part5_run (by omega) (by omega) (by omega) (by omega) (by omega) (by omega) (by omega) fun q => ?_)
    refine x_stored (by omega) (by omega) (by omega) (by omega) ?_
    exact x_free (Fin.ext (k0_dev18_eq c)) (by decide) (by omega) (by omega) (by omega) (st_at hR (by omega))
  · have h := mt (cond17_iff i).mpr h
    exact st_at .rfl (by omega)

end Cert.Proof.Run

end
-- ==== Proof.Epi.lean ====
/-
# The main loop and its last rounds
-/
module

public import proofs.«01_k».proof.Proof.Trip28

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

theorem off30_at : ∀ (c : Dev nD), k0_off30 c 15#32 = ![0, 512 * (gst false c 15 % 64)] := by decide +kernel
theorem off31_at : ∀ (c : Dev nD) (r : Fin 2),
    k0_off31 c (BitVec.ofNat 32 (14 + r.val)) = ![0, 512 * (gst true c (14 + r.val) % 64)] := by decide +kernel
theorem off1_at : ∀ (c : Dev nD), k0_off1 c = ![0, 512 * (jof c 0 % 32)] := by decide +kernel

/-! ## The last rounds, piece by piece -/

theorem part34_run {v2 v5 v8 v9 v10 v13 v14 : BitVec 32} {Q : _ → sProp 𝕄}
    (hk : ∀ q, St X Wt K J c ⟨32, 32, 32⟩ ⟨32, 32, 32⟩ ⟨16, 12, 12, 16, 16, 12, 12⟩ ⟨15, 12, 12, 14, 14, 12, 12⟩ 32 ⊢ Q q) :
    St X Wt K J c ⟨32, 32, 32⟩ ⟨32, 32, 32⟩ ⟨16, 12, 12, 15, 15, 12, 12⟩ ⟨15, 12, 11, 14, 14, 12, 12⟩ 32
      ⊢ WP c (onBufs (k0_part34 (F := F)) c v2 v5 v8 v9 v10 v13 v14) Q := by
  unfold onBufs
  rw [k0_part34_eq_skeleton]; unfold k0_part34_skel
  simp only [Prog.lift, Prog.bind_op, Prog.bind_ret, Prog.pure_eq_ret, semWaitWord, semSignalWord]
  refine y_recv (by omega) (by omega) (by omega) (by dsimp only; omega) (by omega) (by dsimp only; omega) (by omega) (by dsimp only; omega) ?_
  refine y_start (off30_at c) (by omega) (by omega) (by omega) (by omega) (by omega) ?_
  refine x_credit (by decide) (by omega) (by dsimp only; omega) (by omega) (by dsimp only; omega) (by omega) ?_
  exact wp_end (hk _)

theorem part35_run {v5 v8 v10 v13 v16 : BitVec 32} {Q : _ → sProp 𝕄}
    (hk : ∀ q, St X Wt K J c ⟨32, 32, 32⟩ ⟨32, 32, 32⟩ ⟨16, 12, 12, 16, 16, 12, 12⟩ ⟨16, 12, 12, 15, 15, 12, 12⟩ 32 ⊢ Q q) :
    St X Wt K J c ⟨32, 32, 32⟩ ⟨32, 32, 32⟩ ⟨16, 12, 12, 16, 16, 12, 12⟩ ⟨15, 12, 12, 14, 14, 12, 12⟩ 32
      ⊢ WP c (onBufs (k0_part35 (F := F)) c v5 v8 v10 v13 v16) Q := by
  unfold onBufs
  rw [k0_part35_eq_skeleton]; unfold k0_part35_skel
  simp only [Prog.lift, Prog.bind_op, Prog.bind_ret, Prog.pure_eq_ret, semWaitWord, semSignalWord]
  refine x_send (Fin.ext (k0_dev19_eq c)) (by omega) (by omega) (by omega) (by omega) (by omega) (by dsimp only; omega) ?_
  refine x_recv (by omega) (by omega) (by omega) (by omega) (by dsimp only; omega) (by omega) (by dsimp only; omega) (by omega) ?_
  refine x_start (off31_at c 0) (by omega) (by omega) (by omega) (by omega) (by omega) ?_
  exact wp_end (hk _)

theorem part36_run {v13 v14 v16 v113 v114 : BitVec 32} {Q : _ → sProp 𝕄}
    (hk : ∀ q, St X Wt K J c ⟨32, 32, 32⟩ ⟨32, 32, 32⟩ ⟨16, 12, 12, 16, 16, 13, 12⟩ ⟨16, 13, 12, 16, 16, 12, 12⟩ 32 ⊢ Q q) :
    St X Wt K J c ⟨32, 32, 32⟩ ⟨32, 32, 32⟩ ⟨16, 12, 12, 16, 16, 12, 12⟩ ⟨16, 12, 12, 15, 15, 12, 12⟩ 32
      ⊢ WP c (onBufs (k0_part36 (F := F)) c v13 v14 v16 v113 v114) Q := by
  unfold onBufs
  rw [k0_part36_eq_skeleton]; unfold k0_part36_skel
  simp only [Prog.lift, Prog.bind_op, Prog.bind_ret, Prog.pure_eq_ret, semWaitWord, semSignalWord]
  refine x_recv (by omega) (by omega) (by omega) (by omega) (by dsimp only; omega) (by omega) (by dsimp only; omega) (by omega) ?_
  refine x_start (off31_at c 1) (by omega) (by omega) (by omega) (by omega) (by omega) ?_
  refine y_stored (by omega) (by omega) (by omega) (by omega) ?_
  refine x_sent (by omega) (by omega) (by omega) (by dsimp only; omega) ?_
  exact wp_end (hk _)

theorem part37_run {v11 v13 v14 v16 : BitVec 32} {Q : _ → sProp 𝕄}
    (hk : ∀ q, St X Wt K J c ⟨32, 32, 32⟩ ⟨32, 32, 32⟩ ⟨16, 13, 12, 16, 16, 14, 12⟩ ⟨16, 13, 12, 16, 16, 13, 12⟩ 32 ⊢ Q q) :
    St X Wt K J c ⟨32, 32, 32⟩ ⟨32, 32, 32⟩ ⟨16, 12, 12, 16, 16, 13, 12⟩ ⟨16, 13, 12, 16, 16, 12, 12⟩ 32
      ⊢ WP c (onBufs (k0_part37 (F := F)) c v11 v13 v14 v16) Q := by
  unfold onBufs
  rw [k0_part37_eq_skeleton]; unfold k0_part37_skel
  simp only [Prog.lift, Prog.bind_op, Prog.bind_ret, Prog.pure_eq_ret, semWaitWord, semSignalWord]
  refine x_stored (by omega) (by omega) (by omega) (by omega) ?_
  refine y_sent (by omega) (by omega) (by omega) ?_
  refine y_stored (by omega) (by omega) (by omega) (by omega) ?_
  exact wp_end (hk _)

theorem part38_run {v11 v13 v14 v16 : BitVec 32} {Q : _ → sProp 𝕄}
    (hk : ∀ q, St X Wt K J c ⟨32, 32, 32⟩ ⟨32, 32, 32⟩ ⟨16, 14, 12, 16, 16, 15, 12⟩ ⟨16, 14, 12, 16, 16, 14, 12⟩ 32 ⊢ Q q) :
    St X Wt K J c ⟨32, 32, 32⟩ ⟨32, 32, 32⟩ ⟨16, 13, 12, 16, 16, 14, 12⟩ ⟨16, 13, 12, 16, 16, 13, 12⟩ 32
      ⊢ WP c (onBufs (k0_part38 (F := F)) c v11 v13 v14 v16) Q := by
  unfold onBufs
  rw [k0_part38_eq_skeleton]; unfold k0_part38_skel
  simp only [Prog.lift, Prog.bind_op, Prog.bind_ret, Prog.pure_eq_ret, semWaitWord, semSignalWord]
  refine x_sent (by omega) (by omega) (by omega) (by dsimp only; omega) ?_
  refine x_stored (by omega) (by omega) (by omega) (by omega) ?_
  refine y_sent (by omega) (by omega) (by omega) ?_
  refine y_stored (by omega) (by omega) (by omega) (by omega) ?_
  exact wp_end (hk _)

theorem part39_run {v11 v13 v14 v16 : BitVec 32} {Q : _ → sProp 𝕄}
    (hk : ∀ q, St X Wt K J c ⟨32, 32, 32⟩ ⟨32, 32, 32⟩ ⟨16, 15, 12, 16, 16, 15, 12⟩ ⟨16, 15, 12, 16, 16, 15, 12⟩ 32 ⊢ Q q) :
    St X Wt K J c ⟨32, 32, 32⟩ ⟨32, 32, 32⟩ ⟨16, 14, 12, 16, 16, 15, 12⟩ ⟨16, 14, 12, 16, 16, 14, 12⟩ 32
      ⊢ WP c (onBufs (k0_part39 (F := F)) c v11 v13 v14 v16) Q := by
  unfold onBufs
  rw [k0_part39_eq_skeleton]; unfold k0_part39_skel
  simp only [Prog.lift, Prog.bind_op, Prog.bind_ret, Prog.pure_eq_ret, semWaitWord, semSignalWord]
  refine x_sent (by omega) (by omega) (by omega) (by dsimp only; omega) ?_
  refine x_stored (by omega) (by omega) (by omega) (by omega) ?_
  refine y_sent (by omega) (by omega) (by omega) ?_
  exact wp_end (hk _)

theorem part40_run {v2 v9 v11 v13 v14 v16 : BitVec 32} {Q : _ → sProp 𝕄}
    (hk : ∀ q, St X Wt K J c ⟨32, 32, 32⟩ ⟨32, 32, 32⟩ ⟨16, 16, 12, 16, 16, 16, 12⟩ ⟨16, 16, 12, 16, 16, 16, 12⟩ 32 ⊢ Q q) :
    St X Wt K J c ⟨32, 32, 32⟩ ⟨32, 32, 32⟩ ⟨16, 15, 12, 16, 16, 15, 12⟩ ⟨16, 15, 12, 16, 16, 15, 12⟩ 32
      ⊢ WP c (onBufs (k0_part40 (F := F)) c v2 v9 v11 v13 v14 v16) Q := by
  unfold onBufs
  rw [k0_part40_eq_skeleton]; unfold k0_part40_skel
  simp only [Prog.lift, Prog.bind_op, Prog.bind_ret, Prog.pure_eq_ret, semWaitWord, semSignalWord]
  refine y_stored (by omega) (by omega) (by omega) (by omega) ?_
  refine x_sent (by omega) (by omega) (by omega) (by dsimp only; omega) ?_
  refine x_stored (by omega) (by omega) (by omega) (by omega) ?_
  refine y_sent (by omega) (by omega) (by omega) ?_
  exact wp_end (hk _)

/-! ## The main loop -/

/-- Before the running sum is set to zero: with it set, the first state of the loop. -/
abbrev Mid (X : Dev nD → Vec F S1024x2048 .f32) (Wt : Dev nD → Vec F S2048x16384 .f32) (K : Dev nD × Ky → ℕ) (J : Dev nD × (Bool × Fin 4) → ℕ) (c : Dev nD) : sProp 𝕄 :=
  iprop(raw c sM ∗ (owns c sM fullShare (SV X Wt c 0) -∗ St X Wt K J c ⟨0, 0, 0⟩ ⟨0, 0, 0⟩ ⟨0, 0, 0, 0, 0, 0, 0⟩ ⟨0, 0, 0, 0, 0, 0, 0⟩ 0))

theorem part33_run {v2 v5 v8 v9 v10 v11 v13 v14 v16 : BitVec 32} {Q : _ → sProp 𝕄}
    (hk : ∀ q, St X Wt K J c ⟨32, 32, 32⟩ ⟨32, 32, 32⟩ ⟨16, 12, 12, 15, 15, 12, 12⟩ ⟨15, 12, 11, 14, 14, 12, 12⟩ 32 ⊢ Q q) :
    Mid X Wt K J c ⊢ WP c (onBufs (k0_part33 (F := F)) c v2 v5 v8 v9 v10 v11 v13 v14 v16) Q := by
  unfold onBufs
  rw [k0_part33_eq_skeleton]; unfold k0_part33_skel
  simp only [Prog.lift, Prog.bind_op, Prog.bind_ret, Prog.pure_eq_ret, semWaitWord, semSignalWord]
  have hrest : ∀ {k}, (St X Wt K J c ⟨0, 0, 0⟩ ⟨0, 0, 0⟩ ⟨0, 0, 0, 0, 0, 0, 0⟩ ⟨0, 0, 0, 0, 0, 0, 0⟩ 0 ⊢ WP c k Q) →
      Mid X Wt K J c ⊢ WP c (.op (.load sM (Rect.unit (s := S1024x1) ![0, 0] S1024x1.size inb_S1024x1_S1024x1_0_0).toLoadRect (View.loadsAt_vmem h_S1024x1)) fun _ =>
        .op (.store sM (Rect.unit (s := S1024x1) ![0, 0] S1024x1.size inb_S1024x1_S1024x1_0_0) (k0_pay30 (F := F)) Finset.univ (View.stores_vmem_bits_univ h_S1024x1 rfl) (.inl rfl)) fun _ => k) Q := by
    intro k hk
    iintro ⟨Hs, HK⟩
    ihave Hs := (show (raw c sM : sProp 𝕄) ⊢ iprop(∃ Y, owns (c : Thread nD τ) sM fullShare Y) from by unfold raw; exact .rfl) $$ Hs
    icases Hs with ⟨%Y, Hs⟩
    iapply (own_load_all (by decide)) $$ [Hs]; · iexact Hs
    iintro Hs
    ihave Hs := raw_intro $$ Hs
    iapply (own_store_all (by decide)) $$ [Hs]; · iexact Hs
    iintro Hs
    iapply hk
    iapply HK
    iexact Hs
  refine hrest ?_
  refine w_start (off1_at c) (by omega) (by omega) (by omega) (by omega) ?_
  refine .trans (show _ ⊢ atTrip X Wt K J c 0 from st_at .rfl (by omega)) ?_
  refine wp_seq ?_
  refine .trans ?_ (Scf.wp_for _ _ _ k0_t1_loop.lb k0_t1_loop.ub k0_t1_loop.st k0_t1_ok PUnit.unit _ (fun i _ => atTrip X Wt K J c i) (fun i _ => ?_))
  rotate_left
  · exact wp_seq (trip_run fun q => wp_end .rfl)
  iintro H
  isplitl [H]; · iexact H
  iintro %q
  have hend : atTrip X Wt K J c (Scf.trips k0_t1_loop.lb k0_t1_loop.ub k0_t1_loop.st)
      ⊢ St X Wt K J c ⟨32, 32, 32⟩ ⟨31, 32, 32⟩ ⟨16, 12, 12, 15, 15, 12, 12⟩ ⟨15, 12, 11, 14, 14, 12, 12⟩ 32 := by
    rw [show Scf.trips k0_t1_loop.lb k0_t1_loop.ub k0_t1_loop.st = 4 by decide]
    exact st_at .rfl (by omega)
  iintro H
  ihave H := hend $$ H
  iapply (e_wait (by omega) (by omega) (by omega) (by dsimp only; omega) (wp_end (hk _))) $$ H

end Cert.Proof.Run

end
-- ==== Proof.Norm.lean ====
/-
# The last phase: every chunk of the result scaled by the reciprocal row sums
-/
module

public import proofs.«01_k».proof.Proof.Epi

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S1024x2048 .f32) (Wt : Dev nD → Vec F S2048x16384 .f32)
variable (K : Dev nD × Ky → ℕ) (J : Dev nD × (Bool × Fin 4) → ℕ) (c : Dev nD)

/-! ## The state of the last phase -/

abbrev psV (t : ℕ) : sProp 𝕄 := semVal ((c : Thread nD τ), .dma (psS t)) 0
abbrev plV (t : ℕ) : sProp 𝕄 := semVal ((c : Thread nD τ), .dma (plS t)) 0
abbrev nRaw (t : ℕ) : sProp 𝕄 := raw c (rS false t)
abbrev nOwn (t : ℕ) : sProp 𝕄 := owns (c : Thread nD τ) (oC t) fullShare (OV X Wt c t)
abbrev nDone (t : ℕ) : sProp 𝕄 := owns (c : Thread nD τ) (oC t) fullShare (NV X Wt c t)
abbrev plFly (t : ℕ) : sProp 𝕄 := Transfers.Flight EC (c : Thread nD τ) (.dma (plS t)) 0 NC
  iprop(owns (c : Thread nD τ) (rS false t) fullShare (OV X Wt c t) ∗ nOwn X Wt c t)
abbrev psFly (t : ℕ) : sProp 𝕄 := Transfers.Flight EC (c : Thread nD τ) (.dma (psS t)) 0 NO
  iprop(nDone X Wt c t ∗ owns (c : Thread nD τ) (rS false t) fullShare (NV X Wt c t))

/-- `z` chunks are scaled and stored, the stores of those up to `n` are under way, and so are the loads of those up to `a`. -/
def Nm (z n a : ℕ) : sProp 𝕄 :=
  iprop(Env X Wt K J ∗ Ow c 0 ∗ owns (c : Thread nD τ) ivM fullShare (IV X Wt c)
    ∗ bigSep (Finset.Ico z n) (psFly X Wt c) ∗ bigSep (Finset.Ico n a) (plFly X Wt c) ∗ bigSep (Finset.Ico a (z + 4)) (nRaw c)
    ∗ bigSep (Finset.Ico n (z + 4)) (psV c) ∗ bigSep (Finset.Ico a (n + 4)) (plV c)
    ∗ bigSep (Finset.range z) (nDone X Wt c) ∗ bigSep (Finset.Ico a 64) (nOwn X Wt c))

variable {X Wt K J c} {z n a : ℕ} {α : Type}

set_option maxRecDepth 100000 in
/-- A device that owes nothing may wait. -/
theorem may_none {sm : SemLoc sig} : Env X Wt K J ⊢ MayWait (c : Thread nD τ) sm 0 0 := by
  have h : (levAts L lv : sProp 𝕄) ⊢ MayWait (c : Thread nD τ) sm 0 0 := mayWait (by decide) (Above_zero _)
  iintro H
  iapply h
  iapply (Env_lev X Wt K J) $$ H

/-! ## Its steps -/

theorem n_load {off hin s hs hs' hsrc hdst hsem} {k : PUnit → Prog (TpuEff nD τ sig (Elt F) Λ₀ .tc) α} {Q : α → sProp 𝕄}
    (hoff : off = ![0, 512 * (a % 64)]) (hs₀ : s = a % 4) (hn : n ≤ a) (h4 : a < z + 4) (hz : z ≤ n) (h64 : a < 64)
    (hk : Nm X Wt K J c z n (a + 1) ⊢ WP c (k ⟨⟩) Q) :
    Nm X Wt K J c z n a
      ⊢ WP c (.op (.enqueueDma (oAt off hin) (.here (rAt false ![s, 0, 0] hs)) (.dma (s4At cc0_scratch19 ![s] hs')) hsrc hdst hsem) k) Q := by
  subst hoff hs₀
  unfold Nm at hk ⊢
  iintro ⟨#HE, HO, HI, Hs, Hl, Hr, Hsv, Hlv, Hd, Ho⟩
  ihave Hr := (ico_pop h4 (nRaw c)) $$ Hr
  icases Hr with ⟨Hb, Hr⟩
  ihave Hlv := (ico_pop (show a < n + 4 by omega) (plV c)) $$ Hlv
  icases Hlv with ⟨Hv, Hlv⟩
  ihave Ho := (ico_pop h64 (nOwn X Wt c)) $$ Ho
  icases Ho with ⟨Hc, Ho⟩
  iapply (own_start NC (rS_amount _ _ _ _) NC_pos (X := OV X Wt c a)) $$ [Hb Hc Hv]
  · isplitl [Hc]; · iexact Hc
    isplitl [Hb] <;> iassumption
  iintro HF
  ihave Hl := (ico_push hn (plFly X Wt c)) $$ [Hl HF]
  · isplitl [Hl] <;> iassumption
  iapply hk
  isplitr; · iexact HE
  isplitl [HO]; · iexact HO
  isplitl [HI]; · iexact HI
  isplitl [Hs]; · iexact Hs
  isplitl [Hl]; · iexact Hl
  isplitl [Hr]; · iexact Hr
  isplitl [Hsv]; · iexact Hsv
  isplitl [Hlv]; · iexact Hlv
  isplitl [Hd] <;> iassumption

theorem n_stored {sp' : Space} {s' : Shape} {e' : EltTy} {srcw : Memref sig .tc sp' s' e'} {off hin s hs' hsrc hdst} {k : PUnit → Prog (TpuEff nD τ sig (Elt F) Λ₀ .tc) α} {Q : α → sProp 𝕄}
    (hs₀ : s = z % 4) (hz : z < n) (ha : a ≤ z + 4) (hn : n ≤ z + 4)
    (hk : Nm X Wt K J c (z + 1) n a ⊢ WP c (k ⟨⟩) Q) :
    Nm X Wt K J c z n a ⊢ WP c (.op (.waitDma2 (s4At cc0_scratch20 ![s] hs') srcw (oAt off hin) hsrc hdst) k) Q := by
  subst hs₀
  unfold Nm Ow at hk ⊢
  iintro ⟨#HE, ⟨%W, HO⟩, HI, Hs, Hl, Hr, Hsv, Hlv, Hd, Ho⟩
  ihave Hs := (ico_pop hz (psFly X Wt c)) $$ Hs
  icases Hs with ⟨HF, Hs⟩
  ihave HM := (may_none (c := c) (sm := .dma (psS z))) $$ HE
  iapply (own_wait (oC_credit _ _)) $$ [HF HO HM]
  · isplitl [HF]; · iexact HF
    isplitl [HO] <;> iassumption
  iintro ⟨⟨Hc, Hb⟩, Hv, HO⟩
  ihave Hd := (range_push (nDone X Wt c)) $$ [Hd Hc]
  · isplitl [Hd] <;> iassumption
  ihave Hb := (show owns (c : Thread nD τ) (rS false z) fullShare (NV X Wt c z) ⊢ nRaw c (z + 4) from by
    rw [show rS false z = rS false (z + 4) from rAt_congr false (add4 z).symm _ _]; exact raw_intro) $$ Hb
  ihave Hv := (show psV c z ⊢ psV c (z + 4) from
    Entails.of_eq (congrArg (fun q : DmaSem sig => (semVal ((c : Thread nD τ), .dma q) 0 : sProp 𝕄)) (s4At_congr _ (add4 z).symm _ _))) $$ Hv
  ihave Hr := (ico_push ha (nRaw c)) $$ [Hr Hb]
  · isplitl [Hr] <;> iassumption
  ihave Hsv := (ico_push hn (psV c)) $$ [Hsv Hv]
  · isplitl [Hsv] <;> iassumption
  iapply hk
  isplitr; · iexact HE
  isplitl [HO]; · iexact HO
  isplitl [HI]; · iexact HI
  isplitl [Hs]; · iexact Hs
  isplitl [Hl]; · iexact Hl
  isplitl [Hr]; · rw [show z + 1 + 4 = z + 4 + 1 by omega]; iexact Hr
  isplitl [Hsv]; · rw [show z + 1 + 4 = z + 4 + 1 by omega]; iexact Hsv
  isplitl [Hlv]; · iexact Hlv
  isplitl [Hd] <;> iassumption

/-- A chunk: awaited, scaled by the reciprocal sums, sent back. -/
theorem n_chunk {sp' : Space} {s' : Shape} {e' : EltTy} {srcw : Memref sig .tc sp' s' e'} {off hin s hs hs₁ hs₂ hs₃ hs₄ hs' hs'' hsrc hdst hl₁ hin' hl₂ hl₃ hx hm hsrc' hdst' hsem}
    {k : PUnit → Prog (TpuEff nD τ sig (Elt F) Λ₀ .tc) α} {Q : α → sProp 𝕄} {pay : Vec F S1x1024x512 .f32 → Vec F S1024x1 .f32 → Vec F S1x1024x512 .f32}
    (hoff : off = ![0, 512 * (n % 64)]) (hs₀ : s = n % 4) (hpay : ∀ v i, pay v i = k0_pay27 v i) (hna : n < a) (hz : z ≤ n) (h4 : a ≤ z + 4)
    (hk : Nm X Wt K J c z (n + 1) a ⊢ WP c (k ⟨⟩) Q) :
    Nm X Wt K J c z n a
      ⊢ WP c (.op (.waitDma2 (s4At cc0_scratch19 ![s] hs') srcw (rAt false ![s, 0, 0] hs) hsrc hdst) fun _ =>
          .op (.load yrM (Rect.unit (s := S4x1024x512) ![s, 0, 0] S1x1024x512.size hs₁).toLoadRect hl₁) fun v =>
          .op (.load ivM (Rect.unit (s := S1024x1) ![0, 0] S1024x1.size hin').toLoadRect hl₂) fun i =>
          .op (.load yrM (Rect.unit (s := S4x1024x512) ![s, 0, 0] S1x1024x512.size hs₂).toLoadRect hl₃) fun _ =>
          .op (.store yrM (Rect.unit (s := S4x1024x512) ![s, 0, 0] S1x1024x512.size hs₃) (pay v i) Finset.univ hx hm) fun _ =>
          .op (.enqueueDma (rAt false ![s, 0, 0] hs₄) (.here (oAt off hin)) (.dma (s4At cc0_scratch20 ![s] hs'')) hsrc' hdst' hsem) k) Q := by
  subst hoff hs₀
  unfold Nm Ow at hk ⊢
  iintro ⟨#HE, ⟨%W, HO⟩, HI, Hs, Hl, Hr, Hsv, Hlv, Hd, Ho⟩
  ihave Hl := (ico_pop hna (plFly X Wt c)) $$ Hl
  icases Hl with ⟨HF, Hl⟩
  ihave HM := (may_none (c := c) (sm := .dma (plS n))) $$ HE
  iapply (own_wait (rS_credit _ _ _)) $$ [HF HO HM]
  · isplitl [HF]; · iexact HF
    isplitl [HO] <;> iassumption
  iintro ⟨⟨Hb, Hc⟩, Hv, HO⟩
  ihave Hv := (show plV c n ⊢ plV c (n + 4) from
    Entails.of_eq (congrArg (fun q : DmaSem sig => (semVal ((c : Thread nD τ), .dma q) 0 : sProp 𝕄)) (s4At_congr _ (add4 n).symm _ _))) $$ Hv
  ihave Hlv := (ico_push (show a ≤ n + 4 by omega) (plV c)) $$ [Hlv Hv]
  · isplitl [Hlv] <;> iassumption
  iapply (own_load_slot (c := c) (M := yrM) (r := Rect.unit (s := S4x1024x512) ![n % 4, 0, 0] S1x1024x512.size hs) (hr := fun _ => rfl)
    (hq := squeezes_S1x1024x512_S1024x512) shapeCasts_S1x1024x512_S1024x512) $$ Hb
  iintro %v ⟨%hv, Hb⟩
  iapply (own_load_all (by decide)) $$ HI
  iintro HI
  iapply (own_load_slot (c := c) (M := yrM) (r := Rect.unit (s := S4x1024x512) ![n % 4, 0, 0] S1x1024x512.size hs) (hr := fun _ => rfl)
    (hq := squeezes_S1x1024x512_S1024x512) shapeCasts_S1x1024x512_S1024x512) $$ Hb
  iintro %v' ⟨-, Hb⟩
  ihave Hb := raw_intro $$ Hb
  iapply (own_store_slot (c := c) (M := yrM) (r := Rect.unit (s := S4x1024x512) ![n % 4, 0, 0] S1x1024x512.size hs) (hr := fun _ => rfl)
    (hq := squeezes_S1x1024x512_S1024x512) shapeCasts_S1x1024x512_S1024x512) $$ Hb
  rw [hpay, pay27_eq _ _ _ hv]
  iintro Hb
  ihave Hsv := (ico_pop (show n < z + 4 by omega) (psV c)) $$ Hsv
  icases Hsv with ⟨Hv, Hsv⟩
  ihave Hc := raw_intro $$ Hc
  iapply (own_start NO (oC_amount _ _ _) NO_pos (X := NV X Wt c n)) $$ [Hb Hc Hv]
  · isplitl [Hb]; · iexact Hb
    isplitl [Hc] <;> iassumption
  iintro HF
  ihave Hs := (ico_push hz (psFly X Wt c)) $$ [Hs HF]
  · isplitl [Hs] <;> iassumption
  iapply hk
  isplitr; · iexact HE
  isplitl [HO]; · iexact HO
  isplitl [HI]; · iexact HI
  isplitl [Hs]; · iexact Hs
  isplitl [Hl]; · iexact Hl
  isplitl [Hr]; · iexact Hr
  isplitl [Hsv]; · iexact Hsv
  isplitl [Hlv]; · rw [show n + 1 + 4 = n + 4 + 1 by omega]; iexact Hlv
  isplitl [Hd] <;> iassumption

end Cert.Proof.Run

end
-- ==== Proof.Pieces.lean ====
/-
The buffers cut into the pieces the kernel moves, and put together again; the pieces in the order a device takes them.
-/
module

public import proofs.«01_k».proof.Proof.Norm
public import Idealize.ShloMosaic.Lib.Ring
public import Idealize.SL.BI.BigOpNat

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

/-! ## Families over numbers, renamed -/

theorem bigSep_renamed (f : ℕ → ℕ) (Φ : ℕ → sProp 𝕄) (s : Finset ℕ) (hf : ∀ a ∈ s, ∀ b ∈ s, f a = f b → a = b) :
    bigSep (s.image f) Φ = bigSep s (fun t => Φ (f t)) := by
  induction s using Finset.induction_on with
  | empty => rw [Finset.image_empty, bigSep_empty, bigSep_empty]
  | insert a s ha ih =>
    have hn : f a ∉ s.image f := fun h => by
      obtain ⟨b, hb, he⟩ := Finset.mem_image.mp h
      have h' := hf b (Finset.mem_insert_of_mem hb) a (Finset.mem_insert_self a s) he
      subst h'; exact ha hb
    rw [Finset.image_insert, bigSep_insert hn, bigSep_insert ha,
      ih fun a h b h' => hf a (Finset.mem_insert_of_mem h) b (Finset.mem_insert_of_mem h')]

theorem bigSep_fin (n : ℕ) (Φ : ℕ → sProp 𝕄) : bigSep Finset.univ (fun t : Fin n => Φ t.val) = bigSep (Finset.range n) Φ := by
  have h := bigSep_map (M := 𝕄) Fin.valEmbedding (s := (Finset.univ : Finset (Fin n))) (Φ := Φ)
  rw [Fin.map_valEmbedding_univ, Nat.Iio_eq_range] at h
  exact h.symm

theorem jof_inj (c : Dev nD) (a : ℕ) (ha : a ∈ Finset.range 32) (b : ℕ) (hb : b ∈ Finset.range 32) (h : jof c a = jof c b) : a = b := by
  have h1 := Finset.mem_range.mp ha
  have h2 := Finset.mem_range.mp hb
  have h3 := cx_lt c
  unfold jof at h; omega
theorem gof_inj (c : Dev nD) (a : ℕ) (ha : a ∈ Finset.range 32) (b : ℕ) (hb : b ∈ Finset.range 32) (h : gof c a = gof c b) : a = b :=
  jof_inj c a ha b hb (by unfold gof at h; omega)
theorem gst_inj (b : Bool) (c : Dev nD) (u : ℕ) (v : ℕ) (h : gst b c u = gst b c v) : u = v := by
  cases b
  · have h1 : gst false c u = 32 * (1 - cy c) + (16 * cx c + u) := rfl
    have h2 : gst false c v = 32 * (1 - cy c) + (16 * cx c + v) := rfl
    omega
  · have h1 : gst true c u = 32 * (1 - cy c) + (16 * (1 - cx c) + u) := rfl
    have h2 : gst true c v = 32 * (1 - cy c) + (16 * (1 - cx c) + v) := rfl
    omega

theorem jof_all (c : Dev nD) : (Finset.range 32).image (jof c) = Finset.range 32 := by revert c; decide +kernel
theorem g_all (c : Dev nD) :
    (Finset.range 32).image (gof c) ∪ ((Finset.range 16).image (gst false c) ∪ (Finset.range 16).image (gst true c)) = Finset.range 64 := by
  revert c; decide +kernel
theorem g_disj (c : Dev nD) : Disjoint ((Finset.range 32).image (gof c)) ((Finset.range 16).image (gst false c) ∪ (Finset.range 16).image (gst true c)) := by
  revert c; decide +kernel
theorem g_disj' (c : Dev nD) : Disjoint ((Finset.range 16).image (gst false c)) ((Finset.range 16).image (gst true c)) := by
  revert c; decide +kernel

/-- The weight chunks, in the order a device takes them. -/
theorem by_jof (c : Dev nD) (Φ : ℕ → sProp 𝕄) : bigSep (Finset.range 32) (fun t => Φ (jof c t)) = bigSep (Finset.range 32) Φ := by
  rw [← bigSep_renamed (jof c) Φ _ (jof_inj c), jof_all]

/-- The result chunks: those a device computes, and those that come to it on either channel. -/
theorem by_gof (c : Dev nD) (Φ : ℕ → sProp 𝕄) :
    bigSep (Finset.range 64) Φ = iprop(bigSep (Finset.range 32) (fun t => Φ (gof c t))
      ∗ bigSep (Finset.range 16) (fun u => Φ (gst false c u)) ∗ bigSep (Finset.range 16) (fun u => Φ (gst true c u))) := by
  rw [← g_all c, bigSep_union (g_disj c), bigSep_union (g_disj' c), bigSep_renamed _ _ _ (gof_inj c),
    bigSep_renamed _ _ _ (fun a _ b _ => gst_inj false c a b), bigSep_renamed _ _ _ (fun a _ b _ => gst_inj true c a b)]
  rfl

/-! ## A window cut into pieces, and put together -/

section
variable {sp : Space} {s s' : Shape} {e : EltTy} {m : Memref sig .tc sp s e} (c : Dev nD)

theorem raw_squeeze (h : s.Squeezes s') : (raw c m : sProp 𝕄) ⊢ raw c (m.squeeze s' h) :=
  slot_of_raw.trans (.trans (Entails.of_eq (by rw [Memref.view_squeeze, View.set_reshape])) raw_of_slot)

theorem raw_unsqueeze (h : s.Squeezes s') : (raw c (m.squeeze s' h) : sProp 𝕄) ⊢ raw c m :=
  slot_of_raw.trans (.trans (Entails.of_eq (by rw [Memref.view_squeeze, View.set_reshape])) raw_of_slot)

variable {T : Type} [Fintype T] [DecidableEq T] (r : T → Rect s) (hr : ∀ t a, (r t).stride a = 1)
  (hd : ∀ t t', t ≠ t' → Disjoint (r t).set (r t').set) (hcov : (Finset.univ : Finset T).biUnion (fun t => (r t).set) = Finset.univ)

include hd hcov in

theorem raw_cut : (raw c m : sProp 𝕄) ⊢ bigSep Finset.univ (fun t => raw c (m.slice (r t) (hr t))) := by
  iintro H
  ihave H := (show (raw c m : sProp 𝕄) ⊢ iprop(∃ X, owns (c : Thread nD τ) m fullShare X) from by unfold raw; exact .rfl) $$ H
  icases H with ⟨%X, H⟩
  ihave H := (owns_rects (c : Thread nD τ) m fullShare r hr hd hcov X) $$ H
  iapply (show bigSep Finset.univ (fun t => owns (c : Thread nD τ) (m.slice (r t) (hr t)) fullShare (fun j => X ((r t).emb j)))
    ⊢ (bigSep Finset.univ (fun t => raw c (m.slice (r t) (hr t))) : sProp 𝕄) from bigSep_mono fun t _ => raw_intro)
  iexact H

include hd hcov in
theorem raw_glue : bigSep Finset.univ (fun t => raw c (m.slice (r t) (hr t))) ⊢ (raw c m : sProp 𝕄) := by
  refine .trans (bigSep_mono fun t _ => slot_of_raw) (.trans ?_ raw_of_slot)
  have hdv (t t' : T) (htt : t ≠ t') : Disjoint (m.view.slice (r t)).set (m.view.slice (r t')).set := by
    rw [View.set_slice, View.set_slice]; exact (Finset.disjoint_map _).mpr (hd t t' htt)
  have hset : (Finset.univ : Finset T).biUnion (fun t => (m.view.slice (r t)).set) = m.view.set := by
    rw [show (fun t => (m.view.slice (r t)).set) = fun t => (r t).set.map m.view.emb from funext fun t => View.set_slice _ _]
    ext i; constructor
    · intro hi
      obtain ⟨t, -, hi⟩ := Finset.mem_biUnion.mp hi
      obtain ⟨x, -, rfl⟩ := Finset.mem_map.mp hi
      exact Finset.mem_map_of_mem _ (Finset.mem_univ x)
    · intro hi
      obtain ⟨x, -, rfl⟩ := Finset.mem_map.mp hi
      obtain ⟨t, -, hx⟩ := Finset.mem_biUnion.mp (hcov.symm ▸ Finset.mem_univ x)
      exact Finset.mem_biUnion.mpr ⟨t, Finset.mem_univ _, Finset.mem_map_of_mem _ hx⟩
  unfold slot
  have h := Idealize.ShloMosaic.Ring.pointsTo_sub_blocks_join_exists (Ix := ℕ) (Name := ℕ) (U := UU) (Lvl := ℕ) (Val := Elt F)
    (ℓ := m.view.loc (c : Thread nD τ)) (fun t => (m.view.slice (r t)).set) hdv m.view.set hset (q := fullShare) (fun _ => Classical.arbitrary _)
  exact h
end

/-! ## This kernel's pieces -/

abbrev oRect (g : ℕ) : Rect S1024x32768 := Rect.unit (s := S1024x32768) ![0, 512 * (g % 64)] S1024x512.size (o_inb g)
abbrev wRect (j : ℕ) : Rect S2048x16384 := Rect.unit (s := S2048x16384) ![0, 512 * (j % 32)] S2048x512.size (w_inb j)
abbrev wbRect (u : ℕ) : Rect S2x2048x512 := Rect.unit (s := S2x2048x512) ![u % 2, 0, 0] S1x2048x512.size (wb_inb u)
abbrev ebRect (u : ℕ) : Rect S2x1024x512 := Rect.unit (s := S2x1024x512) ![u % 2, 0, 0] S1x1024x512.size (eb_inb u)
abbrev rRect (u : ℕ) : Rect S4x1024x512 := Rect.unit (s := S4x1024x512) ![u % 4, 0, 0] S1x1024x512.size (r_inb u)

theorem o_disj (t t' : Fin 64) (h : t ≠ t') : Disjoint (oRect t.val).set (oRect t'.val).set :=
  Rect.unit_disjoint (s := S1024x32768) 1 (by
    have h1 := t.isLt; have h2 := t'.isLt; have h3 : t.val ≠ t'.val := fun h' => h (Fin.ext h')
    show 512 * (t.val % 64) + 512 ≤ 512 * (t'.val % 64) ∨ 512 * (t'.val % 64) + 512 ≤ 512 * (t.val % 64); omega)
theorem w_disj (t t' : Fin 32) (h : t ≠ t') : Disjoint (wRect t.val).set (wRect t'.val).set :=
  Rect.unit_disjoint (s := S2048x16384) 1 (by
    have h1 := t.isLt; have h2 := t'.isLt; have h3 : t.val ≠ t'.val := fun h' => h (Fin.ext h')
    show 512 * (t.val % 32) + 512 ≤ 512 * (t'.val % 32) ∨ 512 * (t'.val % 32) + 512 ≤ 512 * (t.val % 32); omega)
theorem wb_disj (t t' : Fin 2) (h : t ≠ t') : Disjoint (wbRect t.val).set (wbRect t'.val).set :=
  Rect.unit_disjoint (s := S2x2048x512) 0 (by
    have h1 := t.isLt; have h2 := t'.isLt; have h3 : t.val ≠ t'.val := fun h' => h (Fin.ext h')
    show t.val % 2 + 1 ≤ t'.val % 2 ∨ t'.val % 2 + 1 ≤ t.val % 2; omega)
theorem eb_disj (t t' : Fin 2) (h : t ≠ t') : Disjoint (ebRect t.val).set (ebRect t'.val).set :=
  Rect.unit_disjoint (s := S2x1024x512) 0 (by
    have h1 := t.isLt; have h2 := t'.isLt; have h3 : t.val ≠ t'.val := fun h' => h (Fin.ext h')
    show t.val % 2 + 1 ≤ t'.val % 2 ∨ t'.val % 2 + 1 ≤ t.val % 2; omega)
theorem r_disj (t t' : Fin 4) (h : t ≠ t') : Disjoint (rRect t.val).set (rRect t'.val).set :=
  Rect.unit_disjoint (s := S4x1024x512) 0 (by
    have h1 := t.isLt; have h2 := t'.isLt; have h3 : t.val ≠ t'.val := fun h' => h (Fin.ext h')
    show t.val % 4 + 1 ≤ t'.val % 4 ∨ t'.val % 4 + 1 ≤ t.val % 4; omega)

theorem o_cov : (Finset.univ : Finset (Fin 64)).biUnion (fun t => (oRect t.val).set) = Finset.univ := by
  refine Finset.eq_univ_of_forall fun i => ?_
  have h0 : (i 0).val < 1024 := (i 0).isLt
  have h1 : (i 1).val < 32768 := (i 1).isLt
  refine Finset.mem_biUnion.mpr ⟨⟨(i 1).val / 512, by omega⟩, Finset.mem_univ _, Rect.mem_set_unit.mpr fun a => ?_⟩
  fin_cases a
  · show 0 ≤ (i 0).val ∧ (i 0).val < 0 + 1024; omega
  · show 512 * ((i 1).val / 512 % 64) ≤ (i 1).val ∧ (i 1).val < 512 * ((i 1).val / 512 % 64) + 512; omega
theorem w_cov : (Finset.univ : Finset (Fin 32)).biUnion (fun t => (wRect t.val).set) = Finset.univ := by
  refine Finset.eq_univ_of_forall fun i => ?_
  have h0 : (i 0).val < 2048 := (i 0).isLt
  have h1 : (i 1).val < 16384 := (i 1).isLt
  refine Finset.mem_biUnion.mpr ⟨⟨(i 1).val / 512, by omega⟩, Finset.mem_univ _, Rect.mem_set_unit.mpr fun a => ?_⟩
  fin_cases a
  · show 0 ≤ (i 0).val ∧ (i 0).val < 0 + 2048; omega
  · show 512 * ((i 1).val / 512 % 32) ≤ (i 1).val ∧ (i 1).val < 512 * ((i 1).val / 512 % 32) + 512; omega
theorem wb_cov : (Finset.univ : Finset (Fin 2)).biUnion (fun t => (wbRect t.val).set) = Finset.univ := by
  refine Finset.eq_univ_of_forall fun i => ?_
  have h0 : (i 0).val < 2 := (i 0).isLt
  have h1 : (i 1).val < 2048 := (i 1).isLt
  have h2 : (i 2).val < 512 := (i 2).isLt
  refine Finset.mem_biUnion.mpr ⟨⟨(i 0).val, h0⟩, Finset.mem_univ _, Rect.mem_set_unit.mpr fun a => ?_⟩
  fin_cases a
  · show (i 0).val % 2 ≤ (i 0).val ∧ (i 0).val < (i 0).val % 2 + 1; omega
  · show 0 ≤ (i 1).val ∧ (i 1).val < 0 + 2048; omega
  · show 0 ≤ (i 2).val ∧ (i 2).val < 0 + 512; omega
theorem eb_cov : (Finset.univ : Finset (Fin 2)).biUnion (fun t => (ebRect t.val).set) = Finset.univ := by
  refine Finset.eq_univ_of_forall fun i => ?_
  have h0 : (i 0).val < 2 := (i 0).isLt
  have h1 : (i 1).val < 1024 := (i 1).isLt
  have h2 : (i 2).val < 512 := (i 2).isLt
  refine Finset.mem_biUnion.mpr ⟨⟨(i 0).val, h0⟩, Finset.mem_univ _, Rect.mem_set_unit.mpr fun a => ?_⟩
  fin_cases a
  · show (i 0).val % 2 ≤ (i 0).val ∧ (i 0).val < (i 0).val % 2 + 1; omega
  · show 0 ≤ (i 1).val ∧ (i 1).val < 0 + 1024; omega
  · show 0 ≤ (i 2).val ∧ (i 2).val < 0 + 512; omega
theorem r_cov : (Finset.univ : Finset (Fin 4)).biUnion (fun t => (rRect t.val).set) = Finset.univ := by
  refine Finset.eq_univ_of_forall fun i => ?_
  have h0 : (i 0).val < 4 := (i 0).isLt
  have h1 : (i 1).val < 1024 := (i 1).isLt
  have h2 : (i 2).val < 512 := (i 2).isLt
  refine Finset.mem_biUnion.mpr ⟨⟨(i 0).val, h0⟩, Finset.mem_univ _, Rect.mem_set_unit.mpr fun a => ?_⟩
  fin_cases a
  · show (i 0).val % 4 ≤ (i 0).val ∧ (i 0).val < (i 0).val % 4 + 1; omega
  · show 0 ≤ (i 1).val ∧ (i 1).val < 0 + 1024; omega
  · show 0 ≤ (i 2).val ∧ (i 2).val < 0 + 512; omega

section
variable (c : Dev nD)

theorem wb_cut : (raw c wbM : sProp 𝕄) ⊢ bigSep (Finset.range 2) (fun u => raw c (wbS u)) := by
  rw [← bigSep_fin 2 (fun u => (raw c (wbS u) : sProp 𝕄))]
  exact (raw_cut c (fun t : Fin 2 => wbRect t.val) (fun _ _ => rfl) wb_disj wb_cov).trans (bigSep_mono fun t _ => raw_squeeze c squeezes_S1x2048x512_S2048x512)
theorem wb_glue : bigSep (Finset.range 2) (fun u => raw c (wbS u)) ⊢ (raw c wbM : sProp 𝕄) := by
  rw [← bigSep_fin 2 (fun u => (raw c (wbS u) : sProp 𝕄))]
  exact (bigSep_mono fun t _ => raw_unsqueeze c squeezes_S1x2048x512_S2048x512).trans (raw_glue c (fun t : Fin 2 => wbRect t.val) (fun _ _ => rfl) wb_disj wb_cov)

theorem eb_cut : (raw c ebM : sProp 𝕄) ⊢ bigSep (Finset.range 2) (fun u => raw c (ebS u)) := by
  rw [← bigSep_fin 2 (fun u => (raw c (ebS u) : sProp 𝕄))]
  exact (raw_cut c (fun t : Fin 2 => ebRect t.val) (fun _ _ => rfl) eb_disj eb_cov).trans (bigSep_mono fun t _ => raw_squeeze c squeezes_S1x1024x512_S1024x512)
theorem eb_glue : bigSep (Finset.range 2) (fun u => raw c (ebS u)) ⊢ (raw c ebM : sProp 𝕄) := by
  rw [← bigSep_fin 2 (fun u => (raw c (ebS u) : sProp 𝕄))]
  exact (bigSep_mono fun t _ => raw_unsqueeze c squeezes_S1x1024x512_S1024x512).trans (raw_glue c (fun t : Fin 2 => ebRect t.val) (fun _ _ => rfl) eb_disj eb_cov)

theorem r_cut (b : Bool) : (raw c (rM b) : sProp 𝕄) ⊢ bigSep (Finset.range 4) (fun u => raw c (rS b u)) := by
  rw [← bigSep_fin 4 (fun u => (raw c (rS b u) : sProp 𝕄))]
  exact (raw_cut c (fun t : Fin 4 => rRect t.val) (fun _ _ => rfl) r_disj r_cov).trans (bigSep_mono fun t _ => raw_squeeze c squeezes_S1x1024x512_S1024x512)
theorem r_glue (b : Bool) : bigSep (Finset.range 4) (fun u => raw c (rS b u)) ⊢ (raw c (rM b) : sProp 𝕄) := by
  rw [← bigSep_fin 4 (fun u => (raw c (rS b u) : sProp 𝕄))]
  exact (bigSep_mono fun t _ => raw_unsqueeze c squeezes_S1x1024x512_S1024x512).trans (raw_glue c (fun t : Fin 4 => rRect t.val) (fun _ _ => rfl) r_disj r_cov)

theorem o_cut : (raw c oM : sProp 𝕄) ⊢ bigSep (Finset.range 64) (fun g => raw c (oC g)) := by
  rw [← bigSep_fin 64 (fun u => (raw c (oC u) : sProp 𝕄))]
  exact raw_cut c (fun t : Fin 64 => oRect t.val) (fun _ _ => rfl) o_disj o_cov

variable (X : Dev nD → Vec F S1024x2048 .f32) (Wt : Dev nD → Vec F S2048x16384 .f32)

theorem w_cut : (owns (c : Thread nD τ) wM fullShare (Wt c) : sProp 𝕄)
    ⊢ bigSep (Finset.range 32) (fun j => owns (c : Thread nD τ) (wC j) fullShare (wch Wt c j)) := by
  rw [← bigSep_fin 32 (fun j => (owns (c : Thread nD τ) (wC j) fullShare (wch Wt c j) : sProp 𝕄))]
  exact owns_rects (c : Thread nD τ) wM fullShare (fun t : Fin 32 => wRect t.val) (fun _ _ => rfl) w_disj w_cov (Wt c)
theorem w_glue : bigSep (Finset.range 32) (fun j => owns (c : Thread nD τ) (wC j) fullShare (wch Wt c j))
    ⊢ (owns (c : Thread nD τ) wM fullShare (Wt c) : sProp 𝕄) := by
  rw [← bigSep_fin 32 (fun j => (owns (c : Thread nD τ) (wC j) fullShare (wch Wt c j) : sProp 𝕄))]
  exact owns_of_rects (c : Thread nD τ) wM fullShare (fun t : Fin 32 => wRect t.val) (fun _ _ => rfl) w_disj w_cov (Wt c)

/-- Where an element of the result lies in its chunk. -/
def oIx (i : S1024x32768.Idx) : S1024x512.Idx := fun a =>
  ⟨(![(i 0).val, (i 1).val % 512] : Fin 2 → ℕ) a, by
    have h0 : (i 0).val < 1024 := (i 0).isLt
    fin_cases a
    · exact h0
    · exact Nat.mod_lt _ (by decide)⟩

/-- The result. -/
def OUT : Vec F S1024x32768 .f32 := fun i => NV X Wt c ((i 1).val / 512) (oIx i)

theorem OUT_at (t : Fin 64) (j : S1024x512.Idx) : OUT c X Wt ((oRect t.val).emb j) = NV X Wt c t.val j := by
  have h1 : (((oRect t.val).emb j) 1).val = 512 * (t.val % 64) + 1 * (j 1).val := rfl
  have h0 : (((oRect t.val).emb j) 0).val = 0 + 1 * (j 0).val := rfl
  have hj : (j 1).val < 512 := (j 1).isLt
  have ht := t.isLt
  have hq : (((oRect t.val).emb j) 1).val / 512 = t.val := by rw [h1]; omega
  have hi : oIx ((oRect t.val).emb j) = j := funext fun a => Fin.ext (by
    fin_cases a
    · show (((oRect t.val).emb j) 0).val = (j 0).val; rw [h0]; omega
    · show (((oRect t.val).emb j) 1).val % 512 = (j 1).val; rw [h1]; omega)
  unfold OUT; rw [hq, hi]

theorem o_glue : bigSep (Finset.range 64) (fun g => owns (c : Thread nD τ) (oC g) fullShare (NV X Wt c g))
    ⊢ (owns (c : Thread nD τ) oM fullShare (OUT c X Wt) : sProp 𝕄) := by
  rw [← bigSep_fin 64 (fun g => (owns (c : Thread nD τ) (oC g) fullShare (NV X Wt c g) : sProp 𝕄))]
  refine .trans (Entails.of_eq (bigSep_congr fun t _ => ?_))
    (owns_of_rects (c : Thread nD τ) oM fullShare (fun t : Fin 64 => oRect t.val) (fun _ _ => rfl) o_disj o_cov (OUT c X Wt))
  exact congrArg (owns (c : Thread nD τ) (oC t.val) fullShare) (funext fun j => (OUT_at c X Wt t j).symm)

end

end Cert.Proof.Run

end
-- ==== Proof.Turn.lean ====
/-
# The loop of the last phase
-/
module

public import proofs.«01_k».proof.Proof.Norm

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD} {i : Fin k0_t2_loop.trips}

theorem nm_at {z n a z' n' a' : ℕ} {R : sProp 𝕄} (hR : Nm X Wt K J c z' n' a' ⊢ R) (h : z = z' ∧ n = n' ∧ a = a') : Nm X Wt K J c z n a ⊢ R := by
  obtain ⟨h1, h2, h3⟩ := h
  subst h1 h2 h3
  exact hR

theorem turn_lt (i : Fin k0_t2_loop.trips) : i.val < 16 := by revert i; decide

theorem off33_at : ∀ i : Fin k0_t2_loop.trips, k0_off33 i = ![0, 512 * ((4 * i.val + 1) % 64)] := by decide +kernel
theorem off34_at : ∀ (i : Fin k0_t2_loop.trips) (r : Fin 4), k0_off34 i (BitVec.ofNat 32 r.val) = ![0, 512 * ((4 * i.val + r.val) % 64)] := by decide +kernel
theorem off36_at : ∀ i : Fin k0_t2_loop.trips, k0_off36 i = ![0, 512 * ((4 * i.val + 2) % 64)] := by decide +kernel
theorem off38_at : ∀ i : Fin k0_t2_loop.trips, k0_off38 i = ![0, 512 * ((4 * i.val + 3) % 64)] := by decide +kernel
theorem off40_at : ∀ i : Fin k0_t2_loop.trips, i.val < 15 → k0_off40 i = ![0, 512 * ((4 * i.val + 4) % 64)] := by decide +kernel
theorem cond18_all : ∀ i, k0_cond18 i = 1#1 := by decide +kernel
theorem cond19_iff : ∀ i, k0_cond19 i = 1#1 ↔ 1 ≤ i.val := by decide +kernel
theorem cond20_all : ∀ i, k0_cond20 i = 1#1 := by decide +kernel
theorem cond21_iff : ∀ i, k0_cond21 i = 1#1 ↔ 1 ≤ i.val := by decide +kernel
theorem cond22_all : ∀ i, k0_cond22 i = 1#1 := by decide +kernel
theorem cond23_iff : ∀ i, k0_cond23 i = 1#1 ↔ 1 ≤ i.val := by decide +kernel
theorem cond24_iff : ∀ i, k0_cond24 i = 1#1 ↔ i.val < 15 := by decide +kernel
theorem cond25_all : ∀ i, k0_cond25 i = 1#1 := by decide +kernel

/-! ## One turn, piece by piece -/

set_option maxHeartbeats 2000000 in
theorem part29_run {Q : _ → sProp 𝕄}
    (hk : ∀ q, Nm X Wt K J c (4 * i.val - 2) (4 * i.val + 1) (4 * i.val + 2) ⊢ Q q) :
    Nm X Wt K J c (4 * i.val - 3) (4 * i.val) (4 * i.val + 1) ⊢ WP c (onBufs (k0_part29 (F := F)) 0#32 1#32 i) Q := by
  have hi := turn_lt i
  unfold onBufs
  rw [k0_part29_eq_skeleton]; unfold k0_part29_skel
  simp only [Prog.lift, Prog.bind_op, Prog.bind_ret, Prog.pure_eq_ret]
  refine wp_cond (Nm X Wt K J c (4 * i.val - 2) (4 * i.val) (4 * i.val + 2)) ?_ (fun h hR => ?_) (fun h => absurd (cond18_all i) h)
  rotate_left
  · refine wp_cond (Nm X Wt K J c (4 * i.val - 2) (4 * i.val) (4 * i.val + 1)) ?_ (fun h hR => ?_) (fun h => ?_)
    · exact n_load (off33_at i) (by omega) (by omega) (by omega) (by omega) (by omega) hR
    · have hc := (cond19_iff i).mp h
      exact n_stored (by omega) (by omega) (by omega) (by omega) (nm_at hR (by omega))
    · have h := mt (cond19_iff i).mpr h
      exact nm_at .rfl (by omega)
  exact n_chunk (off34_at i 0) (by omega) (fun _ _ => rfl) (by omega) (by omega) (by omega) (wp_end (hk _))

set_option maxHeartbeats 2000000 in
theorem part30_run {arg24 v323 : BitVec 32} {Q : _ → sProp 𝕄}
    (hk : ∀ q, Nm X Wt K J c (4 * i.val - 1) (4 * i.val + 2) (4 * i.val + 3) ⊢ Q q) :
    Nm X Wt K J c (4 * i.val - 2) (4 * i.val + 1) (4 * i.val + 2) ⊢ WP c (onBufs (k0_part30 (F := F)) i arg24 v323) Q := by
  have hi := turn_lt i
  unfold onBufs
  rw [k0_part30_eq_skeleton]; unfold k0_part30_skel
  simp only [Prog.lift, Prog.bind_op, Prog.bind_ret, Prog.pure_eq_ret]
  refine wp_cond (Nm X Wt K J c (4 * i.val - 1) (4 * i.val + 1) (4 * i.val + 3)) ?_ (fun h hR => ?_) (fun h => absurd (cond20_all i) h)
  rotate_left
  · refine wp_cond (Nm X Wt K J c (4 * i.val - 1) (4 * i.val + 1) (4 * i.val + 2)) ?_ (fun h hR => ?_) (fun h => ?_)
    · exact n_load (off36_at i) (by omega) (by omega) (by omega) (by omega) (by omega) hR
    · have hc := (cond21_iff i).mp h
      exact n_stored (by omega) (by omega) (by omega) (by omega) (nm_at hR (by omega))
    · have h := mt (cond21_iff i).mpr h
      exact nm_at .rfl (by omega)
  exact n_chunk (off34_at i 1) (by omega) (fun _ _ => rfl) (by omega) (by omega) (by omega) (wp_end (hk _))

set_option maxHeartbeats 2000000 in
theorem part31_run {arg24 v349 v352 : BitVec 32} {Q : _ → sProp 𝕄}
    (hk : ∀ q, Nm X Wt K J c (min (4 * i.val + 1) 60) (4 * i.val + 3) (min (4 * i.val + 5) 64) ⊢ Q q) :
    Nm X Wt K J c (4 * i.val - 1) (4 * i.val + 2) (4 * i.val + 3) ⊢ WP c (onBufs (k0_part31 (F := F)) i arg24 v349 v352) Q := by
  have hi := turn_lt i
  unfold onBufs
  rw [k0_part31_eq_skeleton]; unfold k0_part31_skel
  simp only [Prog.lift, Prog.bind_op, Prog.bind_ret, Prog.pure_eq_ret]
  refine wp_cond (Nm X Wt K J c (4 * i.val) (4 * i.val + 2) (4 * i.val + 4)) ?_ (fun h hR => ?_) (fun h => absurd (cond22_all i) h)
  rotate_left
  · refine wp_cond (Nm X Wt K J c (4 * i.val) (4 * i.val + 2) (4 * i.val + 3)) ?_ (fun h hR => ?_) (fun h => ?_)
    · exact n_load (off38_at i) (by omega) (by omega) (by omega) (by omega) (by omega) hR
    · have hc := (cond23_iff i).mp h
      exact n_stored (by omega) (by omega) (by omega) (by omega) (nm_at hR (by omega))
    · have h := mt (cond23_iff i).mpr h
      exact nm_at .rfl (by omega)
  refine n_chunk (off34_at i 2) (by omega) (fun _ _ => rfl) (by omega) (by omega) (by omega) ?_
  refine wp_cond (Nm X Wt K J c (min (4 * i.val + 1) 60) (4 * i.val + 3) (min (4 * i.val + 5) 64)) (wp_end (hk _)) (fun h hR => ?_) (fun h => ?_)
  · have hc := (cond24_iff i).mp h
    refine wp_cond (Nm X Wt K J c (4 * i.val + 1) (4 * i.val + 3) (4 * i.val + 4)) ?_ (fun h hR => ?_) (fun h => absurd (cond25_all i) h)
    · exact n_load (off40_at i hc) (by omega) (by omega) (by omega) (by omega) (by omega) (nm_at hR (by omega))
    · exact n_stored (by omega) (by omega) (by omega) (by omega) hR
  · have h := mt (cond24_iff i).mpr h
    exact nm_at .rfl (by omega)

/-- The invariant at the start of turn `i`. -/
abbrev atTurn (X : Dev nD → Vec F S1024x2048 .f32) (Wt : Dev nD → Vec F S2048x16384 .f32) (K : Dev nD × Ky → ℕ) (J : Dev nD × (Bool × Fin 4) → ℕ) (c : Dev nD) (i : ℕ) : sProp 𝕄 :=
  Nm X Wt K J c (min (4 * i - 3) 60) (4 * i) (min (4 * i + 1) 64)

set_option maxHeartbeats 2000000 in
/-- One turn of the last loop. -/
theorem turn_run {v2 v8 v9 v253 c1 : BitVec 32} {q : Unit} :
    atTurn X Wt K J c i.val ⊢ WP c (onBufs (k0_t2_body (F := F)) c v2 v8 v9 v253 c1 i q) (fun _ => atTurn X Wt K J c (i.val + 1)) := by
  have hi := turn_lt i
  unfold onBufs k0_t2_body
  simp only [Prog.lift, Prog.bind_op, Prog.bind_ret, Prog.pure_eq_ret]
  refine .trans (show _ ⊢ Nm X Wt K J c (4 * i.val - 3) (4 * i.val) (4 * i.val + 1) from nm_at .rfl (by omega)) ?_
  refine wp_seq (part29_run fun q => ?_)
  refine wp_seq (part30_run fun q => ?_)
  refine wp_seq (part31_run fun q => ?_)
  exact n_chunk (off34_at i 3) (by omega) (fun _ _ => rfl) (by omega) (by omega) (by omega) (wp_end (nm_at .rfl (by omega)))

end Cert.Proof.Run

end
-- ==== Proof.Last.lean ====
/-
The end of the exchange: what the last phase needs, and what is done with.
-/
module

public import proofs.«01_k».proof.Proof.Pieces
public import proofs.«01_k».proof.Proof.Epi
public import proofs.«01_k».proof.Proof.Turn

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-- What a program does not touch stays. -/
theorem wp_carry {α : Type} {p : Prog (TpuEff nD τ sig (Elt F) Λ₀ .tc) α} {P S R : sProp 𝕄} {Q : α → sProp 𝕄}
    (h : P ⊢ WP c p (fun _ => S)) (hk : ∀ q, iprop(S ∗ R) ⊢ Q q) : iprop(P ∗ R) ⊢ WP c p Q := by
  refine .trans (show iprop(P ∗ R) ⊢ iprop(WP c p (fun _ => S) ∗ R) from ?_)
    (.trans (wp_frame_r frame (wpE (defs₀ (F := F)) Variants.none (c : Thread nD τ) none) Set.univ) (wp_mono _ _ _ fun q => hk q))
  iintro ⟨HP, HR⟩
  isplitl [HP]
  · iapply h; iexact HP
  · iexact HR

theorem ico_shift (k n : ℕ) (Φ : ℕ → sProp 𝕄) : bigSep (Finset.Ico k (k + n)) Φ = bigSep (Finset.range n) (fun u => Φ (k + u)) := by
  rw [← bigSep_renamed (fun u => k + u) Φ (Finset.range n) fun a _ b _ h => Nat.add_left_cancel h]
  congr 1
  ext i
  rw [Finset.mem_Ico, Finset.mem_image]
  exact ⟨fun h => ⟨i - k, Finset.mem_range.mpr (by omega), by omega⟩, fun ⟨u, hu, he⟩ => by
    have := Finset.mem_range.mp hu; omega⟩

theorem pair_out (S : Finset ℕ) (Φ Ψ : ℕ → sProp 𝕄) : bigSep S (fun t => iprop(Φ t ∗ Ψ t)) ⊢ iprop(bigSep S Φ ∗ bigSep S Ψ) := by
  rw [← bigSep_sep']
theorem pair_in (S : Finset ℕ) (Φ Ψ : ℕ → sProp 𝕄) : iprop(bigSep S Φ ∗ bigSep S Ψ) ⊢ bigSep S (fun t => iprop(Φ t ∗ Ψ t)) := by
  rw [← bigSep_sep']

theorem range_app (a b : ℕ) (h : a ≤ b) (Φ : ℕ → sProp 𝕄) :
    iprop(bigSep (Finset.range a) Φ ∗ bigSep (Finset.Ico a b) Φ) ⊢ bigSep (Finset.range b) Φ := by
  have hu : Finset.range b = Finset.range a ∪ Finset.Ico a b := by
    ext i; rw [Finset.mem_union, Finset.mem_range, Finset.mem_range, Finset.mem_Ico]; omega
  rw [hu, bigSep_union (Finset.disjoint_left.mpr fun i h1 h2 => by
    rw [Finset.mem_range] at h1; rw [Finset.mem_Ico] at h2; omega)]
  exact .rfl

/-! ## The end of the exchange -/

/-- A channel's cells when all is sent, received and stored. -/
def ChEnd (b : Bool) (c : Dev nD) : sProp 𝕄 :=
  iprop(bigSep (Finset.Ico 16 20) (fun u => atPos ER (sdC b c u) (u / 4) ∅ 0) ∗ atPos ER (crC b c) 1 ∅ 0
    ∗ bigSep (Finset.Ico 16 20) (rvPos c b) ∗ bigSep (Finset.Ico 16 20) (stV c b))

/-- What the last phase does not need. -/
def Gone (X : Dev nD → Vec F S1024x2048 .f32) (Wt : Dev nD → Vec F S2048x16384 .f32) (c : Dev nD) : sProp 𝕄 :=
  iprop(owns (c : Thread nD τ) xM fullShare (X c) ∗ owns (c : Thread nD τ) wM fullShare (Wt c) ∗ raw c wbM ∗ raw c ebM ∗ raw c xrM
    ∗ bigSep (Finset.Ico 32 34) (wdV c) ∗ bigSep (Finset.Ico 32 34) (esV c) ∗ ChEnd false c ∗ ChEnd true c)

theorem ch_end {b : Bool} : Ch X Wt c b ⟨16, 16, 12, 16, 16, 16, 12⟩
    ⊢ iprop(ChEnd b c ∗ bigSep (Finset.range 16) (oGot X Wt c b)) := by
  unfold Ch Snd Crd Rcv Rst ChEnd crPos
  rw [if_neg (show ¬ (12 < 12) by omega)]
  iintro ⟨⟨Hs, -, -⟩, ⟨-, Hc, -⟩, ⟨Hr, -, -⟩, -, -, Hv, -, Hg⟩
  ihave Hs := (pair_out (Finset.Ico 16 20) (fun u => atPos ER (sdC b c u) (u / 4) ∅ 0) (fun u => reached ER (sdC b c u) (u / 4))) $$ Hs
  icases Hs with ⟨Hs, -⟩
  isplitr [Hg]
  · isplitl [Hs]; · iexact Hs
    isplitl [Hc]; · iexact Hc
    isplitl [Hr] <;> iassumption
  · iexact Hg

/-- A landing buffer's slots at the end. -/
theorem slots_end {b : Bool} : iprop(bigSep (Finset.Ico 12 16) (Rown X Wt b c qL) ∗ bigSep (Finset.Ico 12 16) (Rown X Wt b c qR))
    ⊢ bigSep (Finset.range 4) (fun u => raw c (rS b u)) := by
  refine .trans (pair_in (Finset.Ico 12 (12 + 4)) (Rown X Wt b c qL) (Rown X Wt b c qR)) ?_
  rw [ico_shift 12 4]
  refine bigSep_mono fun u _ => ?_
  have h1 : iprop(Rown X Wt b c qL (12 + u) ∗ Rown X Wt b c qR (12 + u)) ⊢ owns (c : Thread nD τ) (rS b (12 + u)) fullShare (RV X Wt b c (12 + u)) :=
    by
    iintro ⟨HA, HB⟩
    iapply (owns_halves (c : Thread nD τ) (rS b (12 + u)) fullShare (RV X Wt b c (12 + u))).2
    isplitl [HA] <;> iassumption
  refine h1.trans (.trans raw_intro (Entails.of_eq ?_))
  exact congrArg (fun m => (raw c m : sProp 𝕄)) (rAt_congr b (show (12 + u) % 4 = u % 4 by omega) (r_inb (12 + u)) (r_inb u))

theorem w_end : CW Wt c ⟨32, 32, 32⟩ ⊢ iprop(owns (c : Thread nD τ) wM fullShare (Wt c) ∗ raw c wbM ∗ bigSep (Finset.Ico 32 34) (wdV c)) := by
  unfold CW
  rw [by_jof c (fun j => owns (c : Thread nD τ) (wC j) fullShare (wch Wt c j))]
  iintro ⟨-, -, Hf, Hw, -⟩
  ihave Hf := (pair_out (Finset.Ico 32 34) (fun t => raw c (wbS t)) (wdV c)) $$ Hf
  icases Hf with ⟨Hb, Hv⟩
  ihave Hb := (Entails.of_eq (ico_shift 32 2 (fun t => (raw c (wbS t) : sProp 𝕄)))) $$ Hb
  isplitl [Hw]; · iapply (w_glue c Wt) $$ Hw
  isplitl [Hb]
  · iapply (wb_glue (F := F) c)
    iapply (show bigSep (Finset.range 2) (fun u => raw c (wbS (32 + u))) ⊢ (bigSep (Finset.range 2) (fun u => raw c (wbS u)) : sProp 𝕄) from
      bigSep_mono fun u _ => Entails.of_eq (congrArg (fun m => (raw c m : sProp 𝕄)) (wbAt_congr (show (32 + u) % 2 = u % 2 by omega) (wb_inb (32 + u)) (wb_inb u)))) $$ Hb
  · iexact Hv

theorem e_end : CE X Wt c ⟨32, 32, 32⟩ ⊢ iprop(raw c ebM ∗ bigSep (Finset.Ico 32 34) (esV c)) := by
  unfold CE
  iintro ⟨-, -, Hf, -⟩
  ihave Hf := (pair_out (Finset.Ico 32 34) (fun t => raw c (ebS t)) (esV c)) $$ Hf
  icases Hf with ⟨Hb, Hv⟩
  ihave Hb := (Entails.of_eq (ico_shift 32 2 (fun t => (raw c (ebS t) : sProp 𝕄)))) $$ Hb
  isplitl [Hb]
  · iapply (eb_glue (F := F) c)
    iapply (show bigSep (Finset.range 2) (fun u => raw c (ebS (32 + u))) ⊢ (bigSep (Finset.range 2) (fun u => raw c (ebS u)) : sProp 𝕄) from
      bigSep_mono fun u _ => Entails.of_eq (congrArg (fun m => (raw c m : sProp 𝕄)) (ebAt_congr (show (32 + u) % 2 = u % 2 by omega) (eb_inb (32 + u)) (eb_inb u)))) $$ Hb
  · iexact Hv

theorem o_end : iprop((bigSep (Finset.range 16) (Oown X Wt c) ∗ bigSep (Finset.Ico 16 32) (Oown X Wt c))
      ∗ bigSep (Finset.range 16) (oGot X Wt c false) ∗ bigSep (Finset.range 16) (oGot X Wt c true))
    ⊢ bigSep (Finset.Ico 0 64) (nOwn X Wt c) := by
  rw [← Finset.range_eq_Ico, by_gof c (nOwn X Wt c)]
  iintro ⟨Ho, Hf, Ht⟩
  isplitl [Ho]
  · ihave Ho := (range_app 16 32 (by omega) (Oown X Wt c)) $$ Ho
    iapply (show bigSep (Finset.range 32) (Oown X Wt c) ⊢ bigSep (Finset.range 32) (fun t => nOwn X Wt c (gof c t)) from
      bigSep_mono fun t _ => Entails.of_eq (congrArg (owns (c : Thread nD τ) (oC (gof c t)) fullShare) (OV_gof X Wt c t).symm)) $$ Ho
  isplitl [Hf]
  · iapply (show bigSep (Finset.range 16) (oGot X Wt c false) ⊢ bigSep (Finset.range 16) (fun t => nOwn X Wt c (gst false c t)) from
      bigSep_mono fun t ht => Entails.of_eq (congrArg (owns (c : Thread nD τ) (oC (gst false c t)) fullShare) (OV_gst X Wt false c t (Finset.mem_range.mp ht)).symm)) $$ Hf
  · iapply (show bigSep (Finset.range 16) (oGot X Wt c true) ⊢ bigSep (Finset.range 16) (fun t => nOwn X Wt c (gst true c t)) from
      bigSep_mono fun t ht => Entails.of_eq (congrArg (owns (c : Thread nD τ) (oC (gst true c t)) fullShare) (OV_gst X Wt true c t (Finset.mem_range.mp ht)).symm)) $$ Ht

/-- What the last phase starts from, besides the sums' exchange. -/
def Ready (X : Dev nD → Vec F S1024x2048 .f32) (Wt : Dev nD → Vec F S2048x16384 .f32) (K : Dev nD × Ky → ℕ) (J : Dev nD × (Bool × Fin 4) → ℕ) (c : Dev nD) : sProp 𝕄 :=
  iprop(Env X Wt K J ∗ Ow c (owS c) ∗ owns (c : Thread nD τ) sM fullShare (SV X Wt c 32) ∗ raw c ivM
    ∗ bigSep (Finset.range 4) (nRaw c) ∗ bigSep (Finset.Ico 0 64) (nOwn X Wt c))

theorem final_split : St X Wt K J c ⟨32, 32, 32⟩ ⟨32, 32, 32⟩ ⟨16, 16, 12, 16, 16, 16, 12⟩ ⟨16, 16, 12, 16, 16, 16, 12⟩ 32
    ⊢ iprop(Ready X Wt K J c ∗ Gone X Wt c) := by
  unfold St COwn LandL LandY LandX CS Ready Gone
  rw [owM_end]
  iintro ⟨HE, HO, HW, HEb, HOw, HCf, HCt, ⟨HLf, -⟩, ⟨HLt, -⟩, ⟨HRf, -⟩, HRt, Hx, Hs, Hi⟩
  ihave HW := (w_end (F := F)) $$ HW
  icases HW with ⟨Hw, Hwb, Hwv⟩
  ihave HEb := (e_end (F := F)) $$ HEb
  icases HEb with ⟨Heb, Hev⟩
  ihave HCf := (ch_end (F := F)) $$ HCf
  icases HCf with ⟨HCf, Hgf⟩
  ihave HCt := (ch_end (F := F)) $$ HCt
  icases HCt with ⟨HCt, Hgt⟩
  ihave Hyr := (slots_end (F := F) (X := X) (Wt := Wt) (c := c) (b := false)) $$ [HLf HRf]
  · isplitl [HLf] <;> iassumption
  ihave Hxr := (slots_end (F := F) (X := X) (Wt := Wt) (c := c) (b := true)) $$ [HLt HRt]
  · isplitl [HLt] <;> iassumption
  ihave Hxr := (r_glue (F := F) c true) $$ Hxr
  ihave Ho := (o_end (F := F) (X := X) (Wt := Wt) (c := c)) $$ [HOw Hgf Hgt]
  · isplitl [HOw]; · iexact HOw
    isplitl [Hgf] <;> iassumption
  isplitl [HE HO Hs Hi Hyr Ho]
  · isplitl [HE]; · iexact HE
    isplitl [HO]; · iexact HO
    isplitl [Hs]; · iexact Hs
    isplitl [Hi]; · iexact Hi
    isplitl [Hyr] <;> iassumption
  isplitl [Hx]; · iexact Hx
  isplitl [Hw]; · iexact Hw
  isplitl [Hwb]; · iexact Hwb
  isplitl [Heb]; · iexact Heb
  isplitl [Hxr]; · iexact Hxr
  isplitl [Hwv]; · iexact Hwv
  isplitl [Hev]; · iexact Hev
  isplitl [HCf] <;> iassumption

end Cert.Proof.Run

end
-- ==== Proof.Sums.lean ====
/-
The last phase: the devices swap their row sums and scale the result in place.
-/
module

public import proofs.«01_k».proof.Proof.Last

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-! ## The sums' exchange and the last loop -/

/-- The exchange's cells and columns when it is over. -/
def Summed (c : Dev nD) : sProp 𝕄 := iprop(atPos ER (ssC c) 1 ∅ 0 ∗ atPos ER (srC c) 1 ∅ 0 ∗ raw c sM ∗ raw c soM)

/-- A device's row sums sent to its peer. -/
theorem sum_send {n : Dev nD} (hn : n = py c) {hsc : soM.view.ref.isScScratch = false} {hsrc : sM.view.WordExact} {hdst : soM.view.WordExact}
    {hsem : DmaTarget.Typed .vmem (.dma srS) (.remote (n : Thread nD τ) soM (.dma ssS) hsc)} {α : Type}
    {k : PUnit → Prog (TpuEff nD τ sig (Elt F) Λ₀ .tc) α} {Q : α → sProp 𝕄} :
    iprop(cellInv ER (Rd X Wt) (K (c, kSs)) (ssC c) ∗ cellInv ER (Rd X Wt) (K (py c, kSr)) (srC (py c))
        ∗ owns (c : Thread nD τ) sM fullShare (SV X Wt c 32) ∗ raw (py c) soM ∗ Ow c (owS c)
        ∗ dutyTok ER (ssC c) 0 0 ∗ reached ER (ssC c) 0 ∗ dutyTok ER (srC (py c)) 0 0 ∗ reached ER (srC (py c)) 0)
      ⊢ iprop((iprop(cred (tallyAt (ssC c) 0 NS) ∗ Ow c 0) -∗ WP c (k ⟨⟩) Q)
        -∗ WP c (.op (.enqueueDma sM (.remote (n : Thread nD τ) soM (.dma ssS) hsc) (.dma srS) hsrc hdst hsem) k) Q) := by
  subst hn
  exact own_send (X := X) (Wt := Wt) (c := c) (c' := py c) (r₁ := 0) (r₂ := 0) (ι := 100) (N := NS) (O := 0)
    (duties_ss X Wt c) (duties_sr X Wt (py c)) (soM_amount _) (amount_ss X Wt c 0) (amount_sr X Wt (py c) 0) (by rw [zero_add]; rfl)
    (Entails.of_eq (payload_ss X Wt c 0).symm) (Entails.of_eq (by rw [payload_sr, py_py]))

set_option maxHeartbeats 2000000 in
theorem part41_run {v2 v8 v9 v253 c1 : BitVec 32} :
    iprop(Ready X Wt K J c ∗ CX c ∗ bigSep (Finset.Ico 0 4) (psV c) ∗ bigSep (Finset.Ico 0 4) (plV c))
      ⊢ WP c (onBufs (k0_part41 (F := F)) c v2 v8 v9 v253 c1) (fun _ => iprop(Nm X Wt K J c 60 64 64 ∗ Summed c)) := by
  unfold onBufs
  rw [k0_part41_eq_skeleton]; unfold k0_part41_skel
  simp only [Prog.lift, Prog.bind_op, Prog.bind_ret, Prog.pure_eq_ret]
  unfold Ready CX
  iintro ⟨⟨#HE, HO, Hs, Hi, Hr, Hn⟩, ⟨Hss, Hsr, Hts, Htr, Hqs, Hqr, Hcr, Hso⟩, Hps, Hpl⟩
  ihave HI1 := (Env_ss X Wt K J c) $$ HE
  ihave HI2 := (Env_sr X Wt K J (py c)) $$ HE
  iapply (sum_send (X := X) (Wt := Wt) (K := K) (c := c) (Fin.ext (k0_dev20_eq c))) $$ [HI1 HI2 Hs Hso HO Hts Hqs Htr Hqr]
  · isplitl [HI1]; · iexact HI1
    isplitl [HI2]; · iexact HI2
    isplitl [Hs]; · iexact Hs
    isplitl [Hso]; · iexact Hso
    isplitl [HO]; · iexact HO
    isplitl [Hts]; · iexact Hts
    isplitl [Hqs]; · iexact Hqs
    isplitl [Htr] <;> iassumption
  iintro ⟨Hcs, HO⟩
  ihave HI1 := (Env_ss X Wt K J c) $$ HE
  ihave HM := (may_none (X := X) (Wt := Wt) (K := K) (J := J) (c := c) (sm := .dma ssS)) $$ HE
  iapply (rest_wait (X := X) (Wt := Wt) (c := c) (κ := K (c, kSs)) (sm := .dma ssS) (k' := NS) (ι := 0) (O := 0) (R := 0)
    (fun K' => by rw [wpE_waitDma2_eq Variants.none (c : Thread nD τ) none Set.univ, soM_credit]) (expect_ss X Wt c).symm (duties_ss X Wt c)) $$ [HI1 Hcs HO HM Hss]
  · isplitl [HI1]; · iexact HI1
    isplitl [Hcs]; · iexact Hcs
    isplitl [HO]; · iexact HO
    isplitl [HM] <;> iassumption
  iintro ⟨HO, Hss, -, Hs⟩
  ihave Hs := (Entails.of_eq (payload_ss X Wt c 0)) $$ Hs
  ihave HI2 := (Env_sr X Wt K J c) $$ HE
  ihave HM := (show Env X Wt K J ⊢ MayWait (c : Thread nD τ) (.dma srS) 100 0 from by rw [MayWait_zero]; iintro -; iempintro) $$ HE
  iapply (rest_wait (X := X) (Wt := Wt) (c := c) (κ := K (c, kSr)) (sm := .dma srS) (k' := NS) (ι := 100) (O := 0) (R := 0)
    (fun K' => by rw [wpE_waitDma2_eq Variants.none (c : Thread nD τ) none Set.univ, sM_credit]) (expect_sr X Wt c).symm (duties_sr X Wt c)) $$ [HI2 Hcr HO HM Hsr]
  · isplitl [HI2]; · iexact HI2
    isplitl [Hcr]; · iexact Hcr
    isplitl [HO]; · iexact HO
    isplitl [HM] <;> iassumption
  iintro ⟨HO, Hsr, -, Hso⟩
  ihave Hso := (Entails.of_eq (payload_sr X Wt c 0)) $$ Hso
  iapply (own_load_all (by decide)) $$ [Hs]; · iexact Hs
  iintro Hs
  iapply (own_load_all (by decide)) $$ [Hso]; · iexact Hso
  iintro Hso
  ihave Hi := (show (raw c ivM : sProp 𝕄) ⊢ iprop(∃ Y, owns (c : Thread nD τ) ivM fullShare Y) from by unfold raw; exact .rfl) $$ Hi
  icases Hi with ⟨%Y, Hi⟩
  iapply (own_load_all (by decide)) $$ [Hi]; · iexact Hi
  iintro Hi
  ihave Hi := raw_intro $$ Hi
  iapply (own_store_all (by decide)) $$ [Hi]; · iexact Hi
  iintro Hi
  have hmain : ∀ {p : Prog (TpuEff nD τ sig (Elt F) Λ₀ .tc) PUnit}, (Nm X Wt K J c 0 0 0 ⊢ WP c p (fun _ => Nm X Wt K J c 60 64 64)) →
      iprop(Nm X Wt K J c 0 0 0 ∗ Summed c) ⊢ WP c p (fun _ => iprop(Nm X Wt K J c 60 64 64 ∗ Summed c)) :=
    fun h => wp_carry h fun _ => .rfl
  iapply (hmain ?_) $$ [HO Hss Hsr Hs Hso Hi Hr Hn Hps Hpl]
  · refine n_load (by rfl) (by omega) (by omega) (by omega) (by omega) (by omega) ?_
    refine .trans (show _ ⊢ atTurn X Wt K J c 0 from nm_at .rfl (by omega)) ?_
    refine wp_seq ?_
    refine .trans ?_ (Scf.wp_for _ _ _ k0_t2_loop.lb k0_t2_loop.ub k0_t2_loop.st k0_t2_ok PUnit.unit _ (fun i _ => atTurn X Wt K J c i) (fun i _ => ?_))
    rotate_left
    · exact turn_run
    iintro H
    isplitl [H]; · iexact H
    iintro %q
    have hend : atTurn X Wt K J c (Scf.trips k0_t2_loop.lb k0_t2_loop.ub k0_t2_loop.st) ⊢ Nm X Wt K J c 60 64 64 := by
      rw [show Scf.trips k0_t2_loop.lb k0_t2_loop.ub k0_t2_loop.st = 16 by decide]
      exact nm_at .rfl (by omega)
    iintro H
    iapply (wp_end (c := c) hend)
    iexact H
  · unfold Nm Summed
    isplitr [Hss Hsr Hs Hso]
    · isplitr; · iexact HE
      isplitl [HO]; · iexact HO
      isplitl [Hi]; · iexact Hi
      isplitr; · iapply (ico_empty 0 (psFly X Wt c)); iempintro
      isplitr; · iapply (ico_empty 0 (plFly X Wt c)); iempintro
      isplitl [Hr]; · rw [← Finset.range_eq_Ico]; iexact Hr
      isplitl [Hps]; · iexact Hps
      isplitl [Hpl]; · iexact Hpl
      isplitr; · rw [Finset.range_eq_Ico]; iapply (ico_empty 0 (nDone X Wt c)); iempintro
      iexact Hn
    · isplitl [Hss]; · iexact Hss
      isplitl [Hsr]; · iexact Hsr
      isplitl [Hs]
      · iapply raw_intro $$ Hs
      · iapply raw_intro $$ Hso

end Cert.Proof.Run

end
-- ==== Proof.Pro.lean ====
/-
The first phase: every device tells its two neighbours that it is ready, with what they need of it.
-/
module

public import proofs.«01_k».proof.Proof.Sums

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-! ## The start -/

/-- A fact every member may use. -/
theorem bigSep_using {S : Finset ℕ} {R : sProp 𝕄} [BI.Persistent R] {Φ Ψ : ℕ → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The barrier's ghost state: the device's own round and its two neighbours' duties. -/
def Bar (c : Dev nD) : sProp 𝕄 :=
  iprop(atPos ER (barC c) 0 ∅ 0 ∗ cred (tallyAt (barC c) 1 2) ∗ dutyTok ER (barC (py c)) 0 0 ∗ reached ER (barC (py c)) 0
    ∗ dutyTok ER (barC (px c)) 0 1 ∗ reached ER (barC (px c)) 0)

/-- A landing slot before its first use. -/
abbrev slot0 (c : Dev nD) (b : Bool) (u : ℕ) : sProp 𝕄 := iprop(readerAt ES (skey b c u) 0 ∗ raw c (rS b u))

/-- A channel's state at the start. -/
def ChStart (b : Bool) (c : Dev nD) : sProp 𝕄 :=
  iprop((bigSep (Finset.Ico 0 4) (sdPos c b) ∗ bigSep (Finset.Ico 0 16) (sdTok c b))
    ∗ (bigSep (Finset.Ico 0 12) (crCred c b) ∗ atPos ER (crC b c) 0 ∅ 0)
    ∗ (bigSep (Finset.Ico 0 4) (rvPos c b) ∗ bigSep (Finset.range 4) (rvOpen c b) ∗ bigSep (Finset.Ico 0 16) (rvCred c b))
    ∗ (bigSep (Finset.range 4) (slot0 c b) ∗ bigSep (Finset.Ico 0 12) (crTok c b) ∗ reached ER (crC b (pc b c)) 0)
    ∗ bigSep (Finset.Ico 0 4) (stV c b) ∗ bigSep (Finset.Ico 0 16) (oGap c b))

/-- What the exchange of the sums starts from, without the neighbour's buffer. -/
def CX0 (c : Dev nD) : sProp 𝕄 :=
  iprop(atPos ER (ssC c) 0 ∅ 0 ∗ atPos ER (srC c) 0 ∅ 0 ∗ dutyTok ER (ssC c) 0 0 ∗ dutyTok ER (srC (py c)) 0 0
    ∗ reached ER (ssC c) 0 ∗ reached ER (srC (py c)) 0 ∗ cred (tallyAt (srC c) 100 NS))

/-- The last loop's semaphores. -/
def LastV (c : Dev nD) : sProp 𝕄 := iprop(bigSep (Finset.Ico 0 4) (psV c) ∗ bigSep (Finset.Ico 0 4) (plV c))

def Start (X : Dev nD → Vec F S1024x2048 .f32) (Wt : Dev nD → Vec F S2048x16384 .f32) (K : Dev nD × Ky → ℕ) (J : Dev nD × (Bool × Fin 4) → ℕ) (c : Dev nD) : sProp 𝕄 :=
  iprop(Env X Wt K J ∗ Ow c (owM c 0 0 0 0 + owB c true + owB c false) ∗ Bar c ∗ ChStart false c ∗ ChStart true c ∗ raw c soM ∗ raw c sM
    ∗ owns (c : Thread nD τ) xM fullShare (X c) ∗ raw c ivM ∗ CW Wt c ⟨0, 0, 0⟩ ∗ CE X Wt c ⟨0, 0, 0⟩)

/-- The slots are declared free for their first use. -/
theorem deposit {b : Bool} : iprop(Env X Wt K J ∗ bigSep (Finset.range 4) (slot0 c b))
    ⊢ |={Set.univ}=> (bigSep (Finset.range 4) (rdr (F := F) c b) ∗ bigSep (Finset.range 4) (rlsd c b)) := by
  refine .trans (bigSep_using (Ψ := fun u => iprop(|={Set.univ}=> (rdr (F := F) c b u ∗ rlsd c b u))) fun u hu => ?_)
    ((bigSep_fupd _ _).trans (BI.fupd_mono (pair_out _ _ _)))
  have hu : u / 4 + 1 = 1 := by have := Finset.mem_range.mp hu; omega
  unfold rdr rlsd
  rw [hu]
  iintro ⟨#HE, Hr, Hw⟩
  ihave HJ := (Env_slot X Wt K J b c u) $$ HE
  iapply (free_slot (J := J) (c := c) (b := b) (u := u) (n := 0))
  isplitl [HJ]; · iexact HJ
  isplitl [Hr] <;> iassumption

/-- What a channel keeps of its start when its slots are free and the neighbour's are. -/
def ChMid (b : Bool) (c : Dev nD) : sProp 𝕄 :=
  iprop((bigSep (Finset.Ico 0 4) (sdPos c b) ∗ bigSep (Finset.Ico 0 16) (sdTok c b))
    ∗ (bigSep (Finset.Ico 0 12) (crCred c b) ∗ atPos ER (crC b c) 0 ∅ 0)
    ∗ (bigSep (Finset.Ico 0 4) (rvPos c b) ∗ bigSep (Finset.range 4) (rvOpen c b) ∗ bigSep (Finset.Ico 0 16) (rvCred c b))
    ∗ (bigSep (Finset.range 4) (rdr c b) ∗ bigSep (Finset.range 4) (rlsd c b) ∗ bigSep (Finset.Ico 0 12) (crTok c b) ∗ reached ER (crC b (pc b c)) 0)
    ∗ bigSep (Finset.Ico 0 4) (stV c b) ∗ bigSep (Finset.Ico 0 16) (oGap c b))

theorem ch_open {b : Bool} : iprop(Env X Wt K J ∗ ChStart b c) ⊢ |={Set.univ}=> (ChMid (F := F) b c ∗ Perm b c 4) := by
  unfold ChStart ChMid
  iintro ⟨#HE, H1, H2, ⟨Hp, #Ho, Hc⟩, ⟨Hs, Ht, Hr⟩, H5⟩
  imod (deposit (X := X) (Wt := Wt) (K := K) (J := J) (c := c) (b := b)) $$ [Hs] with ⟨Hd, #Hl⟩
  · isplitr; · iexact HE
    iexact Hs
  imodintro
  isplitl [H1 H2 Hp Hc Hd Ht Hr H5]
  · isplitl [H1]; · iexact H1
    isplitl [H2]; · iexact H2
    isplitl [Hp Hc]
    · isplitl [Hp]; · iexact Hp
      isplitr; · iexact Ho
      iexact Hc
    isplitl [Hd Ht Hr]
    · isplitl [Hd]; · iexact Hd
      isplitr; · iexact Hl
      isplitl [Ht] <;> iassumption
    iexact H5
  · unfold Perm
    iapply (pair_in (Finset.range 4) (rlsd (F := F) c b) (rvOpen c b))
    isplitr; · iexact Hl
    iexact Ho

theorem ch_first {b : Bool} : iprop(ChMid b c ∗ Perm b (pc b c) 4) ⊢ Ch X Wt c b ⟨0, 0, 0, 0, 0, 0, 0⟩ := by
  unfold ChMid Ch Snd Crd Rcv Rel Rst crPos
  rw [if_pos (show 0 < 12 by omega)]
  iintro ⟨⟨⟨Hsp, Hst⟩, ⟨Hcc, Hcp⟩, ⟨Hrp, Hro, Hrc⟩, ⟨Hd, Hl, Ht, Hr⟩, Hv, Hg⟩, HP⟩
  isplitl [Hsp Hst]
  · isplitl [Hsp]; · iexact Hsp
    isplitr; · iapply (ico_empty 0 (sdCred (F := F) c b)); iempintro
    iexact Hst
  isplitl [Hcc Hcp HP]
  · isplitl [Hcc]; · iexact Hcc
    isplitr [HP]
    · iexists ∅
      isplitr; · ipureintro; exact ⟨Finset.empty_subset _, Nat.zero_le _⟩
      isplitl [Hcp]; · iexact Hcp
      rw [bigSep_empty]; iempintro
    iexact HP
  isplitl [Hrp Hro Hrc]
  · isplitl [Hrp]; · iexact Hrp
    isplitl [Hro] <;> iassumption
  isplitl [Hd Hl Ht Hr]
  · isplitl [Hd]; · iexact Hd
    isplitl [Hl]; · iexact Hl
    isplitl [Ht] <;> iassumption
  isplitr; · iapply (ico_empty 0 (stFly X Wt c b)); iempintro
  isplitl [Hv]; · iexact Hv
  isplitl [Hg]; · iexact Hg
  rw [Finset.range_zero, bigSep_empty]; iempintro

/-- A signal to a neighbour's barrier: what the neighbour will need of this device goes with it. -/
theorem bar_signal {b : Bool} {n : Dev nD} {i : ℕ} {O : CellTallies nD τ sig ℕ} {α : Type} {k : PUnit → Prog (TpuEff nD τ sig (Elt F) Λ₀ .tc) α} {Q : α → sProp 𝕄}
    (hn : n = pc b c) (hi : i = 1) :
    iprop(Env X Wt K J ∗ Ow c (O + owB c b) ∗ dutyTok ER (barC (pc b c)) 0 (if b then 1 else 0) ∗ reached ER (barC (pc b c)) 0 ∗ barPay b (pc b c))
      ⊢ iprop((Ow c O -∗ WP c (k ⟨⟩) Q) -∗ WP c (.op (.semSignal (n : Thread nD τ) barS i) k) Q) := by
  subst hn hi
  unfold Ow
  iintro ⟨#HE, ⟨%W, HO⟩, Ht, Hr, Hp⟩ Hk
  ihave HI := (Env_bar X Wt K J (pc b c)) $$ HE
  iapply (Rounds.wp_signal Variants.none ER (Rd X Wt) (c : Thread nD τ) none (dst := (pc b c : Thread nD τ)) (κ := K (pc b c, kBar)) (r := 0)
      (d := if b then 1 else 0) (by rw [duties_bar]; cases b <;> decide) (amount_bar X Wt (pc b c) _) 1 O rfl) $$ [HI HO Ht Hr Hp]
  · isplitl [HI]; · iexact HI
    isplitl [HO]; · iexact HO
    isplitl [Ht]; · iexact Ht
    isplitl [Hp]
    · rw [payload_bar]; iexact Hp
    iexact Hr
  iintro HO
  iapply Hk
  iexists W
  iexact HO

/-- The wait for both neighbours. -/
theorem bar_wait {i : ℕ} {α : Type} {k : PUnit → Prog (TpuEff nD τ sig (Elt F) Λ₀ .tc) α} {Q : α → sProp 𝕄} (hi : i = 2) :
    iprop(Env X Wt K J ∗ Ow c (owM c 0 0 0 0) ∗ cred (tallyAt (barC c) 1 2) ∗ atPos ER (barC c) 0 ∅ 0)
      ⊢ iprop((iprop(Ow c (owM c 0 0 0 0) ∗ atPos ER (barC c) 1 ∅ 0 ∗ barPay false c ∗ barPay true c) -∗ WP c (k ⟨⟩) Q)
        -∗ WP c (.op (.semWait barS i) k) Q) := by
  subst hi
  unfold Ow
  iintro ⟨#HE, ⟨%W, HO⟩, Hc, Hat⟩ Hk
  ihave HI := (Env_bar X Wt K J c) $$ HE
  ihave HM := (mayE (X := X) (Wt := Wt) (K := K) (J := J) (c := c) (ys := 0) (xs := 0) (yl := 0) (xl := 0) (ι := 1) (sm := .reg barS)
    (by omega) (by omega) (by omega) (by omega) (by omega)) $$ HE
  iapply (Rounds.wp_wait_rest_token Variants.none ER (Rd X Wt) (c : Thread nD τ) none (κ := K (c, kBar)) (sm := .reg barS)
    (wpE_semWait_eq Variants.none (c : Thread nD τ) none Set.univ) (Set.mem_univ _) 1 (O := owM c 0 0 0 0) (W := W) (R := 0) (m := 0) (T := ∅)
      (expect_bar X Wt c).symm) $$ [HI Hc HO HM Hat]
  · isplitl [HI]; · iexact HI
    isplitl [Hc]; · iexact Hc
    isplitl [HO]; · iexact HO
    isplitl [HM] <;> iassumption
  iintro ⟨HO, Hat, -, Hp⟩
  ihave Hp := (show bigSep ((Rd X Wt).duties (barC c) 0 \ ∅) (fun d => (Rd X Wt).payload (barC c) 0 d) ⊢ iprop(barPay (F := F) false c ∗ barPay true c) from by
    rw [duties_bar, Finset.sdiff_empty, bigSep_insert (by decide), bigSep_singleton]
    exact Entails.of_eq (congrArg₂ (fun A B : sProp 𝕄 => iprop(A ∗ B)) (payload_bar X Wt c false) (payload_bar X Wt c true))) $$ Hp
  iapply Hk
  isplitl [HO]; · iexists _; iexact HO
  isplitl [Hat]; · iexact Hat
  iexact Hp

/-- The first phase's end: the state the loop starts from, the exchange of the sums, the barrier's own cell. -/
def Begun (X : Dev nD → Vec F S1024x2048 .f32) (Wt : Dev nD → Vec F S2048x16384 .f32) (K : Dev nD × Ky → ℕ) (J : Dev nD × (Bool × Fin 4) → ℕ) (c : Dev nD) : sProp 𝕄 :=
  iprop(Mid X Wt K J c ∗ CX c ∗ atPos ER (barC c) 1 ∅ 0 ∗ LastV c)

/-- Both barrier signals and the wait. -/
theorem handshake {n n' : Dev nD} {i i' j : ℕ} {α : Type} {p : Prog (TpuEff nD τ sig (Elt F) Λ₀ .tc) α} {Q : α → sProp 𝕄}
    (hn : n = py c) (hn' : n' = px c) (hi : i = 1) (hi' : i' = 1) (hj : j = 2) (hk : Begun X Wt K J c ⊢ WP c p Q) :
    iprop(Start X Wt K J c ∗ CX0 c ∗ LastV c)
      ⊢ WP c (.op (.semSignal (n : Thread nD τ) barS i) fun _ => .op (.semSignal (n' : Thread nD τ) barS i') fun _ => .op (.semWait barS j) fun _ => p) Q := by
  unfold Start Bar
  iintro ⟨⟨#HE, HO, ⟨Hat, Hcr, Hty, Hqy, Htx, Hqx⟩, Hf, Ht, Hso, Hs, Hx, Hi, Hw, He⟩, HX, HV⟩
  imod (ch_open (X := X) (Wt := Wt) (K := K) (J := J) (c := c) (b := false)) $$ [Hf] with ⟨Hf, Hpf⟩
  · isplitr; · iexact HE
    iexact Hf
  imod (ch_open (X := X) (Wt := Wt) (K := K) (J := J) (c := c) (b := true)) $$ [Ht] with ⟨Ht, Hpt⟩
  · isplitr; · iexact HE
    iexact Ht
  iapply (bar_signal (X := X) (Wt := Wt) (K := K) (J := J) (c := c) (b := false) (O := owM c 0 0 0 0 + owB c true) hn hi) $$ [HO Hty Hqy Hpf Hso]
  · isplitr; · iexact HE
    isplitl [HO]; · iexact HO
    isplitl [Hty]; · iexact Hty
    isplitl [Hqy]; · iexact Hqy
    unfold barPay
    rw [pc_pc, if_neg Bool.false_ne_true]
    isplitl [Hpf]; · iexact Hpf
    rw [show py (pc false c) = c from py_py c]
    iexact Hso
  iintro HO
  iapply (bar_signal (X := X) (Wt := Wt) (K := K) (J := J) (c := c) (b := true) (O := owM c 0 0 0 0) hn' hi') $$ [HO Htx Hqx Hpt]
  · isplitr; · iexact HE
    isplitl [HO]; · iexact HO
    isplitl [Htx]; · iexact Htx
    isplitl [Hqx]; · iexact Hqx
    unfold barPay
    rw [pc_pc, if_pos rfl]
    isplitl [Hpt]; · iexact Hpt
    iempintro
  iintro HO
  iapply (bar_wait (X := X) (Wt := Wt) (K := K) (J := J) (c := c) hj) $$ [HO Hcr Hat]
  · isplitr; · iexact HE
    isplitl [HO]; · iexact HO
    isplitl [Hcr] <;> iassumption
  unfold barPay
  rw [if_neg Bool.false_ne_true, if_pos rfl]
  iintro ⟨HO, Hat, ⟨Hpf, Hso⟩, ⟨Hpt, -⟩⟩
  iapply hk
  unfold Begun Mid CX CX0
  icases HX with ⟨H1, H2, H3, H4, H5, H6, H7⟩
  isplitr [H1 H2 H3 H4 H5 H6 H7 Hso Hat HV]
  · isplitl [Hs]; · iexact Hs
    iintro Hs
    unfold St COwn LandL LandY LandX CS
    dsimp only
    isplitr; · iexact HE
    isplitl [HO]; · iexact HO
    isplitl [Hw]; · iexact Hw
    isplitl [He]; · iexact He
    isplitr
    · isplitr
      · rw [Finset.range_zero, bigSep_empty]; iempintro
      · iapply (ico_empty 0 (Oown X Wt c)); iempintro
    isplitl [Hf Hpf]
    · iapply (ch_first (X := X) (Wt := Wt) (c := c) (b := false))
      isplitl [Hf] <;> iassumption
    isplitl [Ht Hpt]
    · iapply (ch_first (X := X) (Wt := Wt) (c := c) (b := true))
      isplitl [Ht] <;> iassumption
    isplitr
    · isplitr
      · iapply (ico_empty 0 (Rown X Wt false c qL)); iempintro
      · iapply (ico_empty 0 (Rown X Wt false c qL)); iempintro
    isplitr
    · isplitr
      · iapply (ico_empty 0 (Rown X Wt true c qL)); iempintro
      · iapply (ico_empty 0 (Rown X Wt true c qL)); iempintro
    isplitr
    · isplitr
      · iapply (ico_empty 0 (Rown X Wt false c qR)); iempintro
      · iapply (ico_empty 0 (Rown X Wt false c qR)); iempintro
    isplitr
    · iapply (ico_empty 0 (Rown X Wt true c qR)); iempintro
    isplitl [Hx]; · iexact Hx
    isplitl [Hs] <;> iassumption
  · isplitr [Hat HV]
    · isplitl [H1]; · iexact H1
      isplitl [H2]; · iexact H2
      isplitl [H3]; · iexact H3
      isplitl [H4]; · iexact H4
      isplitl [H5]; · iexact H5
      isplitl [H6]; · iexact H6
      isplitl [H7] <;> iassumption
    · isplitl [Hat] <;> iassumption

theorem part32_run {Q : _ → sProp 𝕄} (hk : ∀ q, q.1 = c → Begun X Wt K J c ⊢ Q q) :
    iprop(Start X Wt K J c ∗ CX0 c ∗ LastV c)
      ⊢ WP c (onBufs (k0_part32 (F := F))) Q := by
  unfold onBufs
  rw [k0_part32_eq_skeleton]; unfold k0_part32_skel
  simp only [Prog.lift, Prog.bind_op, Prog.bind_ret, Prog.pure_eq_ret, semWaitWord, semSignalWord]
  unfold WP
  rw [wp_deviceId]
  exact handshake (Fin.ext (k0_dev1_eq c)) (Fin.ext (k0_dev2_eq c)) (by decide) (by decide) (by decide) (wp_end (hk _ rfl))

end Cert.Proof.Run

end
-- ==== Proof.Body.lean ====
/-
The whole program on one device, from its start to its closed cells.
-/
module

public import proofs.«01_k».proof.Proof.Pro

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-! ## Closing the cells -/

theorem close_bar : iprop(Env X Wt K J ∗ atPos ER (barC c) 1 ∅ 0) ⊢ |={Set.univ}=> semVal (barC c) 0 := by
  iintro ⟨HE, Hat⟩
  ihave HI := (Env_bar X Wt K J c) $$ HE
  iapply (Rounds.cell_close ER (Rd X Wt) (Set.mem_univ (K (c, kBar))) (fun h => h) (R := 1) (later_bar X Wt (barC c) role_bar))
  isplitl [HI] <;> iassumption
theorem close_cr {b : Bool} : iprop(Env X Wt K J ∗ atPos ER (crC b c) 1 ∅ 0) ⊢ |={Set.univ}=> semVal (crC b c) 0 := by
  iintro ⟨HE, Hat⟩
  ihave HI := (Env_cr X Wt K J b c) $$ HE
  iapply (Rounds.cell_close ER (Rd X Wt) (Set.mem_univ (K (c, kCr b))) (fun h => h) (R := 1) (later_cr X Wt b (crC b c) (role_cr b)))
  isplitl [HI] <;> iassumption
theorem close_ss : iprop(Env X Wt K J ∗ atPos ER (ssC c) 1 ∅ 0) ⊢ |={Set.univ}=> semVal (ssC c) 0 := by
  iintro ⟨HE, Hat⟩
  ihave HI := (Env_ss X Wt K J c) $$ HE
  iapply (Rounds.cell_close ER (Rd X Wt) (Set.mem_univ (K (c, kSs))) (fun h => h) (R := 1) (later_ss X Wt (ssC c) role_ss))
  isplitl [HI] <;> iassumption
theorem close_sr : iprop(Env X Wt K J ∗ atPos ER (srC c) 1 ∅ 0) ⊢ |={Set.univ}=> semVal (srC c) 0 := by
  iintro ⟨HE, Hat⟩
  ihave HI := (Env_sr X Wt K J c) $$ HE
  iapply (Rounds.cell_close ER (Rd X Wt) (Set.mem_univ (K (c, kSr))) (fun h => h) (R := 1) (later_sr X Wt (srC c) role_sr))
  isplitl [HI] <;> iassumption
theorem close_sd {b : Bool} {u : ℕ} (hu : 16 ≤ u) : iprop(Env X Wt K J ∗ atPos ER (sdC b c u) (u / 4) ∅ 0) ⊢ |={Set.univ}=> semVal (sdC b c u) 0 := by
  iintro ⟨HE, Hat⟩
  ihave HI := (Env_sd X Wt K J b c u) $$ HE
  iapply (Rounds.cell_close ER (Rd X Wt) (Set.mem_univ (K (c, kSd b u))) (fun h => h) (R := u / 4)
    (fun r hr => later_sd X Wt b (u % 4) (sdC b c u) (role_sd b u) r (by omega)))
  isplitl [HI] <;> iassumption
theorem close_rv {b : Bool} {u : ℕ} (hu : 16 ≤ u) : iprop(Env X Wt K J ∗ atPos ER (rvC b c u) (u / 4) ∅ 0) ⊢ |={Set.univ}=> semVal (rvC b c u) 0 := by
  iintro ⟨HE, Hat⟩
  ihave HI := (Env_rv X Wt K J b c u) $$ HE
  iapply (Rounds.cell_close ER (Rd X Wt) (Set.mem_univ (K (c, kRv b u))) (fun h => h) (R := u / 4)
    (fun r hr => later_rv X Wt b (u % 4) (rvC b c u) (role_rv b u) r (by omega)))
  isplitl [HI] <;> iassumption

/-- A family over the last uses, as one over the slots. -/
theorem last_uses {m k n : ℕ} {Φ : ℕ → sProp 𝕄} (hm : m = k + n) (h : ∀ u, Φ (k + u) = Φ u) :
    bigSep (Finset.Ico k m) Φ = bigSep (Finset.range n) Φ := by
  subst hm
  rw [ico_shift]
  exact bigSep_congr fun u _ => h u

theorem semVal_at {s s' : DmaSem sig} (h : s = s') :
    (semVal ((c : Thread nD τ), .dma s) 0 : sProp 𝕄) = semVal ((c : Thread nD τ), .dma s') 0 := by rw [h]

abbrev sdV (c : Dev nD) (b : Bool) (u : ℕ) : sProp 𝕄 := semVal (sdC b c u) 0
abbrev rvV (c : Dev nD) (b : Bool) (u : ℕ) : sProp 𝕄 := semVal (rvC b c u) 0

/-- A channel's semaphores at zero. -/
def ChZero (b : Bool) (c : Dev nD) : sProp 𝕄 :=
  iprop(bigSep (Finset.range 4) (sdV c b) ∗ bigSep (Finset.range 4) (rvV c b) ∗ bigSep (Finset.range 4) (stV c b) ∗ semVal (crC b c) 0)

theorem ch_shut {b : Bool} : iprop(Env X Wt K J ∗ ChEnd b c) ⊢ |={Set.univ}=> ChZero (F := F) b c := by
  unfold ChEnd ChZero
  iintro ⟨#HE, Hs, Hc, Hr, Hv⟩
  imod (show iprop(Env X Wt K J ∗ bigSep (Finset.Ico 16 20) (fun u => atPos ER (sdC b c u) (u / 4) ∅ 0)) ⊢ |={Set.univ}=> bigSep (Finset.range 4) (sdV c b) from by
    rw [← last_uses (m := 20) (k := 16) (n := 4) (Φ := sdV (F := F) c b) rfl fun u => semVal_at (s4At_congr _ (by omega) _ _)]
    exact (bigSep_using (Ψ := fun u => iprop(|={Set.univ}=> sdV (F := F) c b u)) fun u hu => close_sd (Finset.mem_Ico.mp hu).1).trans (bigSep_fupd _ _)) $$ [Hs] with Hs
  · isplitr; · iexact HE
    iexact Hs
  imod (show iprop(Env X Wt K J ∗ bigSep (Finset.Ico 16 20) (rvPos c b)) ⊢ |={Set.univ}=> bigSep (Finset.range 4) (rvV c b) from by
    rw [← last_uses (m := 20) (k := 16) (n := 4) (Φ := rvV (F := F) c b) rfl fun u => semVal_at (s4At_congr _ (by omega) _ _)]
    exact (bigSep_using (Ψ := fun u => iprop(|={Set.univ}=> rvV (F := F) c b u)) fun u hu => close_rv (Finset.mem_Ico.mp hu).1).trans (bigSep_fupd _ _)) $$ [Hr] with Hr
  · isplitr; · iexact HE
    iexact Hr
  imod (close_cr (X := X) (Wt := Wt) (K := K) (J := J) (c := c) (b := b)) $$ [Hc] with Hc
  · isplitr; · iexact HE
    iexact Hc
  imodintro
  isplitl [Hs]; · iexact Hs
  isplitl [Hr]; · iexact Hr
  isplitl [Hv]
  · iapply (Entails.of_eq (last_uses (m := 20) (k := 16) (n := 4) (Φ := stV (F := F) c b) rfl fun u => semVal_at (s4At_congr _ (by omega) _ _))) $$ Hv
  · iexact Hc

/-- A device's own semaphores at zero. -/
def Zeros (c : Dev nD) : sProp 𝕄 :=
  iprop(bigSep (Finset.range 2) (wdV c) ∗ bigSep (Finset.range 2) (esV c) ∗ ChZero false c ∗ ChZero true c ∗ semVal (ssC c) 0 ∗ semVal (srC c) 0
    ∗ bigSep (Finset.range 4) (psV c) ∗ bigSep (Finset.range 4) (plV c))

/-- The device's buffers at the end: the arguments as they were, the result. -/
def Bufs (X : Dev nD → Vec F S1024x2048 .f32) (Wt : Dev nD → Vec F S2048x16384 .f32) (c : Dev nD) : sProp 𝕄 :=
  iprop(owns (c : Thread nD τ) xM fullShare (X c) ∗ owns (c : Thread nD τ) wM fullShare (Wt c) ∗ owns (c : Thread nD τ) oM fullShare (OUT c X Wt)
    ∗ raw c wbM ∗ raw c ebM ∗ raw c yrM ∗ raw c xrM ∗ raw c sM ∗ raw c soM ∗ raw c ivM)

def Final (X : Dev nD → Vec F S1024x2048 .f32) (Wt : Dev nD → Vec F S2048x16384 .f32) (c : Dev nD) : sProp 𝕄 :=
  iprop(Ow c 0 ∗ Bufs X Wt c ∗ Zeros c ∗ semVal (barC c) 0)

theorem finish : iprop(Nm X Wt K J c 64 64 64 ∗ Summed c ∗ Gone X Wt c ∗ atPos ER (barC c) 1 ∅ 0) ⊢ |={Set.univ}=> Final X Wt c := by
  unfold Nm Summed Gone Final Bufs Zeros
  iintro ⟨⟨#HE, HO, Hi, -, -, Hr, Hps, Hpl, Hd, -⟩, ⟨Hss, Hsr, Hs, Hso⟩, ⟨Hx, Hw, Hwb, Heb, Hxr, Hwd, Hes, Hf, Ht⟩, Hb⟩
  imod (ch_shut (X := X) (Wt := Wt) (K := K) (J := J) (c := c) (b := false)) $$ [Hf] with Hf
  · isplitr; · iexact HE
    iexact Hf
  imod (ch_shut (X := X) (Wt := Wt) (K := K) (J := J) (c := c) (b := true)) $$ [Ht] with Ht
  · isplitr; · iexact HE
    iexact Ht
  imod (close_ss (X := X) (Wt := Wt) (K := K) (J := J) (c := c)) $$ [Hss] with Hss
  · isplitr; · iexact HE
    iexact Hss
  imod (close_sr (X := X) (Wt := Wt) (K := K) (J := J) (c := c)) $$ [Hsr] with Hsr
  · isplitr; · iexact HE
    iexact Hsr
  imod (close_bar (X := X) (Wt := Wt) (K := K) (J := J) (c := c)) $$ [Hb] with Hb
  · isplitr; · iexact HE
    iexact Hb
  imodintro
  isplitl [HO]; · iexact HO
  isplitr [Hf Ht Hss Hsr Hps Hpl Hwd Hes Hb]
  · isplitl [Hx]; · iexact Hx
    isplitl [Hw]; · iexact Hw
    isplitl [Hd]; · iapply (o_glue c X Wt) $$ Hd
    isplitl [Hwb]; · iexact Hwb
    isplitl [Heb]; · iexact Heb
    isplitl [Hr]
    · iapply (r_glue (F := F) c false)
      iapply (Entails.of_eq (last_uses (m := 68) (k := 64) (n := 4) (Φ := nRaw (F := F) c) rfl fun u =>
        congrArg (fun m => (raw c m : sProp 𝕄)) (rAt_congr false (by omega) (r_inb (64 + u)) (r_inb u)))) $$ Hr
    isplitl [Hxr]; · iexact Hxr
    isplitl [Hs]; · iexact Hs
    isplitl [Hso]; · iexact Hso
    iapply raw_intro $$ Hi
  isplitr [Hb]
  · isplitl [Hwd]
    · iapply (Entails.of_eq (last_uses (m := 34) (k := 32) (n := 2) (Φ := wdV (F := F) c) rfl fun u => semVal_at (s2At_congr _ (by omega) _ _))) $$ Hwd
    isplitl [Hes]
    · iapply (Entails.of_eq (last_uses (m := 34) (k := 32) (n := 2) (Φ := esV (F := F) c) rfl fun u => semVal_at (s2At_congr _ (by omega) _ _))) $$ Hes
    isplitl [Hf]; · iexact Hf
    isplitl [Ht]; · iexact Ht
    isplitl [Hss]; · iexact Hss
    isplitl [Hsr]; · iexact Hsr
    isplitl [Hps]
    · iapply (Entails.of_eq (last_uses (m := 68) (k := 64) (n := 4) (Φ := psV (F := F) c) rfl fun u => semVal_at (s4At_congr _ (by omega) _ _))) $$ Hps
    · iapply (Entails.of_eq (last_uses (m := 68) (k := 64) (n := 4) (Φ := plV (F := F) c) rfl fun u => semVal_at (s4At_congr _ (by omega) _ _))) $$ Hpl
  · iexact Hb

/-! ## The whole program -/

set_option maxHeartbeats 2000000 in
theorem body_run : iprop(Start X Wt K J c ∗ CX0 c ∗ LastV c) ⊢ WP c (onBufs (cc0_body (F := F))) (fun _ => Final X Wt c) := by
  unfold onBufs
  rw [cc0_body_eq_skeleton]; unfold cc0_body_skel
  simp only [Prog.lift, Prog.bind_op, Prog.bind_ret, Prog.pure_eq_ret]
  refine wp_seq (part32_run fun q hq => ?_)
  obtain ⟨d0, v2, v5, v8, v9, v10, v11, v13, v14, v16⟩ := q
  subst hq
  unfold Begun
  dsimp only
  refine wp_seq (wp_carry (part33_run fun _ => .rfl) fun _ => ?_)
  refine wp_seq (wp_carry (part34_run fun _ => .rfl) fun _ => ?_)
  refine wp_seq (wp_carry (part35_run fun _ => .rfl) fun _ => ?_)
  refine wp_seq (wp_carry (part36_run fun _ => .rfl) fun _ => ?_)
  refine wp_seq (wp_carry (part37_run fun _ => .rfl) fun _ => ?_)
  refine wp_seq (wp_carry (part38_run fun _ => .rfl) fun _ => ?_)
  refine wp_seq (wp_carry (part39_run fun _ => .rfl) fun _ => ?_)
  refine wp_seq (wp_carry (part40_run fun _ => .rfl) fun _ => ?_)
  refine .trans (show _ ⊢ iprop((Ready X Wt K J d0 ∗ CX d0 ∗ bigSep (Finset.Ico 0 4) (psV d0) ∗ bigSep (Finset.Ico 0 4) (plV d0))
      ∗ Gone X Wt d0 ∗ atPos ER (barC d0) 1 ∅ 0) from ?_) ?_
  · unfold LastV
    iintro ⟨H, HX, Hb, Hps, Hpl⟩
    ihave H := (final_split (F := F)) $$ H
    icases H with ⟨HR, HG⟩
    isplitr [HG Hb]
    · isplitl [HR]; · iexact HR
      isplitl [HX]; · iexact HX
      isplitl [Hps] <;> iassumption
    · isplitl [HG] <;> iassumption
  refine wp_seq (wp_carry part41_run fun _ => ?_)
  refine .trans (show _ ⊢ iprop(Nm X Wt K J d0 60 64 64 ∗ Summed d0 ∗ Gone X Wt d0 ∗ atPos ER (barC d0) 1 ∅ 0) from ?_) ?_
  · iintro ⟨⟨HN, HS⟩, HG, Hb⟩
    isplitl [HN]; · iexact HN
    isplitl [HS]; · iexact HS
    isplitl [HG] <;> iassumption
  refine .trans (wp_carry (S := Nm X Wt K J d0 64 64 64) ?_ fun _ => finish) (wp_fupd _ _ _ _ _)
  refine n_stored rfl (by omega) (by omega) (by omega) ?_
  refine n_stored rfl (by omega) (by omega) (by omega) ?_
  refine n_stored rfl (by omega) (by omega) (by omega) ?_
  exact n_stored rfl (by omega) (by omega) (by omega) (wp_end .rfl)

end Cert.Proof.Run

end
-- ==== Proof.Cells.lean ====
/-
The launch's dealing, first half: the semaphores by name, the duties of the cells and the landing slots' records, each
going to the device that uses it.
-/
module

public import proofs.«01_k».proof.Proof.Body

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

theorem bigSep_bool (Φ : Bool → sProp 𝕄) : bigSep Finset.univ Φ = iprop(Φ false ∗ Φ true) :=
  bigSep_univ_eq_bigSepL [false, true] (by decide) (by decide) Φ

theorem bigSep_either {α β : Type} [Fintype α] [Fintype β] (Φ : α ⊕ β → sProp 𝕄) :
    bigSep Finset.univ Φ = iprop(bigSep Finset.univ (fun a => Φ (.inl a)) ∗ bigSep Finset.univ (fun b => Φ (.inr b))) := bigSep_univ_sum Φ

theorem four (Φ : Fin 4 → sProp 𝕄) (Ψ : ℕ → sProp 𝕄) (h : ∀ k, Φ k = Ψ k.val) : bigSep Finset.univ Φ = bigSep (Finset.range 4) Ψ := by
  rw [← bigSep_fin 4 Ψ]; exact bigSep_congr fun k _ => h k

/-! ## The semaphores by name -/

/-- The kernel's own semaphores with rounds, -/
abbrev Kz : Type := Bool ⊕ ((Bool × (Bool × Fin 4)) ⊕ Bool)
/-- and those of the local copies. -/
abbrev Kl : Type := (Bool × Fin 2) ⊕ (Bool × (Bool × Fin 4))

def lc : Kl → SemLoc sig
  | .inl (true, k) => .dma (wdS k.val)
  | .inl (false, k) => .dma (esS k.val)
  | .inr (true, b, k) => .dma (stS b k.val)
  | .inr (false, true, k) => .dma (psS k.val)
  | .inr (false, false, k) => .dma (plS k.val)

def osem : Kz ⊕ Kl → SemLoc sig
  | .inl k => kc (.inr k)
  | .inr l => lc l

theorem ownSemFacts : Pipeline.OwnSemFacts cfg0.spec osem := ⟨by decide +kernel, by decide +kernel, by decide +kernel⟩

theorem kc_inj : Function.Injective kc := by decide +kernel

abbrev kcell (p : Dev nD × Ky) : GSem nD τ sig := ((p.1 : Thread nD τ), kc p.2)
theorem kcell_inj : Function.Injective kcell := by
  rintro ⟨c, k⟩ ⟨c', k'⟩ h
  have h1 : c = c' := congrArg (fun g : GSem nD τ sig => g.1.1) h
  have h2 : k = k' := kc_inj (congrArg Prod.snd h)
  rw [h1, h2]

theorem by_Kz (Φ : SemLoc sig → sProp 𝕄) :
    bigSep Finset.univ (fun k : Kz => Φ (kc (.inr k)))
      = iprop((Φ (.reg (crS false)) ∗ Φ (.reg (crS true)))
        ∗ ((bigSep (Finset.range 4) (fun u => Φ (.dma (rvS false u))) ∗ bigSep (Finset.range 4) (fun u => Φ (.dma (rvS true u))))
          ∗ (bigSep (Finset.range 4) (fun u => Φ (.dma (sdS false u))) ∗ bigSep (Finset.range 4) (fun u => Φ (.dma (sdS true u)))))
        ∗ (Φ (.dma srS) ∗ Φ (.dma ssS))) := by
  simp only [bigSep_either, bigSep_univ_prod, bigSep_bool]
  rw [← bigSep_fin 4 (fun u => Φ (.dma (rvS false u))), ← bigSep_fin 4 (fun u => Φ (.dma (rvS true u))),
    ← bigSep_fin 4 (fun u => Φ (.dma (sdS false u))), ← bigSep_fin 4 (fun u => Φ (.dma (sdS true u)))]
  rfl

theorem by_Ky (Φ : SemLoc sig → sProp 𝕄) :
    bigSep Finset.univ (fun k : Ky => Φ (kc k))
      = iprop(Φ (.reg barS) ∗ bigSep Finset.univ (fun k : Kz => Φ (kc (.inr k)))) := by
  rw [bigSep_either]
  exact congrArg (fun P => iprop(P ∗ bigSep Finset.univ (fun k : Kz => Φ (kc (.inr k))))) (bigSep_univ_eq_bigSepL [()] (by decide) (by decide) _)

theorem by_Kl (Φ : SemLoc sig → sProp 𝕄) :
    bigSep Finset.univ (fun k : Kl => Φ (lc k))
      = iprop((bigSep (Finset.range 2) (fun u => Φ (.dma (esS u))) ∗ bigSep (Finset.range 2) (fun u => Φ (.dma (wdS u))))
        ∗ ((bigSep (Finset.range 4) (fun u => Φ (.dma (plS u))) ∗ bigSep (Finset.range 4) (fun u => Φ (.dma (psS u))))
          ∗ (bigSep (Finset.range 4) (fun u => Φ (.dma (stS false u))) ∗ bigSep (Finset.range 4) (fun u => Φ (.dma (stS true u)))))) := by
  simp only [bigSep_either, bigSep_univ_prod, bigSep_bool]
  rw [← bigSep_fin 4 (fun u => Φ (.dma (plS u))), ← bigSep_fin 4 (fun u => Φ (.dma (psS u))),
    ← bigSep_fin 4 (fun u => Φ (.dma (stS false u))), ← bigSep_fin 4 (fun u => Φ (.dma (stS true u))),
    ← bigSep_fin 2 (fun u => Φ (.dma (esS u))), ← bigSep_fin 2 (fun u => Φ (.dma (wdS u)))]
  rfl

/-- The semaphores of the local copies at zero. -/
def Locals (c : Dev nD) : sProp 𝕄 :=
  iprop((bigSep (Finset.range 2) (esV c) ∗ bigSep (Finset.range 2) (wdV c))
    ∗ ((bigSep (Finset.range 4) (plV c) ∗ bigSep (Finset.range 4) (psV c)) ∗ (bigSep (Finset.range 4) (stV c false) ∗ bigSep (Finset.range 4) (stV c true))))

theorem ownSems0_eq (c : Dev nD) : (Pipeline.ownSems0 (Ix := ℕ) (Name := ℕ) (U := UU) (Lvl := ℕ) (Val := Elt F) (τ := τ) osem c : sProp 𝕄)
    = iprop(bigSep Finset.univ (fun k : Kz => semVal ((c : Thread nD τ), kc (.inr k)) 0) ∗ Locals c) := by
  unfold Pipeline.ownSems0 Locals
  rw [bigSep_either]
  exact congrArg (fun P => iprop(bigSep Finset.univ (fun k : Kz => semVal ((c : Thread nD τ), kc (.inr k)) 0) ∗ P))
    (by_Kl (F := F) (fun s => semVal ((c : Thread nD τ), s) 0))

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := ℕ) (Name := ℕ) (U := UU) (Lvl := ℕ) (Val := Elt F) (τ := τ) osem c ∗ unscopedSems0 c)
      ⊢ (iprop(bigSep Finset.univ (fun k : Ky => semVal (kcell (c, k)) 0) ∗ Locals c) : sProp 𝕄) := by
  rw [ownSems0_eq, unscopedSems0_eq, show bigSep Finset.univ (fun k : Ky => (semVal (kcell (c, k)) 0 : sProp 𝕄)) = _ from by_Ky (F := F) (fun s => semVal ((c : Thread nD τ), s) 0)]
  iintro ⟨⟨HS, HV⟩, HB⟩
  isplitl [HB HS]
  · isplitl [HB] <;> iassumption
  iexact HV

/-- At the end every one of them is at zero again. -/
theorem zeros_own (c : Dev nD) : (Zeros c : sProp 𝕄) ⊢ Pipeline.ownSems0 (Ix := ℕ) (Name := ℕ) (U := UU) (Lvl := ℕ) (Val := Elt F) (τ := τ) osem c := by
  rw [ownSems0_eq, by_Kz (F := F) (fun s => semVal ((c : Thread nD τ), s) 0)]
  unfold Zeros ChZero Locals
  iintro ⟨H1, H2, ⟨H3, H4, H5, H6⟩, ⟨H7, H8, H9, H10⟩, H11, H12, H13, H14⟩
  isplitl [H3 H4 H6 H7 H8 H10 H11 H12]
  · isplitl [H6 H10]
    · isplitl [H6] <;> iassumption
    isplitl [H3 H4 H7 H8]
    · isplitl [H4 H8]
      · isplitl [H4] <;> iassumption
      · isplitl [H3] <;> iassumption
    · isplitl [H12] <;> iassumption
  isplitl [H1 H2]
  · isplitl [H2] <;> iassumption
  isplitl [H13 H14]
  · isplitl [H14] <;> iassumption
  · isplitl [H5] <;> iassumption

/-! ## The duties of a device's cells -/

abbrev Tk : Type := Bool ⊕ ((Bool × Fin 12) ⊕ ((Bool × (Bool × Fin 16)) ⊕ Bool))

def tkOf : Tk → SemLoc sig × ℕ × ℕ
  | .inl true => (.reg barS, 0, 1)
  | .inl false => (.reg barS, 0, 0)
  | .inr (.inl (b, m)) => (.reg (crS b), 0, m.val)
  | .inr (.inr (.inl (true, b, u))) => (.dma (sdS b u.val), u.val / 4, 0)
  | .inr (.inr (.inl (false, b, u))) => (.dma (rvS b u.val), u.val / 4, 0)
  | .inr (.inr (.inr true)) => (.dma ssS, 0, 0)
  | .inr (.inr (.inr false)) => (.dma srS, 0, 0)

theorem tkOf_inj : Function.Injective tkOf := by decide +kernel

abbrev tokOf (p : Dev nD × Tk) : GSem nD τ sig × ℕ × ℕ := (((p.1 : Thread nD τ), (tkOf p.2).1), (tkOf p.2).2)
theorem tokOf_inj : Function.Injective tokOf := by
  rintro ⟨c, k⟩ ⟨c', k'⟩ h
  have h1 : c = c' := congrArg (fun x : GSem nD τ sig × ℕ × ℕ => x.1.1.1) h
  have h2 : k = k' := tkOf_inj (Prod.ext (congrArg (fun x : GSem nD τ sig × ℕ × ℕ => x.1.2) h) (congrArg (fun x : GSem nD τ sig × ℕ × ℕ => x.2) h))
  rw [h1, h2]

def kCells : Finset (GSem nD τ sig) := Finset.univ.map ⟨kcell, kcell_inj⟩
def kToks : Finset (GSem nD τ sig × ℕ × ℕ) := Finset.univ.map ⟨tokOf, tokOf_inj⟩

/-- The duties whose payer is the neighbour on channel `b`. -/
def Far (b : Bool) (d : Dev nD) : sProp 𝕄 :=
  iprop(bigSep (Finset.range 12) (fun m => dutyTok ER (crC b d) 0 m) ∗ bigSep (Finset.range 16) (fun u => dutyTok ER (rvC b d u) (u / 4) 0))
/-- The device's own sends. -/
def Near (b : Bool) (d : Dev nD) : sProp 𝕄 := bigSep (Finset.range 16) (fun u => dutyTok ER (sdC b d u) (u / 4) 0)

def HasY (c : Dev nD) : sProp 𝕄 := iprop(dutyTok ER (barC c) 0 0 ∗ Far false c ∗ dutyTok ER (srC c) 0 0)
def HasX (c : Dev nD) : sProp 𝕄 := iprop(dutyTok ER (barC c) 0 1 ∗ Far true c)
def HasN (c : Dev nD) : sProp 𝕄 := iprop(Near false c ∗ Near true c ∗ dutyTok ER (ssC c) 0 0)
def Has (c : Dev nD) : sProp 𝕄 := iprop(HasY c ∗ HasX c ∗ HasN c)
def Pays (c : Dev nD) : sProp 𝕄 := iprop(HasY (py c) ∗ HasX (px c) ∗ HasN c)

theorem has_of (c : Dev nD) : bigSep Finset.univ (fun t : Tk => (dutyTok ER ((c : Thread nD τ), (tkOf t).1) (tkOf t).2.1 (tkOf t).2.2 : sProp 𝕄)) ⊢ Has c := by
  simp only [bigSep_either, bigSep_univ_prod, bigSep_bool]
  unfold Has HasY HasX HasN Far Near
  rw [← bigSep_fin 12 (fun m => (dutyTok ER (crC false c) 0 m : sProp 𝕄)), ← bigSep_fin 12 (fun m => (dutyTok ER (crC true c) 0 m : sProp 𝕄)),
    ← bigSep_fin 16 (fun u => (dutyTok ER (rvC false c u) (u / 4) 0 : sProp 𝕄)), ← bigSep_fin 16 (fun u => (dutyTok ER (rvC true c u) (u / 4) 0 : sProp 𝕄)),
    ← bigSep_fin 16 (fun u => (dutyTok ER (sdC false c u) (u / 4) 0 : sProp 𝕄)), ← bigSep_fin 16 (fun u => (dutyTok ER (sdC true c u) (u / 4) 0 : sProp 𝕄))]
  iintro ⟨⟨Hb0, Hb1⟩, ⟨Hc0, Hc1⟩, ⟨⟨Hr0, Hr1⟩, Hs0, Hs1⟩, Hsr, Hss⟩
  isplitl [Hb0 Hc0 Hr0 Hsr]
  · isplitl [Hb0]; · iexact Hb0
    isplitl [Hc0 Hr0]
    · isplitl [Hc0]; · iexact Hc0
      iexact Hr0
    iexact Hsr
  isplitl [Hb1 Hc1 Hr1]
  · isplitl [Hb1]; · iexact Hb1
    isplitl [Hc1]; · iexact Hc1
    iexact Hr1
  isplitl [Hs0]; · iexact Hs0
  isplitl [Hs1]; · iexact Hs1
  iexact Hss

/-- The tokens dealt to their payers. -/
theorem toks_dealt : bigSep Finset.univ (fun c : Dev nD => (Has c : sProp 𝕄)) ⊢ bigSep Finset.univ (fun c : Dev nD => Pays c) := by
  unfold Has Pays
  rw [bigSep_sep', bigSep_sep', bigSep_sep', bigSep_sep', bigSep_univ_equiv (ringB false) (HasY (F := F)), bigSep_univ_equiv (ringB true) (HasX (F := F))]
  exact .rfl

/-! ## The landing slots' records -/

abbrev skOf (p : Dev nD × (Bool × Fin 4)) : Dev nD × ℕ := skey p.2.1 p.1 p.2.2.val
theorem skOf_inj : Function.Injective skOf := by
  rintro ⟨c, b, k⟩ ⟨c', b', k'⟩ h
  have h1 : c = c' := congrArg Prod.fst h
  have h2 : (b, k) = (b', k') := (show ∀ p q : Bool × Fin 4, (if p.1 then 4 else 0) + p.2.val % 4 = (if q.1 then 4 else 0) + q.2.val % 4 → p = q from by decide +kernel)
    (b, k) (b', k') (congrArg Prod.snd h)
  rw [h1, h2]
def sKeys : Finset (Dev nD × ℕ) := Finset.univ.map ⟨skOf, skOf_inj⟩

/-- The slot of a key. -/
def slotOf (k : Dev nD × ℕ) : sProp 𝕄 := raw k.1 (rS (decide (4 ≤ k.2)) k.2)
instance slotOf_storable (k : Dev nD × ℕ) : BI.Storable (upEmb : UEmb _ 𝕄) (slotOf (F := F) k) := by unfold slotOf; infer_instance

theorem slotOf_at (p : Dev nD × (Bool × Fin 4)) : (slotOf (skOf p) : sProp 𝕄) = raw p.1 (rS p.2.1 p.2.2.val) := by
  obtain ⟨c, b, k⟩ := p
  unfold slotOf
  cases b
  · have h : decide (4 ≤ (skOf (c, false, k)).2) = false := decide_eq_false (by show ¬ 4 ≤ 0 + k.val % 4; omega)
    rw [h]
    exact congrArg (fun m => (raw c m : sProp 𝕄)) (rAt_congr false (by show (0 + k.val % 4) % 4 = k.val % 4; omega) _ _)
  · have h : decide (4 ≤ (skOf (c, true, k)).2) = true := decide_eq_true (by show 4 ≤ 4 + k.val % 4; omega)
    rw [h]
    exact congrArg (fun m => (raw c m : sProp 𝕄)) (rAt_congr true (by show (4 + k.val % 4) % 4 = k.val % 4; omega) _ _)

/-- The rights to write into device `d`'s slots of channel `b`. -/
def Wr (b : Bool) (d : Dev nD) : sProp 𝕄 := bigSep (Finset.range 16) (fun u => writeTok ES (skey b d u) (u / 4 + 1))
def HasW (c : Dev nD) : sProp 𝕄 := iprop(Wr false c ∗ Wr true c)
def PaysW (c : Dev nD) : sProp 𝕄 := iprop(Wr false (py c) ∗ Wr true (px c))

theorem sixteen (Φ : ℕ → sProp 𝕄) : bigSep (Finset.range 16) Φ = bigSep (Finset.range 4) (fun k => bigSep (Finset.range 4) (fun n => Φ (4 * n + k))) := by
  rw [← bigSep_fin 16, ← bigSep_fin 4 (fun k => bigSep (Finset.range 4) (fun n => Φ (4 * n + k))),
    bigSep_univ_equiv ((Equiv.prodComm (Fin 4) (Fin 4)).trans (finProdFinEquiv (m := 4) (n := 4))) (fun t : Fin 16 => Φ t.val), bigSep_univ_prod]
  refine bigSep_congr fun k _ => ?_
  rw [← bigSep_fin 4 (fun n => Φ (4 * n + k.val))]
  exact bigSep_congr fun n _ => congrArg Φ (Nat.add_comm k.val (4 * n.val))

theorem wr_of (b : Bool) (d : Dev nD) :
    bigSep Finset.univ (fun k : Fin 4 => bigSep (Finset.range 4) (fun n => (writeTok ES (skOf (d, b, k)) (n + 1) : sProp 𝕄))) = Wr b d := by
  unfold Wr
  rw [sixteen, four _ (fun k => bigSep (Finset.range 4) (fun n => (writeTok ES (skey b d k) (n + 1) : sProp 𝕄))) (fun _ => rfl)]
  refine bigSep_congr fun k hk => bigSep_congr fun n hn => ?_
  have hk := Finset.mem_range.mp hk
  have h1 : (4 * n + k) / 4 + 1 = n + 1 := by omega
  have h2 : skey b d (4 * n + k) = skey b d k := by
    show (d, _ + (4 * n + k) % 4) = (d, _ + k % 4)
    rw [show (4 * n + k) % 4 = k % 4 by omega]
  rw [h1, h2]

/-- Every key with every trip. -/
def ktOf (p : (Dev nD × (Bool × Fin 4)) × Fin 4) : (Dev nD × ℕ) × ℕ := (skOf p.1, p.2.val)
theorem ktOf_inj : Function.Injective ktOf := fun p q h =>
  Prod.ext (skOf_inj (congrArg Prod.fst h)) (Fin.ext (congrArg Prod.snd h))
theorem keys_trips : sKeys ×ˢ Finset.range 4 = Finset.univ.map ⟨ktOf, ktOf_inj⟩ := by
  ext ⟨k, n⟩
  rw [Finset.mem_product, Finset.mem_range, Finset.mem_map]
  unfold sKeys
  rw [Finset.mem_map]
  constructor
  · rintro ⟨⟨p, _, hp⟩, hn⟩
    exact ⟨(p, ⟨n, hn⟩), Finset.mem_univ _, Prod.ext hp rfl⟩
  · rintro ⟨⟨p, m⟩, _, h⟩
    have h1 : skOf p = k := congrArg Prod.fst h
    have h2 : m.val = n := congrArg Prod.snd h
    exact ⟨⟨p, Finset.mem_univ _, h1⟩, h2 ▸ m.isLt⟩

theorem wr_all : bigSep (sKeys ×ˢ Finset.range 4) (fun x => (writeTok ES x.1 (x.2 + 1) : sProp 𝕄)) = bigSep Finset.univ (fun c : Dev nD => HasW c) := by
  rw [keys_trips, bigSep_map, bigSep_univ_prod, bigSep_univ_prod]
  unfold HasW
  refine bigSep_congr fun c _ => ?_
  rw [bigSep_univ_prod, bigSep_bool, ← wr_of, ← wr_of]
  simp only [← bigSep_fin 4]
  rfl

theorem wr_dealt : bigSep Finset.univ (fun c : Dev nD => (HasW c : sProp 𝕄)) ⊢ bigSep Finset.univ (fun c : Dev nD => PaysW c) := by
  unfold HasW PaysW
  rw [bigSep_sep', bigSep_sep', bigSep_univ_equiv (ringB false) (Wr (F := F) false), bigSep_univ_equiv (ringB true) (Wr (F := F) true)]
  exact .rfl

end Cert.Proof.Run

end
-- ==== Proof.Deal.lean ====
/-
The launch's dealing, second half: the launch element, the invariants, each device's share and the credit of what its
neighbours owe it.
-/
module

public import proofs.«01_k».proof.Proof.Cells

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (X : Dev nD → Vec F S1024x2048 .f32) (Wt : Dev nD → Vec F S2048x16384 .f32)

/-! ## The launch element -/

def u₀ : UU :=
  (initOf (Pipeline.cells cfgs cellOf_inj) (Pipeline.launchToks cfgs cellOf_inj), (initOf kCells kToks, (initSlots sKeys 4, 1)))

/-- The rounds of a device's cells, as the launch deals them. -/
def Gr (c : Dev nD) : sProp 𝕄 :=
  iprop((bigSep Finset.univ fun k : Ky => roundState ER (Rd X Wt) (kcell (c, k)) 0)
    ∗ (bigSep Finset.univ fun k : Ky => iprop(atPos ER (kcell (c, k)) 0 ∅ 0 ∗ reached ER (kcell (c, k)) 0)) ∗ Has c)
/-- The slots' records, one device keeping them all. -/
def Gs (c : Dev nD) : sProp 𝕄 := if c = 0 then BI.own (ES (initSlots sKeys 4)) else iprop(emp)
def G (c : Dev nD) : sProp 𝕄 := iprop(Gr X Wt c ∗ Gs c)

theorem fund_cells : BI.own (ER (initOf kCells kToks)) ⊢ (|==> bigSep Finset.univ (Gr X Wt) : sProp 𝕄) := by
  have hX (Φ : GSem nD τ sig → sProp 𝕄) : bigSep kCells Φ = bigSep Finset.univ fun c : Dev nD => bigSep Finset.univ fun k : Ky => Φ (kcell (c, k)) := by
    unfold kCells; rw [bigSep_map, bigSep_univ_prod]; rfl
  have hT : bigSep kToks (fun x => (dutyTok ER x.1 x.2.1 x.2.2 : sProp 𝕄)) ⊢ bigSep Finset.univ fun c : Dev nD => Has c := by
    unfold kToks; rw [bigSep_map, bigSep_univ_prod]
    exact bigSep_mono fun c _ => has_of c
  iintro HX
  imod (Rounds.fund ER (Rd X Wt) kCells kToks) $$ HX with ⟨Hst, Hr, Hat, Htok⟩
  imodintro
  ihave Hst' := (Entails.of_eq (hX fun g => roundState ER (Rd X Wt) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold Gr; simp only [bigSep_sep']
  isplitl [Hst']; · iexact Hst'
  isplitl [Hat' Hr']
  · isplitl [Hat'] <;> iassumption
  iexact Htok'

theorem keep_slots : BI.own (ES (initSlots sKeys 4)) ⊢ (bigSep Finset.univ Gs : sProp 𝕄) := by
  rw [bigSep_univ_at (Gs (F := F)) (0 : Dev nD), bigSep_congr (s := Finset.univ.erase (0 : Dev nD)) (Ψ := fun _ => (iprop(emp) : sProp 𝕄)) fun d hd => by
      unfold Gs; rw [if_neg (Finset.mem_erase.mp hd).1],
    show (Gs (0 : Dev nD) : sProp 𝕄) = BI.own (ES (initSlots sKeys 4)) from by unfold Gs; rw [if_pos rfl]]
  iintro H
  isplitl; · iexact H
  iapply (Entails.of_eq (BI.bigSep_emp_const (M := 𝕄) (Finset.univ.erase (0 : Dev nD))).symm)
  iempintro

theorem slots_kept : (bigSep Finset.univ Gs : sProp 𝕄) ⊢ BI.own (ES (initSlots sKeys 4)) :=
  (bigSep_elim (Finset.mem_univ (0 : Dev nD))).trans (Entails.of_eq (show (Gs (0 : Dev nD) : sProp 𝕄) = BI.own (ES (initSlots sKeys 4)) from by unfold Gs; rw [if_pos rfl]))

/-- The launch element dealt to the devices. -/
theorem fund_all : (ownU u₀ : sProp 𝕄) ⊢ |==> (BI.own (EP (initOf (Pipeline.cells cfgs cellOf_inj) (Pipeline.launchToks cfgs cellOf_inj))) ∗ bigSep Finset.univ (G X Wt)) := by
  unfold u₀
  iintro Hu
  ihave H := (ownU_pair _ _) $$ Hu
  icases H with ⟨HP, HX⟩
  ihave HX := (own_pair_emb embR _ _) $$ HX
  icases HX with ⟨HR, HX⟩
  ihave HX := (own_pair_emb ((Emb.inr : Emb (US × Counters) (UB × (US × Counters))).trans embR) _ _) $$ HX
  icases HX with ⟨HS, -⟩
  imod (fund_cells X Wt) $$ HR with HG
  ihave HS := (keep_slots (F := F)) $$ HS
  imodintro
  isplitl [HP]; · iexact HP
  unfold G
  iapply (Entails.of_eq (bigSep_sep' Finset.univ (Gr X Wt) Gs).symm)
  isplitl [HG] <;> iassumption

/-! ## The global step -/

theorem core_alloc (c : Dev nD) :
    iprop(Pipeline.ownSems0 (Ix := ℕ) (Name := ℕ) (U := UU) (Lvl := ℕ) (Val := Elt F) (τ := τ) osem c ∗ unscopedSems0 c ∗ Gr X Wt c)
      ⊢ |={Set.univ}=> (iprop((bigSep Finset.univ fun k : Ky => iprop(∃ κ : ℕ, cellInv ER (Rd X Wt) κ (kcell (c, k))))
          ∗ (bigSep Finset.univ fun k : Ky => iprop(atPos ER (kcell (c, k)) 0 ∅ 0 ∗ reached ER (kcell (c, k)) 0)) ∗ Has c ∗ Locals c) : sProp 𝕄) := by
  unfold Gr
  iintro ⟨Hos, Hus, Hst, Hat, Htok⟩
  ihave Hv := (sems0_eq (F := F) c) $$ [Hos Hus]
  · isplitl [Hos] <;> iassumption
  icases Hv with ⟨Hv, Hl⟩
  imod (show iprop((bigSep Finset.univ fun k : Ky => semVal (kcell (c, k)) 0) ∗ bigSep Finset.univ fun k : Ky => roundState ER (Rd X Wt) (kcell (c, k)) 0)
      ⊢ (|={Set.univ}=> bigSep Finset.univ fun k : Ky => iprop(∃ κ : ℕ, cellInv ER (Rd X Wt) κ (kcell (c, k))) : sProp 𝕄) from by
        rw [← bigSep_sep']
        exact (bigSep_mono fun k _ => (Rounds.body_intro ER (Rd X Wt) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok] <;> iassumption

theorem alloc_all :
    (bigSep Finset.univ fun c : Dev nD => iprop(Pipeline.ownSems0 (Ix := ℕ) (Name := ℕ) (U := UU) (Lvl := ℕ) (Val := Elt F) (τ := τ) osem c ∗ unscopedSems0 c ∗ Gr X Wt c) : sProp 𝕄)
      ⊢ |={Set.univ}=> bigSep Finset.univ fun c : Dev nD => (iprop((bigSep Finset.univ fun k : Ky => iprop(∃ κ : ℕ, cellInv ER (Rd X Wt) κ (kcell (c, k))))
          ∗ (bigSep Finset.univ fun k : Ky => iprop(atPos ER (kcell (c, k)) 0 ∅ 0 ∗ reached ER (kcell (c, k)) 0)) ∗ Has c ∗ Locals c) : sProp 𝕄) :=
  (bigSep_mono fun c _ => core_alloc X Wt c).trans (bigSep_fupd _ _)

/-- What every device may open, and that every cell is in its first round. -/
def Recs (K : Dev nD × Ky → ℕ) (J : Dev nD × (Bool × Fin 4) → ℕ) : sProp 𝕄 :=
  iprop(bigSep Finset.univ (fun p : Dev nD × Ky => cellInv ER (Rd X Wt) (K p) (kcell p))
    ∗ bigSep Finset.univ (fun p : Dev nD × (Bool × Fin 4) => slotInv ES (J p) (skOf p) (raw p.1 (rS p.2.1 p.2.2.val)))
    ∗ bigSep Finset.univ (fun p : Dev nD × Ky => reached ER (kcell p) 0))
instance Recs_persistent (K : Dev nD × Ky → ℕ) (J : Dev nD × (Bool × Fin 4) → ℕ) : BI.Persistent (Recs X Wt K J) := by unfold Recs; infer_instance

/-- What stays with one device. -/
def Mine (c : Dev nD) : sProp 𝕄 :=
  iprop(bigSep Finset.univ (fun k : Ky => atPos ER (kcell (c, k)) 0 ∅ 0) ∗ Pays c ∗ PaysW c
    ∗ bigSep Finset.univ (fun q : Bool × Fin 4 => readerAt ES (skOf (c, q)) 0) ∗ Locals c)

def G' (c : Dev nD) : sProp 𝕄 := iprop(∃ K, ∃ J, Recs X Wt K J ∗ Mine c)

theorem mine_of : iprop(bigSep Finset.univ (fun c : Dev nD => bigSep Finset.univ fun k : Ky => atPos ER (kcell (c, k)) 0 ∅ 0)
      ∗ bigSep Finset.univ (fun c : Dev nD => Pays c) ∗ bigSep Finset.univ (fun c : Dev nD => PaysW c)
      ∗ bigSep Finset.univ (fun c : Dev nD => bigSep Finset.univ (fun q : Bool × Fin 4 => readerAt ES (skOf (c, q)) 0)) ∗ bigSep Finset.univ (fun c : Dev nD => Locals c))
    ⊢ (bigSep Finset.univ (fun c : Dev nD => Mine c) : sProp 𝕄) := by
  unfold Mine
  rw [bigSep_sep', bigSep_sep', bigSep_sep', bigSep_sep']

theorem regroup :
    iprop((bigSep Finset.univ fun c : Dev nD => iprop((bigSep Finset.univ fun k : Ky => iprop(∃ κ : ℕ, cellInv ER (Rd X Wt) κ (kcell (c, k))))
          ∗ (bigSep Finset.univ fun k : Ky => iprop(atPos ER (kcell (c, k)) 0 ∅ 0 ∗ reached ER (kcell (c, k)) 0)) ∗ Has c ∗ Locals c))
        ∗ (∃ ιs : Dev nD × ℕ → ℕ, bigSep sKeys (fun k => slotInv ES (ιs k) k (slotOf k)) ∗ bigSep sKeys (fun k => readerAt ES k 0)
          ∗ bigSep (sKeys ×ˢ Finset.range 4) (fun x => writeTok ES x.1 (x.2 + 1))))
      ⊢ (bigSep Finset.univ (G' X Wt) : sProp 𝕄) := by
  rw [bigSep_sep', bigSep_sep', bigSep_sep', ← bigSep_univ_prod (fun ck : Dev nD × Ky => iprop(∃ κ : ℕ, cellInv ER (Rd X Wt) κ (kcell ck))),
    bigSep_congr (s := Finset.univ) (fun (c : Dev nD) _ => bigSep_sep' Finset.univ (fun k : Ky => (atPos ER (kcell (c, k)) 0 ∅ 0 : sProp 𝕄)) (fun k => reached ER (kcell (c, k)) 0)),
    bigSep_sep', ← bigSep_univ_prod (fun ck : Dev nD × Ky => (reached ER (kcell ck) 0 : sProp 𝕄)), wr_all]
  iintro ⟨⟨HI, ⟨Hat, #HR⟩, Htok, Hl⟩, ⟨%ιs, HJ, Hrd, Hw⟩⟩
  ihave HK := (BI.bigSep_exists_pi Finset.univ (fun (ck : Dev nD × Ky) (κ : ℕ) => (cellInv ER (Rd X Wt) κ (kcell ck) : sProp 𝕄))) $$ HI
  icases HK with ⟨%K, #HI⟩
  ihave HJ := (show (bigSep sKeys (fun k => slotInv ES (ιs k) k (slotOf k)) : sProp 𝕄)
      ⊢ bigSep Finset.univ (fun p : Dev nD × (Bool × Fin 4) => slotInv ES (ιs (skOf p)) (skOf p) (raw p.1 (rS p.2.1 p.2.2.val))) from by
    unfold sKeys; rw [bigSep_map]
    exact bigSep_mono fun p _ => Entails.of_eq (congrArg (fun P => slotInv ES (ιs (skOf p)) (skOf p) P) (slotOf_at p))) $$ HJ
  icases HJ with #HJ
  ihave Hrd := (show (bigSep sKeys (fun k => readerAt ES k 0) : sProp 𝕄)
      ⊢ bigSep Finset.univ (fun c : Dev nD => bigSep Finset.univ (fun q : Bool × Fin 4 => readerAt ES (skOf (c, q)) 0)) from by
    unfold sKeys; rw [bigSep_map, bigSep_univ_prod]; exact .rfl) $$ Hrd
  ihave Htk := (toks_dealt (F := F)) $$ Htok
  ihave Hw := (wr_dealt (F := F)) $$ Hw
  ihave HM := (mine_of (F := F)) $$ [Hat Htk Hw Hrd Hl]
  · isplitl [Hat]; · iexact Hat
    isplitl [Htk]; · iexact Htk
    isplitl [Hw]; · iexact Hw
    isplitl [Hrd] <;> iassumption
  iapply ((sep_mono_left (BI.bigSep_of_persistent (Finset.univ : Finset (Dev nD)) (Recs X Wt K (fun p => ιs (skOf p))))).trans
    (show iprop(bigSep Finset.univ (fun _ : Dev nD => Recs X Wt K (fun p => ιs (skOf p))) ∗ bigSep Finset.univ (fun c : Dev nD => Mine c)) ⊢ bigSep Finset.univ (G' X Wt) from by
      rw [← bigSep_sep']
      refine bigSep_mono fun c _ => show iprop(Recs X Wt K (fun p => ιs (skOf p)) ∗ Mine c) ⊢ G' X Wt c from ?_
      unfold G'
      iintro H; iexists K; iexists (fun p => ιs (skOf p)); iexact H))
  isplitr
  · unfold Recs
    isplitr; · iexact HI
    isplitr; · iexact HJ
    iexact HR
  · iexact HM

/-- The global step: own and unscoped semaphores of every device at once. -/
theorem glob : (bigSep Finset.univ fun c => iprop(Pipeline.ownSems0 (Ix := ℕ) (Name := ℕ) (U := UU) (Lvl := ℕ) (Val := Elt F) (τ := τ) osem c ∗ unscopedSems0 c ∗ G X Wt c) : sProp 𝕄)
    ⊢ |={Set.univ}=> bigSep Finset.univ (G' X Wt) := by
  refine .trans (show _ ⊢ iprop((bigSep Finset.univ fun c => iprop(Pipeline.ownSems0 (Ix := ℕ) (Name := ℕ) (U := UU) (Lvl := ℕ) (Val := Elt F) (τ := τ) osem c ∗ unscopedSems0 c ∗ Gr X Wt c))
      ∗ bigSep Finset.univ Gs) from ?_) ?_
  · rw [← bigSep_sep']
    refine bigSep_mono fun c _ => show iprop(_ ∗ _ ∗ G X Wt c) ⊢ iprop((_ ∗ _ ∗ _) ∗ Gs c) from ?_
    unfold G
    iintro ⟨H1, H2, H3, H4⟩
    isplitl [H1 H2 H3]
    · isplitl [H1]; · iexact H1
      isplitl [H2] <;> iassumption
    iexact H4
  · iintro ⟨H, HS⟩
    imod (alloc_all X Wt) $$ H with H
    ihave HS := (slots_kept (F := F)) $$ HS
    imod (slots_init ES sKeys 4 (slotOf (F := F)) (Es := Set.univ)) $$ HS with ⟨%ιs, -, HS⟩
    imodintro
    iapply (regroup X Wt)
    isplitl [H]; · iexact H
    iexists ιs
    iexact HS

/-! ## The launch credit -/

def O₀ (c : Dev nD) : CellTallies nD τ sig ℕ := owM c 0 0 0 0 + owB c true + owB c false

/-- The credit of what the neighbours owe a channel. -/
def ChCred (b : Bool) (c : Dev nD) : sProp 𝕄 := iprop(bigSep (Finset.Ico 0 12) (crCred c b) ∗ bigSep (Finset.Ico 0 16) (rvCred c b))

theorem cred_rv (b : Bool) (c : Dev nD) : (Pipeline.launchCred (fun d => owR d b 0) c : sProp 𝕄) ⊢ bigSep (Finset.Ico 0 16) (rvCred c b) := by
  unfold owR
  rw [Pipeline.launchCred_sum]
  exact bigSep_mono fun u _ => Pipeline.launchCred_tallyAt (.dma (rvS b u)) (pc b) (pc b) (pc_pc b) (pc_pc b) (iR b u) NC c
theorem cred_cr (b : Bool) (c : Dev nD) : (Pipeline.launchCred (fun d => owL d b 0) c : sProp 𝕄) ⊢ bigSep (Finset.Ico 0 12) (crCred c b) := by
  unfold owL
  rw [Pipeline.launchCred_sum]
  exact bigSep_mono fun m _ => Pipeline.launchCred_tallyAt (.reg (crS b)) (pc b) (pc b) (pc_pc b) (pc_pc b) (m + 5) 1 c
theorem cred_bar (b : Bool) (c : Dev nD) : (Pipeline.launchCred (fun d => owB d b) c : sProp 𝕄) ⊢ cred (tallyAt (barC c) 1 1) :=
  Pipeline.launchCred_tallyAt (.reg barS) (pc b) (pc b) (pc_pc b) (pc_pc b) 1 1 c
theorem cred_sr (c : Dev nD) : (Pipeline.launchCred (fun d => owS d) c : sProp 𝕄) ⊢ cred (tallyAt (srC c) 100 NS) :=
  Pipeline.launchCred_tallyAt (.dma srS) py py py_py py_py 100 NS c

theorem creds (c : Dev nD) : (Pipeline.launchCred O₀ c : sProp 𝕄)
    ⊢ iprop(ChCred false c ∗ ChCred true c ∗ cred (tallyAt (srC c) 100 NS) ∗ cred (tallyAt (barC c) 1 2)) := by
  unfold O₀ owM
  rw [Pipeline.launchCred_add, Pipeline.launchCred_add, Pipeline.launchCred_add, Pipeline.launchCred_add, Pipeline.launchCred_add, Pipeline.launchCred_add]
  iintro ⟨⟨⟨⟨⟨⟨H1, H2⟩, H3⟩, H4⟩, H5⟩, H6⟩, H7⟩
  ihave H1 := (cred_rv (F := F) false c) $$ H1
  ihave H2 := (cred_rv (F := F) true c) $$ H2
  ihave H3 := (cred_cr (F := F) false c) $$ H3
  ihave H4 := (cred_cr (F := F) true c) $$ H4
  ihave H5 := (cred_sr (F := F) c) $$ H5
  ihave H6 := (cred_bar (F := F) true c) $$ H6
  ihave H7 := (cred_bar (F := F) false c) $$ H7
  unfold ChCred
  isplitl [H1 H3]
  · isplitl [H3] <;> iassumption
  isplitl [H2 H4]
  · isplitl [H4] <;> iassumption
  isplitl [H5]; · iexact H5
  rw [← tallyAt_add (barC c) 1 1 1]
  iapply (cred_add _ _).2
  isplitl [H6] <;> iassumption

end Cert.Proof.Run

end
-- ==== Proof.Begin.lean ====
/-
One device's share of the launch, put in the form its run starts from.
-/
module

public import proofs.«01_k».proof.Proof.Deal

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable {X : Dev nD → Vec F S1024x2048 .f32} {Wt : Dev nD → Vec F S2048x16384 .f32}
variable {K : Dev nD × Ky → ℕ} {J : Dev nD × (Bool × Fin 4) → ℕ} {c : Dev nD}

/-! ## Every cell is in its first round -/

theorem at_cell (d : Dev nD) (k : Ky) : Recs X Wt K J ⊢ reached ER ((d : Thread nD τ), kc k) 0 := by
  unfold Recs
  exact sep_elim_right.trans (sep_elim_right.trans (bigSep_elim (Finset.mem_univ (d, k))))
theorem at_sd (b : Bool) (d : Dev nD) (u : ℕ) : Recs X Wt K J ⊢ reached ER (sdC b d u) 0 := by
  have h := at_cell (X := X) (Wt := Wt) (K := K) (J := J) d (kSd b u)
  rw [kc_sd] at h; exact h
theorem at_rv (b : Bool) (d : Dev nD) (u : ℕ) : Recs X Wt K J ⊢ reached ER (rvC b d u) 0 := by
  have h := at_cell (X := X) (Wt := Wt) (K := K) (J := J) d (kRv b u)
  rw [kc_rv] at h; exact h
theorem env_of : iprop(levAts L lv ∗ Recs X Wt K J) ⊢ Env X Wt K J := by
  unfold Recs Env
  iintro ⟨H1, H2, H3, -⟩
  isplitl [H1]; · iexact H1
  isplitl [H2] <;> iassumption

/-! ## A channel at the start -/

/-- A device's part of channel `b`. -/
def ChPart (b : Bool) (c : Dev nD) : sProp 𝕄 :=
  iprop((bigSep (Finset.range 4) (fun u => atPos ER (sdC b c u) 0 ∅ 0) ∗ bigSep (Finset.range 4) (fun u => atPos ER (rvC b c u) 0 ∅ 0) ∗ atPos ER (crC b c) 0 ∅ 0)
    ∗ (Near b c ∗ Far b (pc b c) ∗ Wr b (pc b c)) ∗ bigSep (Finset.range 4) (fun u => readerAt ES (skey b c u) 0) ∗ raw c (rM b) ∗ ChCred b c
    ∗ bigSep (Finset.range 4) (stV c b) ∗ bigSep (Finset.range 16) (oGap c b))

theorem ch_start {b : Bool} : iprop(Recs X Wt K J ∗ ChPart b c) ⊢ ChStart b c := by
  unfold ChPart ChStart Near Far Wr ChCred
  simp only [Nat.Ico_zero_eq_range]
  iintro ⟨#HR, ⟨Hsd, Hrv, Hcr⟩, ⟨Hn, ⟨Hfc, Hfr⟩, Hw⟩, Hrd, Hraw, ⟨Hcc, Hcv⟩, Hst, Hg⟩
  isplitl [Hsd Hn Hfr Hw]
  · isplitl [Hsd]
    · iapply (bigSep_using (R := Recs X Wt K J) (S := Finset.range 4) (Φ := fun u => atPos ER (sdC b c u) 0 ∅ 0) (Ψ := sdPos c b) fun u hu => by
        have h : u / 4 = 0 := by have := Finset.mem_range.mp hu; omega
        unfold sdPos; rw [h]
        iintro ⟨#HR, H⟩
        isplitl; · iexact H
        iapply (at_sd (X := X) (Wt := Wt) (K := K) (J := J) b c u); iexact HR)
      isplitr; · iexact HR
      iexact Hsd
    · iapply (pair_in (Finset.range 16) (fun u => dutyTok ER (sdC b c u) (u / 4) 0)
        (fun u => iprop(dutyTok ER (rvC b (pc b c) u) (u / 4) 0 ∗ writeTok ES (skey b (pc b c) u) (u / 4 + 1))))
      isplitl [Hn]; · iexact Hn
      iapply (pair_in (Finset.range 16) (fun u => dutyTok ER (rvC b (pc b c) u) (u / 4) 0) (fun u => writeTok ES (skey b (pc b c) u) (u / 4 + 1)))
      isplitl [Hfr] <;> iassumption
  isplitl [Hcc Hcr]
  · isplitl [Hcc] <;> iassumption
  isplitl [Hrv Hcv]
  · isplitl [Hrv]
    · iapply (show bigSep (Finset.range 4) (fun u => atPos ER (rvC b c u) 0 ∅ 0) ⊢ bigSep (Finset.range 4) (rvPos (F := F) c b) from
        Entails.of_eq (bigSep_congr fun u hu => by
          have h : u / 4 = 0 := by have := Finset.mem_range.mp hu; omega
          unfold rvPos; rw [h]))
      iexact Hrv
    isplitr
    · iapply ((BI.bigSep_of_persistent (Finset.range 4) (Recs X Wt K J)).trans
        (show bigSep (Finset.range 4) (fun _ => Recs X Wt K J) ⊢ bigSep (Finset.range 4) (rvOpen (F := F) c b) from bigSep_mono fun u hu => by
          have h : u / 4 = 0 := by have := Finset.mem_range.mp hu; omega
          unfold rvOpen; rw [h]
          exact at_rv b c u))
      iexact HR
    iexact Hcv
  isplitl [Hrd Hraw Hfc]
  · isplitl [Hrd Hraw]
    · iapply (pair_in (Finset.range 4) (fun u => readerAt ES (skey b c u) 0) (fun u => (raw c (rS b u) : sProp 𝕄)))
      isplitl [Hrd]; · iexact Hrd
      iapply (r_cut (c := c) b); iexact Hraw
    isplitl [Hfc]; · iexact Hfc
    iapply (at_cell (X := X) (Wt := Wt) (K := K) (J := J) (pc b c) (kCr b)); iexact HR
  isplitl [Hst] <;> iassumption

/-! ## The device's own buffers at the start -/

theorem cw_start : iprop(raw c wbM ∗ bigSep (Finset.range 2) (wdV c) ∗ owns (c : Thread nD τ) wM fullShare (Wt c)) ⊢ CW Wt c ⟨0, 0, 0⟩ := by
  unfold CW
  iintro ⟨Hb, Hv, Hw⟩
  isplitr; · iapply (ico_empty 0 (wHeld Wt c)); iempintro
  isplitr; · iapply (ico_empty 0 (wFly Wt c)); iempintro
  isplitl [Hb Hv]
  · iapply (show iprop(raw c wbM ∗ bigSep (Finset.range 2) (wdV c)) ⊢ bigSep (Finset.Ico 0 2) (wFree (F := F) c) from by
      rw [Nat.Ico_zero_eq_range]
      exact (sep_mono_left (wb_cut c)).trans (pair_in (Finset.range 2) (fun u => (raw c (wbS u) : sProp 𝕄)) (wdV c)))
    isplitl [Hb] <;> iassumption
  isplitr; · rw [Finset.range_zero, bigSep_empty]; iempintro
  iapply (show (owns (c : Thread nD τ) wM fullShare (Wt c) : sProp 𝕄) ⊢ bigSep (Finset.Ico 0 32) (wSrc Wt c) from by
    rw [Nat.Ico_zero_eq_range]
    exact (w_cut c Wt).trans (Entails.of_eq (by_jof c (fun j => (owns (c : Thread nD τ) (wC j) fullShare (wch Wt c j) : sProp 𝕄))).symm))
  iexact Hw

theorem ce_start : iprop(raw c ebM ∗ bigSep (Finset.range 2) (esV c) ∗ bigSep (Finset.range 32) (oRaw c)) ⊢ CE X Wt c ⟨0, 0, 0⟩ := by
  unfold CE
  iintro ⟨Hb, Hv, Ho⟩
  isplitr; · iapply (ico_empty 0 (eFly X Wt c)); iempintro
  isplitr; · iapply (ico_empty 0 (eFull X Wt c)); iempintro
  isplitl [Hb Hv]
  · iapply (show iprop(raw c ebM ∗ bigSep (Finset.range 2) (esV c)) ⊢ bigSep (Finset.Ico 0 2) (eFree (F := F) c) from by
      rw [Nat.Ico_zero_eq_range]
      exact (sep_mono_left (eb_cut c)).trans (pair_in (Finset.range 2) (fun u => (raw c (ebS u) : sProp 𝕄)) (esV c)))
    isplitl [Hb] <;> iassumption
  rw [Nat.Ico_zero_eq_range]
  iexact Ho

/-- The device's buffers at the start. -/
def Bufs0 (X : Dev nD → Vec F S1024x2048 .f32) (Wt : Dev nD → Vec F S2048x16384 .f32) (c : Dev nD) : sProp 𝕄 :=
  iprop(owns (c : Thread nD τ) xM fullShare (X c) ∗ owns (c : Thread nD τ) wM fullShare (Wt c) ∗ raw c oM
    ∗ raw c wbM ∗ raw c ebM ∗ raw c yrM ∗ raw c xrM ∗ raw c sM ∗ raw c soM ∗ raw c ivM)

/-- What the launch gives a device besides its buffers. -/
def Ghost (X : Dev nD → Vec F S1024x2048 .f32) (Wt : Dev nD → Vec F S2048x16384 .f32) (c : Dev nD) : sProp 𝕄 :=
  iprop(G' X Wt c ∗ levAts L lv ∗ ChCred false c ∗ ChCred true c ∗ cred (tallyAt (srC c) 100 NS) ∗ cred (tallyAt (barC c) 1 2))

theorem readers (c : Dev nD) : bigSep Finset.univ (fun q : Bool × Fin 4 => (readerAt ES (skOf (c, q)) 0 : sProp 𝕄))
    = iprop(bigSep (Finset.range 4) (fun u => readerAt ES (skey false c u) 0) ∗ bigSep (Finset.range 4) (fun u => readerAt ES (skey true c u) 0)) := by
  rw [bigSep_univ_prod, bigSep_bool, ← bigSep_fin 4 (fun u => (readerAt ES (skey false c u) 0 : sProp 𝕄)), ← bigSep_fin 4 (fun u => (readerAt ES (skey true c u) 0 : sProp 𝕄))]

theorem begin_of : iprop(Ghost X Wt c ∗ Ow c (O₀ c) ∗ Bufs0 X Wt c) ⊢ ∃ K J, Start X Wt K J c ∗ CX0 c ∗ LastV c := by
  unfold Ghost G' Bufs0
  iintro ⟨⟨⟨%K, %J, #HR, HM⟩, #Hlev, Hcf, Hct, Hcs, Hcb⟩, HO, Hx, Hw, Ho, Hwb, Heb, Hyr, Hxr, Hs, Hso, Hiv⟩
  iexists K
  iexists J
  unfold Mine Pays PaysW HasY HasX HasN Locals
  icases HM with ⟨Hat, ⟨⟨Hb0, Hff, Hsr⟩, ⟨Hb1, Hft⟩, Hnf, Hnt, Hss⟩, ⟨Hwf, Hwt⟩, Hrd, ⟨Hes, Hwd⟩, ⟨Hpl, Hps⟩, Hsf, Hst⟩
  ihave Hat := (Entails.of_eq ((by_Ky (F := F) (fun s => atPos ER ((c : Thread nD τ), s) 0 ∅ 0)).trans
    (congrArg (fun P => iprop(atPos ER (barC c) 0 ∅ 0 ∗ P)) (by_Kz (F := F) (fun s => atPos ER ((c : Thread nD τ), s) 0 ∅ 0))))) $$ Hat
  icases Hat with ⟨Hab, ⟨Hacf, Hact⟩, ⟨⟨Harf, Hart⟩, Hasf, Hast⟩, Hasr, Hass⟩
  ihave Hrd := (Entails.of_eq (readers (F := F) c)) $$ Hrd
  icases Hrd with ⟨Hrf, Hrt⟩
  ihave Ho := ((o_cut (F := F) (c := c)).trans (Entails.of_eq (by_gof c (fun g => (raw c (oC g) : sProp 𝕄))))) $$ Ho
  icases Ho with ⟨Hoo, Hof, Hot⟩
  unfold Start
  isplitl [HO Hab Hcb Hb0 Hb1 Hcf Hct Hff Hft Hnf Hnt Hwf Hwt Hacf Hact Harf Hart Hasf Hast Hrf Hrt Hyr Hxr Hsf Hst Hof Hot Hx Hw Hoo Hwb Heb Hs Hso Hiv Hes Hwd]
  · isplitr
    · iapply (env_of (X := X) (Wt := Wt) (K := K) (J := J))
      isplitr; · iexact Hlev
      iexact HR
    isplitl [HO]; · iexact HO
    isplitl [Hab Hcb Hb0 Hb1]
    · unfold Bar
      isplitl [Hab]; · iexact Hab
      isplitl [Hcb]; · iexact Hcb
      isplitl [Hb0]; · iexact Hb0
      isplitr; · iapply (at_cell (X := X) (Wt := Wt) (K := K) (J := J) (py c) kBar); iexact HR
      isplitl [Hb1]; · iexact Hb1
      iapply (at_cell (X := X) (Wt := Wt) (K := K) (J := J) (px c) kBar); iexact HR
    isplitl [Hcf Hff Hnf Hwf Hacf Harf Hasf Hrf Hyr Hsf Hof]
    · iapply (ch_start (X := X) (Wt := Wt) (K := K) (J := J) (c := c) (b := false))
      isplitr; · iexact HR
      unfold ChPart
      isplitl [Hasf Harf Hacf]
      · isplitl [Hasf]; · iexact Hasf
        isplitl [Harf] <;> iassumption
      isplitl [Hnf Hff Hwf]
      · isplitl [Hnf]; · iexact Hnf
        isplitl [Hff]; · iexact Hff
        iexact Hwf
      isplitl [Hrf]; · iexact Hrf
      isplitl [Hyr]; · iexact Hyr
      isplitl [Hcf]; · iexact Hcf
      isplitl [Hsf] <;> iassumption
    isplitl [Hct Hft Hnt Hwt Hact Hart Hast Hrt Hxr Hst Hot]
    · iapply (ch_start (X := X) (Wt := Wt) (K := K) (J := J) (c := c) (b := true))
      isplitr; · iexact HR
      unfold ChPart
      isplitl [Hast Hart Hact]
      · isplitl [Hast]; · iexact Hast
        isplitl [Hart] <;> iassumption
      isplitl [Hnt Hft Hwt]
      · isplitl [Hnt]; · iexact Hnt
        isplitl [Hft]; · iexact Hft
        iexact Hwt
      isplitl [Hrt]; · iexact Hrt
      isplitl [Hxr]; · iexact Hxr
      isplitl [Hct]; · iexact Hct
      isplitl [Hst] <;> iassumption
    isplitl [Hso]; · iexact Hso
    isplitl [Hs]; · iexact Hs
    isplitl [Hx]; · iexact Hx
    isplitl [Hiv]; · iexact Hiv
    isplitl [Hwb Hwd Hw]
    · iapply (cw_start (Wt := Wt) (c := c))
      isplitl [Hwb]; · iexact Hwb
      isplitl [Hwd] <;> iassumption
    · iapply (ce_start (X := X) (Wt := Wt) (c := c))
      isplitl [Heb]; · iexact Heb
      isplitl [Hes] <;> iassumption
  isplitl [Hass Hasr Hss Hsr Hcs]
  · unfold CX0
    isplitl [Hass]; · iexact Hass
    isplitl [Hasr]; · iexact Hasr
    isplitl [Hss]; · iexact Hss
    isplitl [Hsr]; · iexact Hsr
    isplitr; · iapply (at_cell (X := X) (Wt := Wt) (K := K) (J := J) c kSs); iexact HR
    isplitr; · iapply (at_cell (X := X) (Wt := Wt) (K := K) (J := J) (py c) kSr); iexact HR
    iexact Hcs
  · unfold LastV
    simp only [Nat.Ico_zero_eq_range]
    isplitl [Hps] <;> iassumption

/-- The kernel's body on one device, from what the launch gives it. -/
theorem device_run : iprop(Ghost X Wt c ∗ Ow c (O₀ c) ∗ Bufs0 X Wt c) ⊢ WP c (onBufs (cc0_body (F := F))) (fun _ => Final X Wt c) := by
  refine begin_of.trans ?_
  iintro ⟨%K, %J, H⟩
  iapply (body_run (X := X) (Wt := Wt) (K := K) (J := J) (c := c))
  iexact H

end Cert.Proof.Run

end
-- ==== Proof.Launched.lean ====
/-
The run of one device, put in the launch's terms.
-/
module

public import proofs.«01_k».proof.Proof.Begin
public import proofs.«01_k».proof.Proof.Gen.KernelIdeal.Points

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## What each device's arrays hold -/

theorem one_point : cfg0.N = 1 := by decide
def t₀ : Fin cfg0.N := ⟨0, by rw [one_point]; decide⟩
theorem is_point (t : Fin cfg0.N) : t = t₀ := by
  obtain ⟨t, ht⟩ := t; have := one_point; exact Fin.ext (by simp only [t₀]; omega)

/-- The machine before the run. -/
def s₀ : MemSt nD τ sig (Elt F) := ⟨m, fun _ => 0, ρ⟩

/-- Device `c`'s copy of the left array, as its stage holds it. -/
def Xm (c : Dev nD) : Vec F S1024x2048 .f32 := (win0_0.blk t₀).view.read (Elt F) (m ((c : Thread nD τ).loc main_arg0))
/-- Device `c`'s half of the right array. -/
def Wm (c : Dev nD) : Vec F S2048x16384 .f32 := m ((c : Thread nD τ).loc main_arg1)

/-! ## The buffers of a device, each whole -/

/-- A buffer held whole at some contents. -/
def some (c : Dev nD) (b : Ref sig .tc) : sProp 𝕄 := iprop(∃ f : Buf (Elt F) ((c : Thread nD τ).loc b), ((c : Thread nD τ).loc b) ↦{fullShare} f)
/-- A buffer held whole at the contents `v`. -/
def at' (c : Dev nD) (b : Ref sig .tc) (v : Buf (Elt F) ((c : Thread nD τ).loc b)) : sProp 𝕄 := iprop(((c : Thread nD τ).loc b) ↦{fullShare} v)

/-- The seven buffers the kernel allocates. -/
def Scr (c : Dev nD) : sProp 𝕄 :=
  iprop(some c cc0_scratch0 ∗ some c cc0_scratch1 ∗ some c cc0_scratch2 ∗ some c cc0_scratch3 ∗ some c cc0_scratch4 ∗ some c cc0_scratch5 ∗ some c cc0_scratch6)

theorem raw_whole (c : Dev nD) (b : Ref sig .tc) : (raw c (Memref.whole b) : sProp 𝕄) ⊣⊢ some c b := by
  unfold raw some
  constructor
  · iintro ⟨%X, H⟩
    ihave H := (Entails.of_eq (owns_whole c b fullShare X)) $$ H
    iexists X; iexact H
  · iintro ⟨%X, H⟩
    iexists X
    iapply (Entails.of_eq (owns_whole c b fullShare X).symm)
    iexact H

theorem bufs_in (c : Dev nD) : iprop(at' c cc0_stg0_0 (Xm m c) ∗ at' c main_arg1 (Wm m c) ∗ some c main_v1 ∗ Scr c) ⊢ Bufs0 (Xm m) (Wm m) c := by
  unfold Bufs0 Scr at'
  iintro ⟨Hx, Hw, Ho, H0, H1, H2, H3, H4, H5, H6⟩
  isplitl [Hx]; · iapply (Entails.of_eq (owns_whole c cc0_stg0_0 fullShare (Xm m c)).symm); iexact Hx
  isplitl [Hw]; · iapply (Entails.of_eq (owns_whole c main_arg1 fullShare (Wm m c)).symm); iexact Hw
  isplitl [Ho]; · iapply (raw_whole c main_v1).2; iexact Ho
  isplitl [H0]; · iapply (raw_whole c cc0_scratch0).2; iexact H0
  isplitl [H1]; · iapply (raw_whole c cc0_scratch1).2; iexact H1
  isplitl [H2]; · iapply (raw_whole c cc0_scratch2).2; iexact H2
  isplitl [H3]; · iapply (raw_whole c cc0_scratch3).2; iexact H3
  isplitl [H4]; · iapply (raw_whole c cc0_scratch4).2; iexact H4
  isplitl [H5]; · iapply (raw_whole c cc0_scratch5).2; iexact H5
  iapply (raw_whole c cc0_scratch6).2; iexact H6

theorem bufs_out (c : Dev nD) : Bufs (Xm m) (Wm m) c
    ⊢ iprop(at' c cc0_stg0_0 (Xm m c) ∗ at' c main_arg1 (Wm m c) ∗ at' c main_v1 (OUT c (Xm m) (Wm m)) ∗ Scr c) := by
  unfold Bufs Scr at'
  iintro ⟨Hx, Hw, Ho, H0, H1, H2, H3, H4, H5, H6⟩
  isplitl [Hx]; · iapply (Entails.of_eq (owns_whole c cc0_stg0_0 fullShare (Xm m c))); iexact Hx
  isplitl [Hw]; · iapply (Entails.of_eq (owns_whole c main_arg1 fullShare (Wm m c))); iexact Hw
  isplitl [Ho]; · iapply (Entails.of_eq (owns_whole c main_v1 fullShare (OUT c (Xm m) (Wm m)))); iexact Ho
  isplitl [H0]; · iapply (raw_whole c cc0_scratch0).1; iexact H0
  isplitl [H1]; · iapply (raw_whole c cc0_scratch1).1; iexact H1
  isplitl [H2]; · iapply (raw_whole c cc0_scratch2).1; iexact H2
  isplitl [H3]; · iapply (raw_whole c cc0_scratch3).1; iexact H3
  isplitl [H4]; · iapply (raw_whole c cc0_scratch4).1; iexact H4
  isplitl [H5]; · iapply (raw_whole c cc0_scratch5).1; iexact H5
  iapply (raw_whole c cc0_scratch6).1; iexact H6

/-! ## The launch's data -/

/-- What a device holds before its run, besides the stage and the buffers the kernel allocates. -/
def before (c : Dev nD) : sProp 𝕄 := iprop(Ghost (Xm m) (Wm m) c ∗ at' c main_arg1 (Wm m c) ∗ some c main_v1)
def Φ₀ (c : Dev nD) : sProp 𝕄 := iprop(before m c ∗ Scr c)
/-- What it holds after. -/
def Φ₁ (c : Dev nD) : sProp 𝕄 :=
  iprop((semVal (barC c) 0 ∗ at' c main_arg1 (Wm m c) ∗ at' c main_v1 (OUT c (Xm m) (Wm m))) ∗ Zeros c ∗ Scr c)

def dats (_ : Fin 1) (c : Dev nD) : Pipeline.Dat τ (Elt F) ℕ ℕ UU ℕ cfg0 c where
  A w := (s₀ m ρ).mem ((cfg0.win w).arr.view.loc (c : Thread nD τ))
  after w _ := match w with
    | ⟨0, _⟩ => Xm m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-! ## The body -/

/-- The stage, held whole at the contents `v`. -/
def stg (c : Dev nD) (v : Vec F S1024x2048 .f32) : sProp 𝕄 :=
  iprop(∃ f : Buf (Elt F) ((c : Thread nD τ).loc cc0_stg0_0), ⌜f = v⌝ ∗ (((c : Thread nD τ).loc cc0_stg0_0) ↦{fullShare} f))

theorem staged (c : Dev nD) (d) : (dats m ρ 0 c).before (0 : Fin 1) t₀ d = Xm m c := by
  unfold Pipeline.Dat.before; rw [if_pos (fetch0_0 t₀)]; rfl

def bodyPre (c : Dev nD) : sProp 𝕄 :=
  iprop(Φ₀ m c ∗ (dats m ρ 0 c).owesAt 0 t₀.castSucc ∗ (∃ d, stg c ((dats m ρ 0 c).before (0 : Fin 1) t₀ d)))
def bodyPost (c : Dev nD) : sProp 𝕄 :=
  iprop(Φ₁ m c ∗ (dats m ρ 0 c).owesAt 0 t₀.succ ∗ stg c (Xm m c))

theorem body_in (c : Dev nD) : bodyPre m ρ c ⊢ iprop(Ghost (Xm m) (Wm m) c ∗ Ow c (O₀ c) ∗ Bufs0 (Xm m) (Wm m) c) := by
  unfold bodyPre Φ₀ before Pipeline.Dat.owesAt Pipeline.owesWithin stg Ow
  iintro ⟨⟨⟨HG, Hw, Ho⟩, Hs⟩, ⟨%W, -, HO⟩, %d, %f, %hf, Hx⟩
  have hX : f = Xm m c := hf.trans (staged m ρ c d)
  subst hX
  isplitl [HG]; · iexact HG
  isplitl [HO]; · iexists W; iexact HO
  iapply (bufs_in m c)
  unfold at'
  isplitl [Hx]; · iexact Hx
  isplitl [Hw]; · iexact Hw
  isplitl [Ho] <;> iassumption

theorem body_out (c : Dev nD) : Final (Xm m) (Wm m) c ⊢ bodyPost m ρ c := by
  unfold bodyPost Φ₁ Final Pipeline.Dat.owesAt Pipeline.owesWithin stg Ow
  rw [show (dats m ρ 0 c).owed t₀.succ = 0 from rfl]
  iintro ⟨⟨%W, HO⟩, HB, HZ, Hb⟩
  ihave HB := (bufs_out m c) $$ HB
  icases HB with ⟨Hx, Hw, Ho, Hs⟩
  isplitl [Hw Ho Hs HZ Hb]
  · isplitl [Hb Hw Ho]
    · isplitl [Hb]; · iexact Hb
      isplitl [Hw] <;> iassumption
    isplitl [HZ] <;> iassumption
  isplitl [HO]
  · iexists W
    isplitr; · ipureintro; exact fun _ _ => Or.inl trivial
    iexact HO
  iexists (Xm m c)
  isplitr; · (ipureintro; rfl)
  unfold at'; iexact Hx

set_option maxRecDepth 4000 in
/-- The body's run, in the launch's terms. -/
theorem body_obligation (c : Dev nD) : Pipeline.BodyObligation (dats (F := F) m ρ 0 c) (defs₀ (F := F)) Variants.none 0 Set.univ := fun t => by
  rw [is_point t]
  rw [bigSep_W0, bigSep_W0]
  simp only [owns_whole_eq]
  show bodyPre m ρ c ⊢ wp frame (wpE (defs₀ (F := F)) Variants.none c none) Set.univ (onBufs (cc0_body (F := F))) (fun _ => bodyPost m ρ c)
  exact (body_in m ρ c).trans (device_run.trans (wp_mono _ _ _ fun _ => body_out m ρ c))

end Cert.Proof.Run

end
-- ==== Proof.Machine.lean ====
/-
The run of the whole machine: the launch of the sixteen devices, and what their memories hold at the end.
-/
module

public import proofs.«01_k».proof.Proof.Launched
public import Idealize.ShloMosaic.Lib.Pipeline.Launch
public import Idealize.ShloMosaic.Lib.Pipeline.CollectiveSegs

@[expose] public section

noncomputable section

namespace Cert.Proof.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Release

variable {F : FTy → Type} [FloatOps F]

local notation "𝕄" => MT nD τ sig ℕ (Elt F) ℕ UU ℕ

variable (m : (ℓ : Loc nD τ sig) → Buf (Elt F) ℓ) (ρ : Dev nD → PrngReg)

/-! ## The launch's side conditions -/

theorem share_eq (c : Dev nD) (w : Fin cfg0.W) : (dats m ρ 0 c).share w = fullShare := by unfold Pipeline.Dat.share; split <;> rfl

theorem start_in (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (Xm m) (Wm m) c)
      ⊢ |={Set.univ}=> iprop(before m c ∗ emp) := by
  rw [Pipeline.unscopedRestP_none, unscopedRest0_eq]
  unfold before Ghost at' some
  iintro ⟨⟨Hw, Ho⟩, Hlev, Hcr, -, HG⟩
  ihave Hc := (creds (F := F) c) $$ Hcr
  icases Hc with ⟨Hf, Ht, Hs, Hb⟩
  imodintro
  isplitl
  · isplitl [HG Hlev Hf Ht Hs Hb]
    · isplitl [HG]; · iexact HG
      isplitl [Hlev]; · iexact Hlev
      isplitl [Hf]; · iexact Hf
      isplitl [Ht]; · iexact Ht
      isplitl [Hs] <;> iassumption
    isplitl [Hw]; · iexact Hw
    iexists _; iexact Ho
  · iempintro

theorem phi_in (c : Dev nD) :
    iprop(before m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀ Scr some
  iintro ⟨Hs, -, Hr⟩
  isplitl [Hs] <;> iassumption

/-- What a device holds when its run is over. -/
def after (c : Dev nD) : sProp 𝕄 := iprop(unscopedSems0 c ∗ at' c main_arg1 (Wm m c) ∗ at' c main_v1 (OUT c (Xm m) (Wm m)))

theorem phi_out (c : Dev nD) :
    (dats m ρ 0 c).Φ (Fin.last cfg0.N) ⊢ iprop(after m c ∗ Pipeline.ownSems0 osem c ∗ Pipeline.scopedRest cfg0.spec c) := by
  rw [show (dats m ρ 0 c).Φ (Fin.last cfg0.N) = Φ₁ m c from rfl, scopedRest0_eq]
  unfold Φ₁ after Scr some
  rw [unscopedSems0_eq]
  iintro ⟨Hy, HZ, Hr⟩
  isplitl [Hy]; · iexact Hy
  isplitl [HZ]; · iapply (zeros_own c); iexact HZ
  iexact Hr

theorem waits (c : Dev nD) : (levAts L lv : sProp 𝕄) ⊢ Pipeline.cellsWaits cfgs (dats m ρ) 0 0 c :=
  Pipeline.cellsWaits_intro cfgs (dats m ρ) 0 0 c fun w s t => mayWait (by decide) (by
    rcases t with ⟨_ | _, ht⟩
    · exact Above_add (Above_add (Above_owM c (Or.inr (by omega)) (Or.inr (by omega)) (Or.inr (by omega)) (Or.inr (by omega)) (by omega))
        (Above_tally (by decide) (by decide))) (Above_tally (by decide) (by decide))
    · exact Above_zero _)

/-! ## The run of the whole machine -/

/-- What is read of a device's memory when the machine stops. -/
def Ends (c : Dev nD) (s : MemSt nD τ sig (Elt F)) : Prop :=
  (∀ sm : SemLoc sig, sm.isScoped .tc = false → s.sem ((c.tc : Thread nD τ), sm) = 0)
    ∧ s.mem ((c : Thread nD τ).loc main_arg1) = Wm m c ∧ s.mem ((c : Thread nD τ).loc main_v1) = OUT c (Xm m) (Wm m)

theorem read_at (c : Dev nD) (b : Ref sig .tc) (v : Buf (Elt F) ((c : Thread nD τ).loc b)) (s : Phys nD τ sig (Elt F)) :
    iprop(at' c b v ∗ SI s) ⊢ (iprop(⌜s.mem.mem ((c : Thread nD τ).loc b) = v⌝ ∗ SI s) : sProp 𝕄) := by
  unfold at'
  iintro ⟨H0, HSI⟩
  icombine HSI H0 gives %h0
  isplitr; · ipureintro; exact Buf.eq_of_forall_mem_univ h0
  iexact HSI

theorem ends (c : Dev nD) (s : Phys nD τ sig (Elt F)) : iprop(after m c ∗ emp ∗ SI s) ⊢ |={Set.univ}=> iprop(⌜Ends m c s.mem⌝ ∗ SI s) := by
  unfold after
  iintro ⟨⟨Hu, Hw, Ho⟩, -, HSI⟩
  ihave H := (read_at c main_arg1 (Wm m c) s) $$ [Hw HSI]
  · isplitl [Hw] <;> iassumption
  icases H with ⟨%hw, HSI⟩
  ihave H := (read_at c main_v1 (OUT c (Xm m) (Wm m)) s) $$ [Ho HSI]
  · isplitl [Ho] <;> iassumption
  icases H with ⟨%ho, HSI⟩
  imod (Pipeline.unscopedSems0_read (X := unscopedSems0 c) (c := c) fupd_intro s) $$ [Hu HSI] with H
  · isplitl [Hu] <;> iassumption
  icases H with ⟨%hs, HSI⟩
  imodintro
  isplitr; · ipureintro; exact ⟨hs, hw, ho⟩
  iexact HSI

/-- What holds of the machine's memory after the run. -/
def Good (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OUT c (Xm m) (Wm m))
    ∧ r.2.sem = fun _ => 0

theorem arg0_end (c : Dev nD) : (dats m ρ 0 c).arrAt (0 : Fin 1) cfg0.N = m ((c : Thread nD τ).loc main_arg0) :=
  (dats (F := F) m ρ 0 c).arrAt_in (0 : Fin 1) rfl _

set_option maxRecDepth 8000 in
/-- From any memory with zero counters, every fair execution of the sixteen kernels ends, with the arguments unchanged,
    each device's result array at `OUT` and every counter at zero. -/
theorem run_main : θ_run defs (onTc (τ := τ) (main (F := F))) (s₀ m ρ) (Good m) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (Xm m) (Wm m)) (G' := G' (Xm m) (Wm m)) (u₀ := u₀)
    (hu₀ := by
      iintro Hu
      imod (fund_all (Xm m) (Wm m)) $$ Hu with H
      imodintro
      iexact H)
    (hglob := glob (Xm m) (Wm m))
    (hA := fun _ _ => rfl) (hpf := fun _ k => k.elim0)
    (X := before m) (Y := after m) (Z := fun _ => iprop(emp))
    (hX := start_in m ρ) (hin := phi_in m ρ) (hout := phi_out m ρ)
    (QY := Ends m) (hY := ends m)
    (hQ := fun _ h hs => ⟨fun c => ⟨((h c).1 (0 : Fin 1)).trans (arg0_end m ρ c), (h c).2.2.2.1, (h c).2.2.2.2⟩, sem_eq_zero hs fun c => (h c).2.2.1⟩)

end Cert.Proof.Run

end
-- ==== Proof.Frames.lean ====
/-
The frames: every program ends, with its arguments unchanged and every counter at zero.
-/
module

public import proofs.«01_k».proof.Defs
public import proofs.«01_k».proof.Proof.Gen.Kernel
public import proofs.«01_k».proof.Proof.Gen.ReferenceIdeal.Run
public import proofs.«01_k».proof.Proof.Machine
public import Idealize.ShloMosaic.Lib.Quiescent

@[expose] public section

noncomputable section

namespace Cert.Proof.Run

open Idealize.ShloMosaic Idealize.ShloMosaic.TcCoe Idealize.SL.Sem

open Cert.KernelIdeal in
/-- What a frame says, of any float values. -/
theorem quiet {F : FTy → Type} [FloatOps F] (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨(h.1 c).1, (h.1 c).2.1⟩, h.2⟩) (run_main m ρ)

theorem frame_ideal : Cert.quiescent_KernelIdeal (hKernelIdeal := Cert.KernelIdeal.Gen.facts) := fun m ρ _ => quiet (F := Ideal) m ρ

/-- The kernel's body table is the one the run was proved of: the two programs are one text. -/
theorem bodies_eq {F : FTy → Type} [FloatOps F] :
    Cert.Kernel.defs₀ (F := F) = Cert.KernelIdeal.defs₀ (F := F) := by
  funext p ℓ a
  match p, ℓ, a with
  | .tc, 0, (t, s) =>
    exact (show Cert.Kernel.cc0_body (F := F) _ _ _ _ _ _ _ _ _ _ _ _ _ _ _ _ _ _ _ _ _ _ _ _ _ _ _ _ _ _ _ _ _ _ = _ from rfl)
  | .scScalar _, _, _ => rfl
  | .scVector _ _, _, _ => rfl

theorem tables_eq {F : FTy → Type} [FloatOps F] :
    Cert.Kernel.defs (F := F) = Cert.KernelIdeal.defs (F := F) :=
  congrArg (Pipeline.defs (Cert.KernelIdeal.pcfgs (F := F))) bodies_eq

/-- The kernel at the machine's floats: the run holds of any float values. -/
theorem frame_kernel : Cert.quiescent_Kernel (hKernel := Cert.Kernel.Gen.facts) := fun m ρ _ => by
  rw [tables_eq]
  exact quiet (F := Bits) m ρ

/-- The reference ends with its arguments unchanged; it has no counters. -/
theorem frame_reference : Cert.quiescent_ReferenceIdeal (hReferenceIdeal := Cert.ReferenceIdeal.Gen.facts) := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

end Cert.Proof.Run

end
-- ==== Proof.Softmax.lean ====
/-
# A softmax is the same with its maximum subtracted or not, on real logits

The logits are reals among the extended reals. Sums and exponentials of them are reals, the maximum of a nonempty row is
one of them, and a common factor leaves a quotient as it is. The columns of the whole array, cut into chunks and taken
from any chunk on, add to the same sum.
-/
module

public import Idealize.ShloMosaic.PureOps.Ideal
public import Idealize.ShloMosaic.Lib.IdealHost

@[expose] public section

noncomputable section

namespace Cert.Proof.Softmax

open Idealize.ShloMosaic
open scoped BigOperators

/-! ## Reals among the extended reals -/

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- An extended real below infinity in size is a real. -/
theorem real_of_abs_lt {x : EReal} (h : max x (-x) < ⊤) : ∃ r : ℝ, x = r := by
  induction x using EReal.rec with
  | bot => simp at h
  | coe r => exact ⟨r, rfl⟩
  | top => simp at h

/-- A sum of products of reals is a real. -/
theorem real_dot {ι : Type*} [Fintype ι] (f g : ι → EReal) (hf : ∀ i, ∃ r : ℝ, f i = r) (hg : ∀ i, ∃ r : ℝ, g i = r) :
    ∃ r : ℝ, ∑ i, f i * g i = r := by
  choose f' hf using hf
  choose g' hg using hg
  refine ⟨∑ i, f' i * g' i, ?_⟩
  rw [coe_sum]
  exact Finset.sum_congr rfl fun i _ => by rw [hf, hg, EReal.coe_mul]

/-- The maximum of a nonempty row of reals is a real. -/
theorem real_max {ι : Type*} (s : Finset ι) (hs : s.Nonempty) (f : ι → EReal) (hf : ∀ i, ∃ r : ℝ, f i = r) :
    ∃ r : ℝ, s.fold max (⊥ : EReal) f = r := by
  induction hs using Finset.Nonempty.cons_induction with
  | singleton a => simpa using hf a
  | cons a s ha hs ih =>
    obtain ⟨r, hr⟩ := ih
    obtain ⟨q, hq⟩ := hf a
    rw [Finset.fold_cons, hr, hq]
    exact ⟨max q r, (EReal.coe_strictMono.monotone.map_max).symm⟩

theorem div_coe (a b : ℝ) (hb : b ≠ 0) : Ideal.div (a : EReal) (b : EReal) = ((a / b : ℝ) : EReal) := by
  have h : (b : EReal) ≠ 0 := fun e => hb (by exact_mod_cast e)
  unfold Ideal.div
  rw [if_neg h, div_eq_mul_inv, EReal.coe_mul, EReal.coe_inv]

/-! ## The two softmaxes -/

/-- The exponential times the reciprocal of the row's sum is the quotient with any real subtracted from the row. -/
theorem softmax_shift {ι : Type*} [Fintype ι] [Nonempty ι] (l : ι → EReal) (hl : ∀ i, ∃ r : ℝ, l i = r) (M : EReal)
    (hM : ∃ r : ℝ, M = r) (j : ι) :
    Ideal.exp (l j) * Ideal.div 1 (∑ k, Ideal.exp (l k))
      = Ideal.div (Ideal.exp (l j - M)) (0 + ∑ k, Ideal.exp (l k - M)) := by
  choose l' hl' using hl
  obtain ⟨M', hM'⟩ := hM
  have e1 : ∀ k, Ideal.exp (l k) = ((Real.exp (l' k) : ℝ) : EReal) := fun k => by rw [hl' k]; rfl
  have e2 : ∀ k, Ideal.exp (l k - M) = ((Real.exp (l' k - M') : ℝ) : EReal) := fun k => by
    rw [hl' k, hM', ← EReal.coe_sub]; rfl
  have p1 : (∑ k, Real.exp (l' k)) ≠ 0 := (Finset.sum_pos (fun k _ => Real.exp_pos _) Finset.univ_nonempty).ne'
  have p2 : (∑ k, Real.exp (l' k - M')) ≠ 0 := (Finset.sum_pos (fun k _ => Real.exp_pos _) Finset.univ_nonempty).ne'
  have s : ∑ k, Real.exp (l' k - M') = (∑ k, Real.exp (l' k)) / Real.exp M' := by
    rw [Finset.sum_div]; exact Finset.sum_congr rfl fun k _ => Real.exp_sub _ _
  simp only [e1, e2]
  rw [zero_add, ← coe_sum, ← coe_sum, ← EReal.coe_one, div_coe _ _ p1, div_coe _ _ p2, ← EReal.coe_mul, s, Real.exp_sub]
  have hE := (Real.exp_pos M').ne'
  congr 1
  field_simp

/-! ## The columns in chunks -/

variable {A : Type*} [AddCommMonoid A]

/-- A sum over `a` chunks of `b`. -/
theorem sum_chunks (f : ℕ → A) (b : ℕ) (a : ℕ) :
    ∑ i ∈ Finset.range (a * b), f i = ∑ g ∈ Finset.range a, ∑ k ∈ Finset.range b, f (b * g + k) := by
  induction a with
  | zero => simp
  | succ n ih => rw [Nat.succ_mul, Finset.sum_range_add, Finset.sum_range_succ, ih, Nat.mul_comm n b]

/-- Thirty-two chunks from the first on or from the middle on are the same chunks. -/
theorem sum_turn (h : ℕ → A) (x : ℕ) (hx : x < 2) :
    ∑ t ∈ Finset.range 32, h ((t + 16 * x) % 32) = ∑ t ∈ Finset.range 32, h t := by
  have two : ∀ f : ℕ → A, ∑ t ∈ Finset.range 32, f t = ∑ t ∈ Finset.range 16, f t + ∑ t ∈ Finset.range 16, f (16 + t) :=
    fun f => Finset.sum_range_add f 16 16
  obtain rfl | rfl : x = 0 ∨ x = 1 := by omega
  · exact Finset.sum_congr rfl fun t ht => congrArg h (by have := Finset.mem_range.1 ht; omega)
  · rw [two, two h, add_comm]
    refine congrArg₂ (· + ·) (Finset.sum_congr rfl fun t ht => congrArg h ?_) (Finset.sum_congr rfl fun t ht => congrArg h ?_) <;>
      · have := Finset.mem_range.1 ht; omega

/-- A half of the columns and the other half are all of them. -/
theorem sum_halves (h : ℕ → A) (y : ℕ) (hy : y < 2) :
    ∑ t ∈ Finset.range 32, h (32 * y + t) + ∑ t ∈ Finset.range 32, h (32 * (1 - y) + t) = ∑ g ∈ Finset.range 64, h g := by
  have two : ∑ g ∈ Finset.range 64, h g = ∑ t ∈ Finset.range 32, h t + ∑ t ∈ Finset.range 32, h (32 + t) :=
    Finset.sum_range_add h 32 32
  obtain rfl | rfl : y = 0 ∨ y = 1 := by omega
  · simp [two]
  · simp [two, add_comm]

end Cert.Proof.Softmax

end
-- ==== Proof.Logits.lean ====
/-
# The kernel's result in terms of the whole weights

A device's block of weights is a half of the columns, its chunks are 512 of them each. At every element the result is the
exponential of the logit times the reciprocal of the sum of the exponentials of all the row's logits.
-/
module

public import proofs.«01_k».proof.Proof.Pieces
public import proofs.«01_k».proof.Proof.Softmax
public import Idealize.ShloMosaic.Lib.Layout
public import Idealize.ShloMosaic.Lib.LayoutAt
public import Idealize.ShloMosaic.Lib.MatmulPlain
public import Idealize.ShloMosaic.Lib.ValueIdx
public import Idealize.ShloMosaic.PureOps.Ideal.Laws
public import Idealize.ShloMosaic.Lib.Pipeline.Value

@[expose] public section

noncomputable section

namespace Cert.Proof.Run

open Cert.KernelIdeal Cert.KernelIdeal.Gen
open Idealize.ShloMosaic Idealize.ShloMosaic.TcCoe Idealize.ShloMosaic.ValueIdx
open scoped BigOperators

/-- Column `n` of an array of 32768, `n` taken round. -/
def col (n : ℕ) : Fin 32768 := ⟨n % 32768, Nat.mod_lt _ (by decide)⟩

/-- The logit of row `r` and column `n`. -/
def lg (x : Vec Ideal S1024x2048 .f32) (W : (⟨2, ![2048, 32768]⟩ : Shape).Idx → EReal) (r : Fin 1024) (n : ℕ) : EReal :=
  ∑ q : Fin 2048, x (ix2 r q) * W (ix2 q (col n))

/-- The half of the weights' columns that device `c` holds. -/
abbrev half (c : Dev nD) (W : (⟨2, ![2048, 32768]⟩ : Shape).Idx → EReal) : Vec Ideal S2048x16384 .f32 :=
  Layout.blockN ⟨2, ![2048, 16384]⟩ ⟨2, ![2048, 32768]⟩ (Layout.meshBlock [2, 2, 4] ![[], [1]] c) W

theorem half_at (c : Dev nD) (W : (⟨2, ![2048, 32768]⟩ : Shape).Idx → EReal) (q : Fin 2048) (k : Fin 16384) :
    half c W (ix2 q k) = W (ix2 q (col (16384 * cy c + k.val))) := by
  have hy := cy_lt c
  have hk := k.isLt
  refine congrArg W (Layout.idx_ext fun b => ?_)
  fin_cases b
  · show 0 * 2048 + q.val = q.val; omega
  · show ((c.val / 4) % 2 * 1 + 0) * 16384 + k.val = (16384 * cy c + k.val) % 32768
    have : cy c = c.val / 4 % 2 := rfl
    omega

/-- A block, element by element. -/
theorem blockOf_at (x : Vec Ideal S1024x2048 .f32) (w : Vec Ideal S2048x512 .f32) (r : Fin 1024) (k : Fin 512) :
    blockOf x w (ix2 r k) = Ideal.exp (∑ q : Fin 2048, x (ix2 r q) * w (ix2 q k)) := by
  have hc : shapeCast S1024x2048 x shapeCasts_S1024x2048_S1024x2048 = x :=
    funext fun i => shapeCast_apply x _ i i rfl
  unfold blockOf
  rw [hc]
  show Ideal.exp (FloatOps.matmul (F := Ideal) (φ₁ := .f32) (φ₂ := .f32) (DotDims.plain 1024 2048 512) none x w (constant S1024x512 .f32 0x00000000#32) (ix2 r k)) = _
  rw [Ideal.matmul_plain_apply]
  show Ideal.exp (Ideal.ofBits .f32 0x00000000#32 + _) = _
  rw [Ideal.ofBits_zero_f32, zero_add]

section
variable (x : Vec Ideal S1024x2048 .f32) (W : (⟨2, ![2048, 32768]⟩ : Shape).Idx → EReal)
variable (X : Dev nD → Vec Ideal S1024x2048 .f32) (Wt : Dev nD → Vec Ideal S2048x16384 .f32)
variable (hX : ∀ d, X d = x) (hW : ∀ d, Wt d = half d W)

include hW in
theorem wch_at (d : Dev nD) (j : ℕ) (hj : j < 32) (q : Fin 2048) (k : Fin 512) :
    wch Wt d j (ix2 q k) = W (ix2 q (col (512 * (32 * cy d + j) + k.val))) := by
  have hk := k.isLt
  have e : wch Wt d j (ix2 q k) = Wt d (ix2 q ⟨512 * j + k.val, by omega⟩) := by
    unfold wch
    refine congrArg (Wt d) (Layout.idx_ext fun b => ?_)
    fin_cases b
    · show 0 + 1 * q.val = q.val; omega
    · show 512 * (j % 32) + 1 * k.val = 512 * j + k.val; omega
  rw [e, hW, half_at]
  exact congrArg (fun n => W (ix2 q (col n))) (by show 16384 * cy d + (512 * j + k.val) = _; omega)

include hX hW in
theorem EV_at (d : Dev nD) (j : ℕ) (hj : j < 32) (r : Fin 1024) (k : Fin 512) :
    EV X Wt d j (ix2 r k) = Ideal.exp (lg x W r (512 * (32 * cy d + j) + k.val)) := by
  unfold EV lg
  rw [blockOf_at, hX]
  exact congrArg Ideal.exp (Finset.sum_congr rfl fun q _ => by rw [wch_at W Wt hW d j hj])

include hX hW in
theorem OV_at (d : Dev nD) (g : ℕ) (hg : g < 64) (r : Fin 1024) (k : Fin 512) :
    OV X Wt d g (ix2 r k) = Ideal.exp (lg x W r (512 * g + k.val)) := by
  have hy := cy_lt d
  have h0 : g % 32 < 32 := Nat.mod_lt _ (by decide)
  unfold OV
  split_ifs with h1 h2
  · rw [EV_at x W X Wt hX hW d _ h0]
    exact congrArg (fun n => Ideal.exp (lg x W r n)) (by omega)
  · rw [EV_at x W X Wt hX hW _ _ h0, cy_py]
    exact congrArg (fun n => Ideal.exp (lg x W r n)) (by omega)
  · rw [EV_at x W X Wt hX hW _ _ h0, cy_py, cy_px]
    exact congrArg (fun n => Ideal.exp (lg x W r n)) (by omega)

/-- One step of the row sums. -/
theorem pay3_at (e : FVec Ideal S1024x512 .f32) (s : Vec Ideal S1024x1 .f32) (r : Fin 1024) :
    k0_pay3 e s (ix2 r 0) = s (ix2 r 0) + ∑ k : Fin 512, e (ix2 r k) := by
  unfold k0_pay3
  rw [shapeCast_apply _ shapeCasts_S1024x1_S1024x1 (ix2 r 0) (ix2 r 0) rfl, addf_apply,
    shapeCast_apply _ shapeCasts_S1024_S1024x1 (ix2 r 0) (ix1 r) (by rw [Shape.rowMajor_val_one, Shape.rowMajor_val_two]; show r.val = r.val * 1 + 0; omega)]
  refine congrArg (s (ix2 r 0) + ·) ((Ideal.multiReduction_add_single e _ reduces_S1024x512_S1024 (.inl rfl) rfl (ix1 r)).trans
    (Finset.sum_congr rfl fun k _ => congrArg e (Layout.idx_ext fun b => ?_)))
  fin_cases b <;> rfl

/-- The columns' sum over one chunk. -/
def chunkSum (r : Fin 1024) (g : ℕ) : EReal := ∑ k ∈ Finset.range 512, Ideal.exp (lg x W r (512 * g + k))

include hX hW in
theorem SV_at (d : Dev nD) (n : ℕ) (r : Fin 1024) :
    SV X Wt d n (ix2 r 0) = ∑ t ∈ Finset.range n, chunkSum x W r (32 * cy d + (t + 16 * cx d) % 32) := by
  induction n with
  | zero =>
    show Ideal.ofBits .f32 0x00000000#32 = _
    rw [Ideal.ofBits_zero_f32, Finset.range_zero, Finset.sum_empty]
  | succ n ih =>
    rw [Finset.sum_range_succ, ← ih]
    show k0_pay3 (EV X Wt d (jof d n)) (SV X Wt d n) (ix2 r 0) = _
    rw [pay3_at]
    refine congrArg (SV X Wt d n (ix2 r 0) + ·) ?_
    unfold chunkSum
    rw [Finset.sum_range]
    exact Finset.sum_congr rfl fun k _ => EV_at x W X Wt hX hW d (jof d n) (Nat.mod_lt _ (by decide)) r k

/-- The sum of the exponentials of a row's logits. -/
def rowSum (r : Fin 1024) : EReal := ∑ n : Fin 32768, Ideal.exp (lg x W r n.val)

theorem chunks_rowSum (r : Fin 1024) : ∑ g ∈ Finset.range 64, chunkSum x W r g = rowSum x W r := by
  unfold rowSum chunkSum
  rw [← Softmax.sum_chunks (fun n => Ideal.exp (lg x W r n)) 512 64]
  exact Finset.sum_range (n := 32768) fun n => Ideal.exp (lg x W r n)

include hX hW in
theorem IV_at (d : Dev nD) (r : Fin 1024) : IV X Wt d (ix2 r 0) = Ideal.div 1 (rowSum x W r) := by
  unfold IV k0_pay31
  rw [shapeCast_apply _ shapeCasts_S1024x1_S1024x1 (ix2 r 0) (ix2 r 0) rfl, divf_apply, addf_apply,
    SV_at x W X Wt hX hW, SV_at x W X Wt hX hW, Softmax.sum_turn (fun g => chunkSum x W r (32 * cy d + g)) (cx d) (cx_lt d),
    Softmax.sum_turn (fun g => chunkSum x W r (32 * cy (py d) + g)) (cx (py d)) (cx_lt (py d)), cy_py,
    Softmax.sum_halves (chunkSum x W r) (cy d) (cy_lt d), chunks_rowSum]
  exact congrArg (Ideal.div · (rowSum x W r)) Ideal.ofBits_one_f32

include hX hW in
/-- The result, element by element. -/
theorem OUT_value (c : Dev nD) (r : Fin 1024) (n : Fin 32768) :
    OUT c X Wt (ix2 r n) = Ideal.exp (lg x W r n.val) * Ideal.div 1 (rowSum x W r) := by
  have h1 : n.val < 32768 := n.isLt
  have hm : n.val % 512 < 512 := Nat.mod_lt _ (by decide)
  have hi : oIx (ix2 r n) = ix2 r ⟨n.val % 512, hm⟩ := Layout.idx_ext fun b => by fin_cases b <;> rfl
  have hb : broadcastTo S1024x512 (IV X Wt c) broadcasts_S1024x1_S1024x512 (ix2 r ⟨n.val % 512, hm⟩) = IV X Wt c (ix2 r 0) :=
    broadcastTo_apply _ _ _ (ix2 r 0) fun b => by fin_cases b <;> rfl
  show NV X Wt c (n.val / 512) (oIx (ix2 r n)) = _
  rw [hi]
  show OV X Wt c (n.val / 512) (ix2 r ⟨n.val % 512, hm⟩) * broadcastTo S1024x512 (IV X Wt c) broadcasts_S1024x1_S1024x512 (ix2 r ⟨n.val % 512, hm⟩) = _
  rw [hb, OV_at x W X Wt hX hW c _ (by omega), IV_at x W X Wt hX hW]
  have hn : 512 * (n.val / 512) + n.val % 512 = n.val := by omega
  rw [hn]

end

end Cert.Proof.Run

end
-- ==== Proof.Reference.lean ====
/-
# The reference's result, and that it is the kernel's

The reference's maximum of a row is a real where the logits are, so its result at every element is the exponential of the
logit times the reciprocal of the row's sum, which is what the kernel leaves on every device.
-/
module

public import proofs.«01_k».proof.Proof.Logits
public import proofs.«01_k».proof.Proof.Gen.ReferenceIdeal
public import Idealize.ShloMosaic.PureOps.Reduce

@[expose] public section

noncomputable section

namespace Cert.Proof.Run

open Cert.ReferenceIdeal Cert.ReferenceIdeal.Gen
open Idealize.ShloMosaic Idealize.ShloMosaic.TcCoe Idealize.ShloMosaic.ValueIdx
open scoped BigOperators

variable (x : Vec Ideal S1024x2048 .f32) (W : Vec Ideal S2048x32768 .f32)

/-- The logits of the whole array. -/
def logits : FVec Ideal S1024x32768 .f32 := Host.dotGeneral (φ₁ := .f32) (φ₂ := .f32) dot_S1024x2048_S2048x32768_S1024x32768_1_0_0_1_n_n none x W

theorem logits_at (r : Fin 1024) (n : Fin 32768) : logits x W (ix2 r n) = lg x W r n.val := by
  show Ideal.matmul (DotDims.plain 1024 2048 32768) x W 0 (ix2 r n) = _
  refine (Ideal.matmul_plain_apply (φ₁ := .f32) (φ₂ := .f32) none x W 0 r n).trans ?_
  show (0 : EReal) + _ = _
  rw [zero_add]
  refine Finset.sum_congr rfl fun q _ => congrArg (fun c => x (ix2 r q) * W (ix2 q c)) (Fin.ext ?_)
  exact (Nat.mod_eq_of_lt n.isLt).symm

/-- A value per row, laid over the row's columns. -/
abbrev spread (v : FVec Ideal S1024 .f32) : FVec Ideal S1024x32768 .f32 :=
  broadcastInDim S1024x32768 ![0, 1] bcast_S1024x1_S1024x32768_0_1 (broadcastInDim S1024x1 ![0] bcast_S1024_S1024x1_0 v)

theorem spread_at (v : FVec Ideal S1024 .f32) (r : Fin 1024) (n : Fin 32768) : spread v (ix2 r n) = v (ix1 r) := by
  refine (broadcastInDim_apply ![0, 1] bcast_S1024x1_S1024x32768_0_1 _ (ix2 r n) (ix2 r 0) fun b => ?_).trans
    (broadcastInDim_apply ![0] bcast_S1024_S1024x1_0 v (ix2 r 0) (ix1 r) fun b => ?_)
  · fin_cases b <;> rfl
  · fin_cases b; rfl

/-- The maximum of each row. -/
abbrev rowMax (l : FVec Ideal S1024x32768 .f32) : FVec Ideal S1024 .f32 :=
  Host.reduce FloatOps.maximumf l (constant S_ .f32 0xFF800000#32) reducesTo_S1024x32768_S1024_d1 h_S_

theorem reduces_rows : S1024x32768.Reduces [1] S1024 := by decide

theorem lift_rows (r : Fin 1024) (n : Fin 32768) : reduces_rows.lift (ix1 r) n = ix2 r n :=
  Layout.idx_ext fun b => by fin_cases b <;> rfl

theorem rowMax_real (l : FVec Ideal S1024x32768 .f32) (hl : ∀ i, ∃ q : ℝ, l i = (q : EReal)) (r : Fin 1024) :
    ∃ q : ℝ, rowMax l (ix1 r) = (q : EReal) := by
  have e := Host.reduce_eq_fold_single (max : EReal → EReal → EReal) l (constant (F := Ideal) S_ .f32 0xFF800000#32)
    reducesTo_S1024x32768_S1024_d1 reduces_rows h_S_ (ix1 r)
  have hb : constant (F := Ideal) S_ .f32 0xFF800000#32 (Shape.Idx.first h_S_) = (⊥ : EReal) := by
    show Ideal.ofBits .f32 0xFF800000#32 = ⊥
    simp [Ideal.ofBits, Ideal.ieee]
  rw [hb] at e
  obtain ⟨q, hq⟩ := Softmax.real_max Finset.univ ⟨(⟨0, by decide⟩ : Fin 32768), Finset.mem_univ _⟩ (l ∘ reduces_rows.lift (ix1 r)) fun n => hl _
  exact ⟨q, e.trans hq⟩

/-- The reference's result. -/
def refOut : FVec Ideal S1024x32768 .f32 :=
  Host.divf (Host.exp (subf (logits x W) (spread (rowMax (logits x W)))))
    (spread (Host.reduceAdd (Host.exp (subf (logits x W) (spread (rowMax (logits x W))))) (constant S_ .f32 0x00000000#32)
      reducesTo_S1024x32768_S1024_d1 h_S_))

variable (hx : ∀ i, ∃ q : ℝ, x i = (q : EReal)) (hW : ∀ i, ∃ q : ℝ, W i = (q : EReal))

include hx hW in
theorem lg_real (r : Fin 1024) (n : ℕ) : ∃ q : ℝ, lg x W r n = (q : EReal) :=
  Softmax.real_dot _ _ (fun q => hx _) fun q => hW _

include hx hW in
theorem refOut_value (r : Fin 1024) (n : Fin 32768) :
    refOut x W (ix2 r n) = Ideal.exp (lg x W r n.val) * Ideal.div 1 (rowSum x W r) := by
  have hM := rowMax_real (logits x W) (fun i => by
    rw [eq_ix2 i]; exact ⟨_, (logits_at x W (i 0) (i 1)).trans (lg_real x W hx hW (i 0) (i 1).val).choose_spec⟩) r
  generalize hMM : rowMax (logits x W) (ix1 r) = M at hM
  have he : ∀ k : Fin 32768, Host.exp (subf (logits x W) (spread (rowMax (logits x W)))) (ix2 r k) = Ideal.exp (lg x W r k.val - M) := fun k => by
    show Ideal.exp (logits x W (ix2 r k) - spread (rowMax (logits x W)) (ix2 r k)) = _
    rw [logits_at, spread_at, hMM]
  haveI : Nonempty (Fin 32768) := ⟨⟨0, by decide⟩⟩
  unfold rowSum
  rw [Softmax.softmax_shift (fun k : Fin 32768 => lg x W r k.val) (fun k => lg_real x W hx hW r k.val) M hM n]
  unfold refOut
  refine (hostDivf_apply _ _ _).trans ?_
  rw [he n, spread_at]
  refine congrArg (Ideal.div _) ?_
  have hs := Ideal.hostReduceAdd_single reducesTo_S1024x32768_S1024_d1 reduces_rows
    (Host.exp (subf (logits x W) (spread (rowMax (logits x W))))) (Ideal.ofBits .f32 0x00000000#32) (ix1 r)
  rw [hostReduceAdd_apply]
  refine hs.trans ?_
  rw [Ideal.ofBits_zero_f32]
  have hk : ∀ k : Fin 32768, Host.exp (subf (logits x W) (spread (rowMax (logits x W)))) (reduces_rows.lift (ix1 r) k)
      = Ideal.exp (lg x W r k.val - M) := fun k => by rw [lift_rows]; exact he k
  exact congrArg (fun s : EReal => 0 + s) (Finset.sum_congr (s₁ := (Finset.univ : Finset (Fin 32768))) rfl fun k _ => hk k)

include hx hW in
/-- The kernel's result on any device is the reference's. -/
theorem OUT_eq (X : Dev Cert.KernelIdeal.nD → Vec Ideal Cert.KernelIdeal.S1024x2048 .f32)
    (Wt : Dev Cert.KernelIdeal.nD → Vec Ideal Cert.KernelIdeal.S2048x16384 .f32)
    (hX : ∀ d, X d = x) (hWt : ∀ d, Wt d = half d W) (c : Dev Cert.KernelIdeal.nD) : OUT c X Wt = refOut x W := by
  funext i
  have e : i = ix2 (i 0) (i 1) := eq_ix2 i
  rw [e]
  exact (OUT_value x W X Wt hX hWt c (i 0) (i 1)).trans (refOut_value x W hx hW (i 0) (i 1)).symm

end Cert.Proof.Run

end
-- ==== Proof.Result.lean ====
/-
# The value claim

The rows and weights are real by the precondition, every device starts with the same rows and its half of the weights,
and so every device ends with the reference's result.
-/
module

public import proofs.«01_k».proof.Defs
public import proofs.«01_k».proof.Proof.Machine
public import proofs.«01_k».proof.Proof.Reference
public import proofs.«01_k».proof.Proof.Gen.Pre_finite_KernelIdeal
public import proofs.«01_k».proof.Proof.Gen.ReferenceIdeal.Run

@[expose] public section

noncomputable section

namespace Cert.Proof.Run

open Idealize.ShloMosaic Idealize.ShloMosaic.TcCoe Idealize.ShloMosaic.ValueIdx Idealize.SL.Sem

/-- What the comparison with infinity says of a value. -/
theorem real_of_word {a : EReal} (h : Ideal.cmp .olt (max a (-a)) (Ideal.ofBits .f32 0x7F800000#32) = 1#1) :
    ∃ q : ℝ, a = (q : EReal) := by
  have ht : Ideal.ofBits .f32 0x7F800000#32 = ⊤ := by simp [Ideal.ofBits, Ideal.ieee]
  rw [ht] at h
  refine Softmax.real_of_abs_lt ?_
  by_contra hn
  have h0 : Ideal.cmp .olt (max a (-a)) ⊤ = 0#1 := by
    show BitVec.ofBool (decide (max a (-a) < ⊤)) = 0#1
    rw [decide_eq_false hn]; rfl
  rw [h0] at h
  exact absurd h (by decide)

section
open Cert.KernelIdeal
variable (m : (ℓ : Loc nD τ sig) → Buf (Elt Ideal) ℓ)

/-- A device's stage holds its whole left array. -/
theorem Xm_eq (d : Dev nD) : Xm m d = m ((d.tc : Thread nD τ).loc main_arg0) := by
  unfold Xm
  refine funext fun i => congrArg (m ((d.tc : Thread nD τ).loc main_arg0)) (Layout.idx_ext fun b => ?_)
  fin_cases b
  · show 0 + 1 * (i 0).val = (i 0).val; omega
  · show 0 + 1 * (i 1).val = (i 1).val; omega

variable (hm : Cert.Pre_KernelIdeal_finite_KernelIdeal (hPre_finite_KernelIdeal := Cert.Pre_finite_KernelIdeal.Gen.facts) m)

include hm in
theorem real_rows (c : Dev nD) (i : S1024x2048.Idx) : ∃ q : ℝ, m ((c.tc : Thread nD τ).loc main_arg0) i = (q : EReal) :=
  real_of_word (congrFun (hm c).1 i)

include hm in
theorem real_half (c : Dev nD) (i : S2048x16384.Idx) : ∃ q : ℝ, m ((c.tc : Thread nD τ).loc main_arg1) i = (q : EReal) :=
  real_of_word (congrFun (hm c).2 i)

include hm in
/-- The whole weights are real, each column being on some device. -/
theorem real_weights_at (W : (⟨2, ![2048, 32768]⟩ : Shape).Idx → EReal)
    (hW : ∀ c : Dev nD, m ((c.tc : Thread nD τ).loc main_arg1) = half c W) (k : Fin 2048) (n : Fin 32768) :
    ∃ q : ℝ, W (ix2 k n) = (q : EReal) := by
  have h1 : n.val < 32768 := n.isLt
  let c : Dev nD := ⟨4 * (n.val / 16384), by show _ < 16; omega⟩
  have hc : cy c = n.val / 16384 := by show 4 * (n.val / 16384) / 4 % 2 = _; omega
  let j : Fin 16384 := ⟨n.val % 16384, Nat.mod_lt _ (by decide)⟩
  have hn : col (16384 * cy c + j.val) = n := Fin.ext (by
    rw [hc]; show (16384 * (n.val / 16384) + n.val % 16384) % 32768 = n.val; omega)
  obtain ⟨q, hq⟩ := real_half m hm c (ix2 k j)
  rw [hW] at hq
  exact ⟨q, ((half_at c W k j).trans (by rw [hn])).symm.trans hq⟩

include hm in
theorem real_weights (W : (⟨2, ![2048, 32768]⟩ : Shape).Idx → EReal)
    (hW : ∀ c : Dev nD, m ((c.tc : Thread nD τ).loc main_arg1) = half c W) (i : (⟨2, ![2048, 32768]⟩ : Shape).Idx) :
    ∃ q : ℝ, W i = (q : EReal) := by
  rw [eq_ix2 i]; exact real_weights_at m hm W hW (i 0) (i 1)

end

theorem value : Cert.algebraic_KernelIdeal_ReferenceIdeal_pre_finite_KernelIdeal (hKernelIdeal := Cert.KernelIdeal.Gen.facts)
    (hReferenceIdeal := Cert.ReferenceIdeal.Gen.facts) (hPre_finite_KernelIdeal := Cert.Pre_finite_KernelIdeal.Gen.facts) := by
  intro m g m' g' hm hio
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun r h c => ⟨(h.1 c).2.2.trans ?_, (h.1 c).1, (h.1 c).2.1⟩) (run_main (F := Ideal) m g)
    refine OUT_eq _ _ (fun i => ?_) (real_weights m hm _ fun d => (hio d).2) _ _ (fun d => (Xm_eq m d).trans (hio d).1) (fun d => (hio d).2) c
    rw [← (hio 0).1]
    exact real_rows m hm 0 i
  · exact (θ_run Cert.ReferenceIdeal.defs _ _).mono (fun r h => ⟨(h 0).1, (h 0).2⟩) (Cert.ReferenceIdeal.Value.run (F := Ideal) m' g')

end Cert.Proof.Run

end
-- ==== Proof.lean ====
/-
The proof of `Cert.Claim`: the frames, from the run of the machine; `preserves`; and the result against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_KernelIdeal
public import proofs.«01_k».proof.Proof.Gen.Pre_finite_ReferenceIdeal
public import proofs.«01_k».proof.Proof.Frames
public import proofs.«01_k».proof.Proof.Result

@[expose] public section

noncomputable section

theorem Cert.Proof.claim : Cert.Claim :=
  ⟨Cert.Kernel.Gen.facts, Cert.KernelIdeal.Gen.facts, Cert.ReferenceIdeal.Gen.facts,
    Cert.Pre_finite_KernelIdeal.Gen.facts, Cert.Pre_finite_ReferenceIdeal.Gen.facts,
    Cert.Proof.Run.frame_kernel,
    Cert.Proof.Run.frame_ideal, fun m g _ => Cert.Proof.Run.frame_ideal m g trivial,
    Cert.Proof.Run.frame_reference, fun m g _ => Cert.Proof.Run.frame_reference m g trivial,
    trivial, Cert.Proof.Run.value⟩

end
